-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "qk" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_v59) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v41_0)) (v1 : (c : Dev Cert.Kernel4Ideal.nD) → Buf (Elt Ideal) ((c.tc : Thread Cert.Kernel4Ideal.nD Cert.Kernel4Ideal.τ).loc Cert.Kernel4Ideal.main_v41_1)) (v2 : (c : Dev Cert.Kernel4Ideal.nD) → Buf (Elt Ideal) ((c.tc : Thread Cert.Kernel4Ideal.nD Cert.Kernel4Ideal.τ).loc Cert.Kernel4Ideal.main_v41_2)) (v3 : (c : Dev Cert.Kernel4Ideal.nD) → Buf (Elt Ideal) ((c.tc : Thread Cert.Kernel4Ideal.nD Cert.Kernel4Ideal.τ).loc Cert.Kernel4Ideal.main_v41_3)) (v4 : (c : Dev Cert.Kernel4Ideal.nD) → Buf (Elt Ideal) ((c.tc : Thread Cert.Kernel4Ideal.nD Cert.Kernel4Ideal.τ).loc Cert.Kernel4Ideal.main_v41_4)) (v5 : (c : Dev Cert.Kernel4Ideal.nD) → Buf (Elt Ideal) ((c.tc : Thread Cert.Kernel4Ideal.nD Cert.Kernel4Ideal.τ).loc Cert.Kernel4Ideal.main_v41_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41_0) = v0 c
          ∧ r.2.mem ((c.tc : Thread Cert.Kernel4Ideal.nD Cert.Kernel4Ideal.τ).loc Cert.Kernel4Ideal.main_v41_1) = v1 c
          ∧ r.2.mem ((c.tc : Thread Cert.Kernel4Ideal.nD Cert.Kernel4Ideal.τ).loc Cert.Kernel4Ideal.main_v41_2) = v2 c
          ∧ r.2.mem ((c.tc : Thread Cert.Kernel4Ideal.nD Cert.Kernel4Ideal.τ).loc Cert.Kernel4Ideal.main_v41_3) = v3 c
          ∧ r.2.mem ((c.tc : Thread Cert.Kernel4Ideal.nD Cert.Kernel4Ideal.τ).loc Cert.Kernel4Ideal.main_v41_4) = v4 c
          ∧ r.2.mem ((c.tc : Thread Cert.Kernel4Ideal.nD Cert.Kernel4Ideal.τ).loc Cert.Kernel4Ideal.main_v41_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v78) = v2 c
          ∧ r.2.mem ((c.tc : Thread Cert.Reference4Ideal.nD Cert.Reference4Ideal.τ).loc Cert.Reference4Ideal.main_v81) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_v89) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  IdealRules.named_const.Statement Cert.Kernel5Ideal.κ "qscale" .f32 0x3DD53B95#32 ((((Real.sqrt 192) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v31_0)) (v1 : (c : Dev Cert.Kernel5Ideal.nD) → Buf (Elt Ideal) ((c.tc : Thread Cert.Kernel5Ideal.nD Cert.Kernel5Ideal.τ).loc Cert.Kernel5Ideal.main_v31_1)) (v2 : (c : Dev Cert.Kernel5Ideal.nD) → Buf (Elt Ideal) ((c.tc : Thread Cert.Kernel5Ideal.nD Cert.Kernel5Ideal.τ).loc Cert.Kernel5Ideal.main_v31_2)) (v3 : (c : Dev Cert.Kernel5Ideal.nD) → Buf (Elt Ideal) ((c.tc : Thread Cert.Kernel5Ideal.nD Cert.Kernel5Ideal.τ).loc Cert.Kernel5Ideal.main_v31_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_0) = v0 c
          ∧ r.2.mem ((c.tc : Thread Cert.Kernel5Ideal.nD Cert.Kernel5Ideal.τ).loc Cert.Kernel5Ideal.main_v31_1) = v1 c
          ∧ r.2.mem ((c.tc : Thread Cert.Kernel5Ideal.nD Cert.Kernel5Ideal.τ).loc Cert.Kernel5Ideal.main_v31_2) = v2 c
          ∧ r.2.mem ((c.tc : Thread Cert.Kernel5Ideal.nD Cert.Kernel5Ideal.τ).loc Cert.Kernel5Ideal.main_v31_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v87) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_v97) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S_ : Shape := ⟨0, ![]⟩

class Facts : Prop where
  bcast_S_S16x2048x8x128 : S_.BroadcastsInDim S16x2048x8x128 (![] : Fin 0 → Fin S16x2048x8x128.rank)
  reducesTo_S16x2048x8x128_S_d0_1_2_3 : S16x2048x8x128.ReducesTo [0, 1, 2, 3] S_
  h_S_ : 0 < S_.numel
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  bcast_S_S16x2048x64 : S_.BroadcastsInDim S16x2048x64 (![] : Fin 0 → Fin S16x2048x64.rank)
  reducesTo_S16x2048x64_S_d0_1_2 : S16x2048x64.ReducesTo [0, 1, 2] S_

variable [Facts]

def fn_part1 {F : FTy → Type} [FloatOps F] (main_v13 : IVec S_ 1) (main_v16 : IVec S16x2048x64 1) : IVec S_ 1 :=
  let main_c_5 : IVec S_ 1 := constantI S_ 1 1#1
  let main_v17 : IVec S_ 1 := (fun x v => Host.reduce IntOp.andi x v reducesTo_S16x2048x64_S_d0_1_2 h_S_) main_v16 main_c_5
  let main_v18 : IVec S_ 1 := andi main_v13 main_v17
  main_v18

def fn {F : FTy → Type} [FloatOps F] (main_arg0 : FVec F S16x2048x8x128 .f32) (main_arg1 : FVec F S16x2048x8x64 .f32) (main_arg2 : FVec F S16x2048x8x128 .f32) (main_arg3 : FVec F S16x2048x64 .f32) (main_arg4 : FVec F S16x2048x8x128 .f32) : IVec S_ 1 :=
  let main_v0 : FVec F S16x2048x8x128 .f32 := Host.absf main_arg0
  let main_cst : FVec F S_ .f32 := constant S_ .f32 0x7F800000#32
  let main_v1 : FVec F S16x2048x8x128 .f32 := broadcastInDim S16x2048x8x128 ![] bcast_S_S16x2048x8x128 main_cst
  let main_v2 : IVec S16x2048x8x128 1 := cmpf .olt main_v0 main_v1
  let main_c : IVec S_ 1 := constantI S_ 1 1#1
  let main_v3 : IVec S_ 1 := (fun x v => Host.reduce IntOp.andi x v reducesTo_S16x2048x8x128_S_d0_1_2_3 h_S_) main_v2 main_c
  let main_v4 : FVec F S16x2048x8x64 .f32 := Host.absf main_arg1
  let main_cst_0 : FVec F S_ .f32 := constant S_ .f32 0x7F800000#32
  let main_v5 : FVec F S16x2048x8x64 .f32 := broadcastInDim S16x2048x8x64 ![] bcast_S_S16x2048x8x64 main_cst_0
  let main_v6 : IVec S16x2048x8x64 1 := cmpf .olt main_v4 main_v5
  let main_c_1 : IVec S_ 1 := constantI S_ 1 1#1
  let main_v7 : IVec S_ 1 := (fun x v => Host.reduce IntOp.andi x v reducesTo_S16x2048x8x64_S_d0_1_2_3 h_S_) main_v6 main_c_1
  let main_v8 : IVec S_ 1 := andi main_v3 main_v7
  let main_v9 : FVec F S16x2048x8x128 .f32 := Host.absf main_arg2
  let main_cst_2 : FVec F S_ .f32 := constant S_ .f32 0x7F800000#32
  let main_v10 : FVec F S16x2048x8x128 .f32 := broadcastInDim S16x2048x8x128 ![] bcast_S_S16x2048x8x128 main_cst_2
  let main_v11 : IVec S16x2048x8x128 1 := cmpf .olt main_v9 main_v10
  let main_c_3 : IVec S_ 1 := constantI S_ 1 1#1
  let main_v12 : IVec S_ 1 := (fun x v => Host.reduce IntOp.andi x v reducesTo_S16x2048x8x128_S_d0_1_2_3 h_S_) main_v11 main_c_3
  let main_v13 : IVec S_ 1 := andi main_v8 main_v12
  let main_v14 : FVec F S16x2048x64 .f32 := Host.absf main_arg3
  let main_cst_4 : FVec F S_ .f32 := constant S_ .f32 0x7F800000#32
  let main_v15 : FVec F S16x2048x64 .f32 := broadcastInDim S16x2048x64 ![] bcast_S_S16x2048x64 main_cst_4
  let main_v16 : IVec S16x2048x64 1 := cmpf .olt main_v14 main_v15
  fn_part1 (F := F) main_v13 main_v16
-- ==== Kernel.lean ====
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S_ : Shape := ⟨0, ![]⟩
abbrev S16x2048x4x1x128 : Shape := ⟨5, ![16, 2048, 4, 1, 128]⟩
abbrev S16x2048x4x2x128 : Shape := ⟨5, ![16, 2048, 4, 2, 128]⟩
abbrev S16x2048x8x256 : Shape := ⟨4, ![16, 2048, 8, 256]⟩
abbrev S16x2048x2048 : Shape := ⟨3, ![16, 2048, 2048]⟩
abbrev S16x2048x1024 : Shape := ⟨3, ![16, 2048, 1024]⟩
abbrev S16x2048x128 : Shape := ⟨3, ![16, 2048, 128]⟩
abbrev S1x2048x512 : Shape := ⟨3, ![1, 2048, 512]⟩
abbrev S1x2048x256 : Shape := ⟨3, ![1, 2048, 256]⟩
abbrev S1x2048x128 : Shape := ⟨3, ![1, 2048, 128]⟩
abbrev S256x256 : Shape := ⟨2, ![256, 256]⟩
abbrev S1x256x128 : Shape := ⟨3, ![1, 256, 128]⟩
abbrev S256x128 : Shape := ⟨2, ![256, 128]⟩
abbrev S2048x256 : Shape := ⟨2, ![2048, 256]⟩
abbrev S256 : Shape := ⟨1, ![256]⟩
abbrev S256x1 : Shape := ⟨2, ![256, 1]⟩
abbrev S2048x128 : Shape := ⟨2, ![2048, 128]⟩
abbrev S1x1792x256 : Shape := ⟨3, ![1, 1792, 256]⟩
abbrev S1792x256 : Shape := ⟨2, ![1792, 256]⟩
abbrev S1792x128 : Shape := ⟨2, ![1792, 128]⟩
abbrev S1x1536x256 : Shape := ⟨3, ![1, 1536, 256]⟩
abbrev S1536x256 : Shape := ⟨2, ![1536, 256]⟩
abbrev S1536x128 : Shape := ⟨2, ![1536, 128]⟩
abbrev S1x1280x256 : Shape := ⟨3, ![1, 1280, 256]⟩
abbrev S1280x256 : Shape := ⟨2, ![1280, 256]⟩
abbrev S1280x128 : Shape := ⟨2, ![1280, 128]⟩
abbrev S1x1024x256 : Shape := ⟨3, ![1, 1024, 256]⟩
abbrev S1024x256 : Shape := ⟨2, ![1024, 256]⟩
abbrev S1024x128 : Shape := ⟨2, ![1024, 128]⟩
abbrev S1x768x256 : Shape := ⟨3, ![1, 768, 256]⟩
abbrev S768x256 : Shape := ⟨2, ![768, 256]⟩
abbrev S768x128 : Shape := ⟨2, ![768, 128]⟩
abbrev S1x512x256 : Shape := ⟨3, ![1, 512, 256]⟩
abbrev S512x256 : Shape := ⟨2, ![512, 256]⟩
abbrev S512x128 : Shape := ⟨2, ![512, 128]⟩
abbrev S1x256x256 : Shape := ⟨3, ![1, 256, 256]⟩

abbrev nBuf : Space → Nat
  | .hbm => 55
  | .vmem => 10
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x64, .f32⟩
  | .hbm, ⟨2, _⟩ => ⟨S16x2048x8x128, .f32⟩
  | .hbm, ⟨3, _⟩ => ⟨S16x2048x64, .f32⟩
  | .hbm, ⟨4, _⟩ => ⟨S16x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x2048x8x128, .f32⟩
  | .hbm, ⟨13, _⟩ => ⟨S16x2048x8x128, .f32⟩
  | .hbm, ⟨14, _⟩ => ⟨S16x2048x8x128, .bf16⟩
  | .hbm, ⟨15, _⟩ => ⟨S16x2048x4x1x128, .f32⟩
  | .hbm, ⟨16, _⟩ => ⟨S16x2048x4x2x128, .f32⟩
  | .hbm, ⟨17, _⟩ => ⟨S16x2048x4x2x128, .i32⟩
  | .hbm, ⟨18, _⟩ => ⟨S16x2048x4x2x128, .i32⟩
  | .hbm, ⟨19, _⟩ => ⟨S_, .i32⟩
  | .hbm, ⟨20, _⟩ => ⟨S_, .i32⟩
  | .hbm, ⟨21, _⟩ => ⟨S16x2048x4x2x128, .i32⟩
  | .hbm, ⟨22, _⟩ => ⟨S16x2048x4x2x128, .i32⟩
  | .hbm, ⟨23, _⟩ => ⟨S16x2048x4x2x128, .i32⟩
  | .hbm, ⟨24, _⟩ => ⟨S_, .i32⟩
  | .hbm, ⟨25, _⟩ => ⟨S16x2048x4x2x128, .i32⟩
  | .hbm, ⟨26, _⟩ => ⟨S16x2048x4x2x128, .i1⟩
  | .hbm, ⟨27, _⟩ => ⟨S16x2048x4x2x128, .i32⟩
  | .hbm, ⟨28, _⟩ => ⟨S16x2048x4x2x128, .i32⟩
  | .hbm, ⟨29, _⟩ => ⟨S_, .i32⟩
  | .hbm, ⟨30, _⟩ => ⟨S16x2048x4x2x128, .i32⟩
  | .hbm, ⟨31, _⟩ => ⟨S16x2048x4x2x128, .i1⟩
  | .hbm, ⟨32, _⟩ => ⟨S16x2048x4x2x128, .i1⟩
  | .hbm, ⟨33, _⟩ => ⟨S_, .i32⟩
  | .hbm, ⟨34, _⟩ => ⟨S16x2048x4x2x128, .i32⟩
  | .hbm, ⟨35, _⟩ => ⟨S16x2048x4x2x128, .i32⟩
  | .hbm, ⟨36, _⟩ => ⟨S16x2048x4x2x128, .i32⟩
  | .hbm, ⟨37, _⟩ => ⟨S16x2048x4x2x128, .i1⟩
  | .hbm, ⟨38, _⟩ => ⟨S_, .f32⟩
  | .hbm, ⟨39, _⟩ => ⟨S_, .f32⟩
  | .hbm, ⟨40, _⟩ => ⟨S16x2048x4x2x128, .f32⟩
  | .hbm, ⟨41, _⟩ => ⟨S16x2048x4x2x128, .f32⟩
  | .hbm, ⟨42, _⟩ => ⟨S16x2048x4x2x128, .f32⟩
  | .hbm, ⟨43, _⟩ => ⟨S16x2048x4x2x128, .f32⟩
  | .hbm, ⟨44, _⟩ => ⟨S16x2048x4x2x128, .bf16⟩
  | .hbm, ⟨45, _⟩ => ⟨S16x2048x8x128, .bf16⟩
  | .hbm, ⟨46, _⟩ => ⟨S16x2048x8x256, .bf16⟩
  | .hbm, ⟨47, _⟩ => ⟨S16x2048x64, .bf16⟩
  | .hbm, ⟨48, _⟩ => ⟨S16x2048x2048, .bf16⟩
  | .hbm, ⟨49, _⟩ => ⟨S16x2048x8x128, .bf16⟩
  | .hbm, ⟨50, _⟩ => ⟨S16x2048x1024, .bf16⟩
  | .hbm, ⟨51, _⟩ => ⟨S16x2048x128, .bf16⟩
  | .hbm, ⟨52, _⟩ => ⟨S16x2048x8x128, .bf16⟩
  | .hbm, ⟨53, _⟩ => ⟨S16x2048x1024, .bf16⟩
  | .hbm, ⟨54, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | _, _ => ⟨S16x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S_ : Shape := ⟨0, ![]⟩
abbrev S2048 : Shape := ⟨1, ![2048]⟩
abbrev S16x8x2048x2048 : Shape := ⟨4, ![16, 8, 2048, 2048]⟩
abbrev S16x2048x2048x8 : Shape := ⟨4, ![16, 2048, 2048, 8]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S16x2048x1024 : Shape := ⟨3, ![16, 2048, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x64, .f32⟩
  | .hbm, ⟨2, _⟩ => ⟨S16x2048x8x128, .f32⟩
  | .hbm, ⟨3, _⟩ => ⟨S16x2048x64, .f32⟩
  | .hbm, ⟨4, _⟩ => ⟨S16x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S16x8x2048x2048, .f32⟩
  | .hbm, ⟨29, _⟩ => ⟨S16x2048x2048x8, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S1x1x2048x2048, .i1⟩
  | .hbm, ⟨40, _⟩ => ⟨S_, .f32⟩
  | .hbm, ⟨41, _⟩ => ⟨S_, .f32⟩
  | .hbm, ⟨42, _⟩ => ⟨S16x8x2048x2048, .i1⟩
  | .hbm, ⟨43, _⟩ => ⟨S16x8x2048x2048, .f32⟩
  | .hbm, ⟨44, _⟩ => ⟨S16x8x2048x2048, .f32⟩
  | .hbm, ⟨45, _⟩ => ⟨S_, .f32⟩
  | .hbm, ⟨46, _⟩ => ⟨S16x8x2048, .f32⟩
  | .hbm, ⟨47, _⟩ => ⟨S_, .f32⟩
  | .hbm, ⟨48, _⟩ => ⟨S16x8x2048, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S_, .f32⟩
  | .hbm, ⟨55, _⟩ => ⟨S16x8x2048, .f32⟩
  | .hbm, ⟨56, _⟩ => ⟨S16x8x2048x1, .f32⟩
  | .hbm, ⟨57, _⟩ => ⟨S16x8x2048x2048, .f32⟩
  | .hbm, ⟨58, _⟩ => ⟨S16x8x2048x2048, .f32⟩
  | .hbm, ⟨59, _⟩ => ⟨S16x8x128x2048, .f32⟩
  | .hbm, ⟨60, _⟩ => ⟨S16x2048x8x128, .f32⟩
  | .hbm, ⟨61, _⟩ => ⟨S16x2048x1024, .f32⟩
  | .hbm, ⟨62, _⟩ => ⟨S16x2048x1024, .bf16⟩
  | _, _ => ⟨S16x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S_ : Shape := ⟨0, ![]⟩
abbrev S1024x1 : Shape := ⟨2, ![1024, 1]⟩
abbrev S1024x256 : Shape := ⟨2, ![1024, 256]⟩
abbrev S1024x2816 : Shape := ⟨2, ![1024, 2816]⟩

abbrev nBuf : Space → Nat
  | .hbm => 19
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024x5632, .bf16⟩
  | .hbm, ⟨10, _⟩ => ⟨S_, .f32⟩
  | .hbm, ⟨11, _⟩ => ⟨S2816x1024, .f32⟩
  | .hbm, ⟨12, _⟩ => ⟨S2816x1024, .f32⟩
  | .hbm, ⟨13, _⟩ => ⟨S2816x1024, .bf16⟩
  | .hbm, ⟨14, _⟩ => ⟨S16x2048x1024, .bf16⟩
  | .hbm, ⟨15, _⟩ => ⟨S32768x1024, .bf16⟩
  | .hbm, ⟨16, _⟩ => ⟨S1024x1024, .bf16⟩
  | .hbm, ⟨17, _⟩ => ⟨S1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x5632, .f32⟩
  | .hbm, ⟨26, _⟩ => ⟨S16x2048x2816, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x2816, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S1024x3072 : Shape := ⟨2, ![1024, 3072]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1x1024 : Shape := ⟨2, ![1, 1024]⟩
abbrev S_ : Shape := ⟨0, ![]⟩
abbrev S512x1024 : Shape := ⟨2, ![512, 1024]⟩
abbrev S1x16x5632 : Shape := ⟨3, ![1, 16, 5632]⟩
abbrev S1x176x1024 : Shape := ⟨3, ![1, 176, 1024]⟩
abbrev S16x5632 : Shape := ⟨2, ![16, 5632]⟩
abbrev S176x1024 : Shape := ⟨2, ![176, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩
abbrev S512x3072 : Shape := ⟨2, ![512, 3072]⟩

abbrev nBuf : Space → Nat
  | .hbm => 23
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x3072, .f32⟩
  | .hbm, ⟨6, _⟩ => ⟨S2x1024x5632, .f32⟩
  | .hbm, ⟨7, _⟩ => ⟨S2x2816x1024, .f32⟩
  | .hbm, ⟨8, _⟩ => ⟨S32768x1024, .f32⟩
  | .hbm, ⟨9, _⟩ => ⟨S1x1024, .f32⟩
  | .hbm, ⟨10, _⟩ => ⟨S1024x5632, .bf16⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S1024x3072, .bf16⟩
  | .hbm, ⟨17, _⟩ => ⟨S32768x1024, .f32⟩
  | .hbm, ⟨18, _⟩ => ⟨S32768x1024, .bf16⟩
  | .hbm, ⟨19, _⟩ => ⟨S32768x1024, .bf16⟩
  | .hbm, ⟨20, _⟩ => ⟨S32768x1024, .bf16⟩
  | .hbm, ⟨21, _⟩ => ⟨S1024x5632, .bf16⟩
  | .hbm, ⟨22, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x3072, .bf16⟩
  | .local _ .vmem, ⟨7, _⟩ => ⟨S1x16x5632, .f32⟩
  | .local _ .vmem, ⟨8, _⟩ => ⟨S1x16x5632, .f32⟩
  | .local _ .vmem, ⟨9, _⟩ => ⟨S1x176x1024, .f32⟩
  | .local _ .vmem, ⟨10, _⟩ => ⟨S1x176x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S16x5632, .bf16⟩
  | .local _ .vmem, ⟨20, _⟩ => ⟨S16x5632, .bf16⟩
  | .local _ .vmem, ⟨21, _⟩ => ⟨S176x1024, .bf16⟩
  | .local _ .vmem, ⟨22, _⟩ => ⟨S176x1024, .bf16⟩
  | .local _ .vmem, ⟨23, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "qk" => some (((8 * (Real.log 2))⁻¹ : ℝ) : EReal)
  | _ => none
-- ==== Reference3Ideal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S1024x3072 : Shape := ⟨2, ![1024, 3072]⟩
abbrev S2x1024x5632 : Shape := ⟨3, ![2, 1024, 5632]⟩
abbrev S2x2816x1024 : Shape := ⟨3, ![2, 2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2048x3072 : Shape := ⟨3, ![16, 2048, 3072]⟩
abbrev S32768x3x1024 : Shape := ⟨3, ![32768, 3, 1024]⟩
abbrev S32768x1x1024 : Shape := ⟨3, ![32768, 1, 1024]⟩
abbrev S32768x1024 : Shape := ⟨2, ![32768, 1024]⟩
abbrev S1x1024x5632 : Shape := ⟨3, ![1, 1024, 5632]⟩
abbrev S1x2816x1024 : Shape := ⟨3, ![1, 2816, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x3072, .f32⟩
  | .hbm, ⟨6, _⟩ => ⟨S2x1024x5632, .f32⟩
  | .hbm, ⟨7, _⟩ => ⟨S2x2816x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x5632, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S16x2048x3072, .f32⟩
  | .hbm, ⟨59, _⟩ => ⟨S32768x3x1024, .f32⟩
  | .hbm, ⟨60, _⟩ => ⟨S32768x1x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .bf16⟩
  | .hbm, ⟨71, _⟩ => ⟨S32768x1x1024, .f32⟩
  | .hbm, ⟨72, _⟩ => ⟨S32768x1024, .f32⟩
  | .hbm, ⟨73, _⟩ => ⟨S32768x1024, .bf16⟩
  | .hbm, ⟨74, _⟩ => ⟨S32768x1x1024, .f32⟩
  | .hbm, ⟨75, _⟩ => ⟨S32768x1024, .f32⟩
  | .hbm, ⟨76, _⟩ => ⟨S32768x1024, .bf16⟩
  | .hbm, ⟨77, _⟩ => ⟨S1x1024x5632, .f32⟩
  | .hbm, ⟨78, _⟩ => ⟨S1024x5632, .f32⟩
  | .hbm, ⟨79, _⟩ => ⟨S1024x5632, .bf16⟩
  | .hbm, ⟨80, _⟩ => ⟨S1x2816x1024, .f32⟩
  | .hbm, ⟨81, _⟩ => ⟨S2816x1024, .f32⟩
  | .hbm, ⟨82, _⟩ => ⟨S_, .f32⟩
  | .hbm, ⟨83, _⟩ => ⟨S2816x1024, .f32⟩
  | .hbm, ⟨84, _⟩ => ⟨S2816x1024, .f32⟩
  | .hbm, ⟨85, _⟩ => ⟨S2816x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x320 : Shape := ⟨2, ![1024, 320]⟩
abbrev S256 : Shape := ⟨1, ![256]⟩
abbrev S256x2048 : Shape := ⟨2, ![256, 2048]⟩
abbrev S2048x32 : Shape := ⟨2, ![2048, 32]⟩
abbrev S2x1024x5632 : Shape := ⟨3, ![2, 1024, 5632]⟩
abbrev S2x2816x1024 : Shape := ⟨3, ![2, 2816, 1024]⟩
abbrev S64 : Shape := ⟨1, ![64]⟩
abbrev S2048x64 : Shape := ⟨2, ![2048, 64]⟩
abbrev S1024x64 : Shape := ⟨2, ![1024, 64]⟩
abbrev S1024x256 : Shape := ⟨2, ![1024, 256]⟩
abbrev S_ : Shape := ⟨0, ![]⟩
abbrev S64x1 : Shape := ⟨2, ![64, 1]⟩
abbrev S1024x512 : Shape := ⟨2, ![1024, 512]⟩
abbrev S256x8x256 : Shape := ⟨3, ![256, 8, 256]⟩
abbrev S256x8x128 : Shape := ⟨3, ![256, 8, 128]⟩
abbrev S256x1024 : Shape := ⟨2, ![256, 1024]⟩
abbrev S32768x1024 : Shape := ⟨2, ![32768, 1024]⟩
abbrev S1x1024 : Shape := ⟨2, ![1, 1024]⟩
abbrev S1x256 : Shape := ⟨2, ![1, 256]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x128 : Shape := ⟨2, ![32768, 128]⟩
abbrev S512x1024 : Shape := ⟨2, ![512, 1024]⟩
abbrev S512x128 : Shape := ⟨2, ![512, 128]⟩
abbrev S1x16x5632 : Shape := ⟨3, ![1, 16, 5632]⟩
abbrev S1x176x1024 : Shape := ⟨3, ![1, 176, 1024]⟩
abbrev S16x5632 : Shape := ⟨2, ![16, 5632]⟩
abbrev S176x1024 : Shape := ⟨2, ![176, 1024]⟩
abbrev S512 : Shape := ⟨1, ![512]⟩
abbrev S512x1 : Shape := ⟨2, ![512, 1]⟩
abbrev S512x256 : Shape := ⟨2, ![512, 256]⟩
abbrev S512x2816 : Shape := ⟨2, ![512, 2816]⟩
abbrev S512x512 : Shape := ⟨2, ![512, 512]⟩

abbrev nBuf : Space → Nat
  | .hbm => 67
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024x320, .f32⟩
  | .hbm, ⟨8, _⟩ => ⟨S256, .f32⟩
  | .hbm, ⟨9, _⟩ => ⟨S256x2048, .f32⟩
  | .hbm, ⟨10, _⟩ => ⟨S2048x32, .f32⟩
  | .hbm, ⟨11, _⟩ => ⟨S2048x32, .f32⟩
  | .hbm, ⟨12, _⟩ => ⟨S2x1024x5632, .f32⟩
  | .hbm, ⟨13, _⟩ => ⟨S2x2816x1024, .f32⟩
  | .hbm, ⟨14, _⟩ => ⟨S64, .i32⟩
  | .hbm, ⟨15, _⟩ => ⟨S64, .i1⟩
  | .hbm, ⟨16, _⟩ => ⟨S64, .i1⟩
  | .hbm, ⟨17, _⟩ => ⟨S2048x64, .f32⟩
  | .hbm, ⟨18, _⟩ => ⟨S2048x32, .f32⟩
  | .hbm, ⟨19, _⟩ => ⟨S2048x64, .f32⟩
  | .hbm, ⟨20, _⟩ => ⟨S1024x64, .f32⟩
  | .hbm, ⟨21, _⟩ => ⟨S1024x256, .f32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S1024x64, .f32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S64x1, .i32⟩
  | .hbm, ⟨33, _⟩ => ⟨S1024x64, .f32⟩
  | .hbm, ⟨34, _⟩ => ⟨S1024x512, .f32⟩
  | .hbm, ⟨35, _⟩ => ⟨S1024x512, .bf16⟩
  | .hbm, ⟨36, _⟩ => ⟨S256x8x256, .f32⟩
  | .hbm, ⟨37, _⟩ => ⟨S256x8x128, .f32⟩
  | .hbm, ⟨38, _⟩ => ⟨S256x1024, .f32⟩
  | .hbm, ⟨39, _⟩ => ⟨S256x1024, .bf16⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S32768x1024, .f32⟩
  | .hbm, ⟨44, _⟩ => ⟨S1x1024, .f32⟩
  | .hbm, ⟨45, _⟩ => ⟨S1024x5632, .bf16⟩
  | .hbm, ⟨46, _⟩ => ⟨S_, .f32⟩
  | .hbm, ⟨47, _⟩ => ⟨S2816x1024, .f32⟩
  | .hbm, ⟨48, _⟩ => ⟨S2816x1024, .f32⟩
  | .hbm, ⟨49, _⟩ => ⟨S2816x1024, .bf16⟩
  | .hbm, ⟨50, _⟩ => ⟨S16x2048x1024, .bf16⟩
  | .hbm, ⟨51, _⟩ => ⟨S32768x1024, .bf16⟩
  | .hbm, ⟨52, _⟩ => ⟨S1024x1024, .bf16⟩
  | .hbm, ⟨53, _⟩ => ⟨S1x1024, .f32⟩
  | .hbm, ⟨54, _⟩ => ⟨S1x256, .f32⟩
  | .hbm, ⟨55, _⟩ => ⟨S1x2048x1x64, .f32⟩
  | .hbm, ⟨56, _⟩ => ⟨S1x2048x2x64, .f32⟩
  | .hbm, ⟨57, _⟩ => ⟨S2048x128, .f32⟩
  | .hbm, ⟨58, _⟩ => ⟨S1x2048x1x64, .f32⟩
  | .hbm, ⟨59, _⟩ => ⟨S1x2048x2x64, .f32⟩
  | .hbm, ⟨60, _⟩ => ⟨S2048x128, .f32⟩
  | .hbm, ⟨61, _⟩ => ⟨S32768x1024, .f32⟩
  | .hbm, ⟨62, _⟩ => ⟨S32768x1024, .bf16⟩
  | .hbm, ⟨63, _⟩ => ⟨S32768x128, .bf16⟩
  | .hbm, ⟨64, _⟩ => ⟨S32768x1024, .bf16⟩
  | .hbm, ⟨65, _⟩ => ⟨S1024x5632, .bf16⟩
  | .hbm, ⟨66, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x512, .bf16⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x16x5632, .f32⟩
  | .local _ .vmem, ⟨18, _⟩ => ⟨S1x16x5632, .f32⟩
  | .local _ .vmem, ⟨19, _⟩ => ⟨S1x176x1024, .f32⟩
  | .local _ .vmem, ⟨20, _⟩ => ⟨S1x176x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .bf16⟩
  | .local _ .vmem, ⟨26, _⟩ => ⟨S512x128, .bf16⟩
  | .local _ .vmem, ⟨27, _⟩ => ⟨S512x1024, .bf16⟩
  | .local _ .vmem, ⟨28, _⟩ => ⟨S512x1024, .bf16⟩
  | .local _ .vmem, ⟨29, _⟩ => ⟨S16x5632, .bf16⟩
  | .local _ .vmem, ⟨30, _⟩ => ⟨S16x5632, .bf16⟩
  | .local _ .vmem, ⟨31, _⟩ => ⟨S176x1024, .bf16⟩
  | .local _ .vmem, ⟨32, _⟩ => ⟨S176x1024, .bf16⟩
  | .local _ .vmem, ⟨33, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_v41_2 : Ref sig .tc := ⟨.hbm, 63, rfl⟩
abbrev main_v41_3 : Ref sig .tc := ⟨.hbm, 64, rfl⟩
abbrev main_v41_4 : Ref sig .tc := ⟨.hbm, 65, rfl⟩
abbrev main_v41_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let c0_i32_0 : BitVec 32 := 0#32
  ![c1_i32.toNat, v0.toNat, c0_i32.toNat]

def cc0_transform_14 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x320 : Shape := ⟨2, ![1024, 320]⟩
abbrev S256 : Shape := ⟨1, ![256]⟩
abbrev S256x2048 : Shape := ⟨2, ![256, 2048]⟩
abbrev S2048x32 : Shape := ⟨2, ![2048, 32]⟩
abbrev S2x1024x5632 : Shape := ⟨3, ![2, 1024, 5632]⟩
abbrev S2x2816x1024 : Shape := ⟨3, ![2, 2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2048x320 : Shape := ⟨3, ![16, 2048, 320]⟩
abbrev S16x2048x256 : Shape := ⟨3, ![16, 2048, 256]⟩
abbrev S1x1x256 : Shape := ⟨3, ![1, 1, 256]⟩
abbrev S16x2048x64 : Shape := ⟨3, ![16, 2048, 64]⟩
abbrev S16x2048x32 : Shape := ⟨3, ![16, 2048, 32]⟩
abbrev S1x2048x32 : Shape := ⟨3, ![1, 2048, 32]⟩
abbrev S16x2048x2048 : Shape := ⟨3, ![16, 2048, 2048]⟩
abbrev S16x2048x8x256 : Shape := ⟨4, ![16, 2048, 8, 256]⟩
abbrev S32768x1024 : Shape := ⟨2, ![32768, 1024]⟩
abbrev S16x2048x8x128 : Shape := ⟨4, ![16, 2048, 8, 128]⟩
abbrev S16x2048x128 : Shape := ⟨3, ![16, 2048, 128]⟩
abbrev S32768x128 : Shape := ⟨2, ![32768, 128]⟩
abbrev S1x1024x5632 : Shape := ⟨3, ![1, 1024, 5632]⟩
abbrev S1x2816x1024 : Shape := ⟨3, ![1, 2816, 1024]⟩

abbrev nBuf : Space → Nat
  | .hbm => 123
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024x320, .f32⟩
  | .hbm, ⟨8, _⟩ => ⟨S256, .f32⟩
  | .hbm, ⟨9, _⟩ => ⟨S256x2048, .f32⟩
  | .hbm, ⟨10, _⟩ => ⟨S2048x32, .f32⟩
  | .hbm, ⟨11, _⟩ => ⟨S2048x32, .f32⟩
  | .hbm, ⟨12, _⟩ => ⟨S2x1024x5632, .f32⟩
  | .hbm, ⟨13, _⟩ => ⟨S2x2816x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x5632, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S_, .f32⟩
  | .hbm, ⟨40, _⟩ => ⟨S16x2048x2816, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S16x2048x1024, .f32⟩
  | .hbm, ⟨46, _⟩ => ⟨S_, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S16x2048x1, .f32⟩
  | .hbm, ⟨61, _⟩ => ⟨S16x2048x1024, .f32⟩
  | .hbm, ⟨62, _⟩ => ⟨S16x2048x1024, .f32⟩
  | .hbm, ⟨63, _⟩ => ⟨S1x1x1024, .f32⟩
  | .hbm, ⟨64, _⟩ => ⟨S16x2048x1024, .f32⟩
  | .hbm, ⟨65, _⟩ => ⟨S16x2048x1024, .f32⟩
  | .hbm, ⟨66, _⟩ => ⟨S16x2048x320, .f32⟩
  | .hbm, ⟨67, _⟩ => ⟨S16x2048x256, .f32⟩
  | .hbm, ⟨68, _⟩ => ⟨S16x2048x256, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1, .f32⟩
  | .hbm, ⟨79, _⟩ => ⟨S16x2048x256, .f32⟩
  | .hbm, ⟨80, _⟩ => ⟨S16x2048x256, .f32⟩
  | .hbm, ⟨81, _⟩ => ⟨S1x1x256, .f32⟩
  | .hbm, ⟨82, _⟩ => ⟨S16x2048x256, .f32⟩
  | .hbm, ⟨83, _⟩ => ⟨S16x2048x256, .f32⟩
  | .hbm, ⟨84, _⟩ => ⟨S16x2048x64, .f32⟩
  | .hbm, ⟨85, _⟩ => ⟨S16x2048x32, .f32⟩
  | .hbm, ⟨86, _⟩ => ⟨S16x2048x32, .f32⟩
  | .hbm, ⟨87, _⟩ => ⟨S1x2048x32, .f32⟩
  | .hbm, ⟨88, _⟩ => ⟨S16x2048x32, .f32⟩
  | .hbm, ⟨89, _⟩ => ⟨S16x2048x32, .f32⟩
  | .hbm, ⟨90, _⟩ => ⟨S1x2048x32, .f32⟩
  | .hbm, ⟨91, _⟩ => ⟨S16x2048x32, .f32⟩
  | .hbm, ⟨92, _⟩ => ⟨S16x2048x32, .f32⟩
  | .hbm, ⟨93, _⟩ => ⟨S16x2048x32, .f32⟩
  | .hbm, ⟨94, _⟩ => ⟨S1x2048x32, .f32⟩
  | .hbm, ⟨95, _⟩ => ⟨S16x2048x32, .f32⟩
  | .hbm, ⟨96, _⟩ => ⟨S16x2048x32, .f32⟩
  | .hbm, ⟨97, _⟩ => ⟨S1x2048x32, .f32⟩
  | .hbm, ⟨98, _⟩ => ⟨S16x2048x32, .f32⟩
  | .hbm, ⟨99, _⟩ => ⟨S16x2048x32, .f32⟩
  | .hbm, ⟨100, _⟩ => ⟨S16x2048x32, .f32⟩
  | .hbm, ⟨101, _⟩ => ⟨S16x2048x64, .f32⟩
  | .hbm, ⟨102, _⟩ => ⟨S16x2048x2048, .f32⟩
  | .hbm, ⟨103, _⟩ => ⟨S16x2048x8x256, .f32⟩
  | .hbm, ⟨104, _⟩ => ⟨S32768x1024, .f32⟩
  | .hbm, ⟨105, _⟩ => ⟨S16x2048x8x128, .f32⟩
  | .hbm, ⟨106, _⟩ => ⟨S32768x1024, .f32⟩
  | .hbm, ⟨107, _⟩ => ⟨S32768x1024, .bf16⟩
  | .hbm, ⟨108, _⟩ => ⟨S16x2048x128, .f32⟩
  | .hbm, ⟨109, _⟩ => ⟨S32768x128, .f32⟩
  | .hbm, ⟨110, _⟩ => ⟨S32768x128, .bf16⟩
  | .hbm, ⟨111, _⟩ => ⟨S16x2048x8x128, .f32⟩
  | .hbm, ⟨112, _⟩ => ⟨S32768x1024, .f32⟩
  | .hbm, ⟨113, _⟩ => ⟨S32768x1024, .bf16⟩
  | .hbm, ⟨114, _⟩ => ⟨S1x1024x5632, .f32⟩
  | .hbm, ⟨115, _⟩ => ⟨S1024x5632, .f32⟩
  | .hbm, ⟨116, _⟩ => ⟨S1024x5632, .bf16⟩
  | .hbm, ⟨117, _⟩ => ⟨S1x2816x1024, .f32⟩
  | .hbm, ⟨118, _⟩ => ⟨S2816x1024, .f32⟩
  | .hbm, ⟨119, _⟩ => ⟨S_, .f32⟩
  | .hbm, ⟨120, _⟩ => ⟨S2816x1024, .f32⟩
  | .hbm, ⟨121, _⟩ => ⟨S2816x1024, .f32⟩
  | .hbm, ⟨122, _⟩ => ⟨S2816x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_9 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S1024x768 : Shape := ⟨2, ![1024, 768]⟩
abbrev S768 : Shape := ⟨1, ![768]⟩
abbrev S768x1536 : Shape := ⟨2, ![768, 1536]⟩
abbrev S2048x32 : Shape := ⟨2, ![2048, 32]⟩
abbrev S2x1024x5632 : Shape := ⟨3, ![2, 1024, 5632]⟩
abbrev S2x2816x1024 : Shape := ⟨3, ![2, 2816, 1024]⟩
abbrev S64 : Shape := ⟨1, ![64]⟩
abbrev S2048x64 : Shape := ⟨2, ![2048, 64]⟩
abbrev S768x8x192 : Shape := ⟨3, ![768, 8, 192]⟩
abbrev S768x8x128 : Shape := ⟨3, ![768, 8, 128]⟩
abbrev S768x8x64 : Shape := ⟨3, ![768, 8, 64]⟩
abbrev S768x1024 : Shape := ⟨2, ![768, 1024]⟩
abbrev S768x512 : Shape := ⟨2, ![768, 512]⟩
abbrev S_ : Shape := ⟨0, ![]⟩
abbrev S64x1 : Shape := ⟨2, ![64, 1]⟩
abbrev S768x2048 : Shape := ⟨2, ![768, 2048]⟩
abbrev S32768x1024 : Shape := ⟨2, ![32768, 1024]⟩
abbrev S1x1024 : Shape := ⟨2, ![1, 1024]⟩
abbrev S1x768 : Shape := ⟨2, ![1, 768]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S32768x2048 : Shape := ⟨2, ![32768, 2048]⟩
abbrev S512x1024 : Shape := ⟨2, ![512, 1024]⟩
abbrev S512x512 : Shape := ⟨2, ![512, 512]⟩
abbrev S1x16x5632 : Shape := ⟨3, ![1, 16, 5632]⟩
abbrev S1x176x1024 : Shape := ⟨3, ![1, 176, 1024]⟩
abbrev S512x2048 : Shape := ⟨2, ![512, 2048]⟩
abbrev S16x5632 : Shape := ⟨2, ![16, 5632]⟩
abbrev S176x1024 : Shape := ⟨2, ![176, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩
abbrev S256x2048 : Shape := ⟨2, ![256, 2048]⟩
abbrev S256x512 : Shape := ⟨2, ![256, 512]⟩
abbrev S256x128 : Shape := ⟨2, ![256, 128]⟩

abbrev nBuf : Space → Nat
  | .hbm => 51
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x768, .f32⟩
  | .hbm, ⟨6, _⟩ => ⟨S768, .f32⟩
  | .hbm, ⟨7, _⟩ => ⟨S768x1536, .f32⟩
  | .hbm, ⟨8, _⟩ => ⟨S2048x32, .f32⟩
  | .hbm, ⟨9, _⟩ => ⟨S2048x32, .f32⟩
  | .hbm, ⟨10, _⟩ => ⟨S2x1024x5632, .f32⟩
  | .hbm, ⟨11, _⟩ => ⟨S2x2816x1024, .f32⟩
  | .hbm, ⟨12, _⟩ => ⟨S64, .i32⟩
  | .hbm, ⟨13, _⟩ => ⟨S64, .i1⟩
  | .hbm, ⟨14, _⟩ => ⟨S2048x64, .f32⟩
  | .hbm, ⟨15, _⟩ => ⟨S2048x32, .f32⟩
  | .hbm, ⟨16, _⟩ => ⟨S2048x64, .f32⟩
  | .hbm, ⟨17, _⟩ => ⟨S768x8x192, .f32⟩
  | .hbm, ⟨18, _⟩ => ⟨S768x8x128, .f32⟩
  | .hbm, ⟨19, _⟩ => ⟨S768x8x64, .f32⟩
  | .hbm, ⟨20, _⟩ => ⟨S768x1024, .f32⟩
  | .hbm, ⟨21, _⟩ => ⟨S768x512, .f32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S768x8x64, .f32⟩
  | .hbm, ⟨28, _⟩ => ⟨S768x512, .f32⟩
  | .hbm, ⟨29, _⟩ => ⟨S768x2048, .f32⟩
  | .hbm, ⟨30, _⟩ => ⟨S768x2048, .bf16⟩
  | .hbm, ⟨31, _⟩ => ⟨S32768x1024, .f32⟩
  | .hbm, ⟨32, _⟩ => ⟨S1x1024, .f32⟩
  | .hbm, ⟨33, _⟩ => ⟨S1024x5632, .bf16⟩
  | .hbm, ⟨34, _⟩ => ⟨S_, .f32⟩
  | .hbm, ⟨35, _⟩ => ⟨S2816x1024, .f32⟩
  | .hbm, ⟨36, _⟩ => ⟨S2816x1024, .f32⟩
  | .hbm, ⟨37, _⟩ => ⟨S2816x1024, .bf16⟩
  | .hbm, ⟨38, _⟩ => ⟨S1x1024, .f32⟩
  | .hbm, ⟨39, _⟩ => ⟨S1024x768, .bf16⟩
  | .hbm, ⟨40, _⟩ => ⟨S1x768, .f32⟩
  | .hbm, ⟨41, _⟩ => ⟨S1x2048x1x64, .f32⟩
  | .hbm, ⟨42, _⟩ => ⟨S1x2048x8x64, .f32⟩
  | .hbm, ⟨43, _⟩ => ⟨S2048x512, .f32⟩
  | .hbm, ⟨44, _⟩ => ⟨S1x2048x1x64, .f32⟩
  | .hbm, ⟨45, _⟩ => ⟨S1x2048x8x64, .f32⟩
  | .hbm, ⟨46, _⟩ => ⟨S2048x512, .f32⟩
  | .hbm, ⟨47, _⟩ => ⟨S32768x1024, .f32⟩
  | .hbm, ⟨48, _⟩ => ⟨S32768x2048, .bf16⟩
  | .hbm, ⟨49, _⟩ => ⟨S1024x5632, .bf16⟩
  | .hbm, ⟨50, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x768, .bf16⟩
  | .local _ .vmem, ⟨7, _⟩ => ⟨S1x768, .f32⟩
  | .local _ .vmem, ⟨8, _⟩ => ⟨S768x2048, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x16x5632, .f32⟩
  | .local _ .vmem, ⟨14, _⟩ => ⟨S1x16x5632, .f32⟩
  | .local _ .vmem, ⟨15, _⟩ => ⟨S1x176x1024, .f32⟩
  | .local _ .vmem, ⟨16, _⟩ => ⟨S1x176x1024, .f32⟩
  | .local _ .vmem, ⟨17, _⟩ => ⟨S512x1024, .f32⟩
  | .local _ .vmem, ⟨18, _⟩ => ⟨S512x1024, .f32⟩
  | .local _ .vmem, ⟨19, _⟩ => ⟨S512x2048, .bf16⟩
  | .local _ .vmem, ⟨20, _⟩ => ⟨S512x2048, .bf16⟩
  | .local _ .vmem, ⟨21, _⟩ => ⟨S16x5632, .bf16⟩
  | .local _ .vmem, ⟨22, _⟩ => ⟨S16x5632, .bf16⟩
  | .local _ .vmem, ⟨23, _⟩ => ⟨S176x1024, .bf16⟩
  | .local _ .vmem, ⟨24, _⟩ => ⟨S176x1024, .bf16⟩
  | .local _ .vmem, ⟨25, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v31_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let c0_i32_0 : BitVec 32 := 0#32
  ![c1_i32.toNat, v0.toNat, c0_i32.toNat]

def cc0_transform_11 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel5Ideal.lean ====
variable {F : FTy → Type} [FloatOps F] [Named F]
def κ : String → Option EReal := fun
  | "qscale" => some ((((Real.sqrt 192) * (Real.log 2))⁻¹ : ℝ) : EReal)
  | _ => none
-- ==== Reference5Ideal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S1024x768 : Shape := ⟨2, ![1024, 768]⟩
abbrev S768 : Shape := ⟨1, ![768]⟩
abbrev S768x1536 : Shape := ⟨2, ![768, 1536]⟩
abbrev S2048x32 : Shape := ⟨2, ![2048, 32]⟩
abbrev S2x1024x5632 : Shape := ⟨3, ![2, 1024, 5632]⟩
abbrev S2x2816x1024 : Shape := ⟨3, ![2, 2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2048x768 : Shape := ⟨3, ![16, 2048, 768]⟩
abbrev S1x1x768 : Shape := ⟨3, ![1, 1, 768]⟩
abbrev S16x2048x1536 : Shape := ⟨3, ![16, 2048, 1536]⟩
abbrev S16x2048x8x192 : Shape := ⟨4, ![16, 2048, 8, 192]⟩
abbrev S16x2048x8x64 : Shape := ⟨4, ![16, 2048, 8, 64]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16x2048x4x2x64 : Shape := ⟨5, ![16, 2048, 4, 2, 64]⟩
abbrev S16x2048x4x1x64 : Shape := ⟨5, ![16, 2048, 4, 1, 64]⟩
abbrev S16x2048x4x1x128 : Shape := ⟨5, ![16, 2048, 4, 1, 128]⟩
abbrev S16x2048x4x2x128 : Shape := ⟨5, ![16, 2048, 4, 2, 128]⟩
abbrev S16x2048x8x128 : Shape := ⟨4, ![16, 2048, 8, 128]⟩
abbrev S16x2048x8x256 : Shape := ⟨4, ![16, 2048, 8, 256]⟩
abbrev S32768x1024 : Shape := ⟨2, ![32768, 1024]⟩
abbrev S32768x2048 : Shape := ⟨2, ![32768, 2048]⟩
abbrev S1x1024x5632 : Shape := ⟨3, ![1, 1024, 5632]⟩
abbrev S1x2816x1024 : Shape := ⟨3, ![1, 2816, 1024]⟩

abbrev nBuf : Space → Nat
  | .hbm => 132
  | .vmem => 0
  | .smem => 0
  | _ => 0

abbrev hbmTy0_0 (i : Nat) : BufTy := match i % 128 with
  | 0 => ⟨S16x2048x1024, .f32⟩
  | 1 => ⟨S1024, .f32⟩
  | 2 => ⟨S1024x5632, .f32⟩
  | 3 => ⟨S2816x1024, .f32⟩
  | 4 => ⟨S1024, .f32⟩
  | 5 => ⟨S1024x768, .f32⟩
  | 6 => ⟨S768, .f32⟩
  | 7 => ⟨S768x1536, .f32⟩
  | 8 => ⟨S2048x32, .f32⟩
  | 9 => ⟨S2048x32, .f32⟩
  | 10 => ⟨S2x1024x5632, .f32⟩
  | 11 => ⟨S2x2816x1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S16x2048x5632, .f32⟩
  | 29 => ⟨S16x2048x2816, .f32⟩
  | 30 => ⟨S16x2048x2816, .f32⟩
  | 31 => ⟨S16x2048x2816, .f32⟩
  | 32 => ⟨S_, .f32⟩
  | 33 => ⟨S16x2048x2816, .f32⟩
  | 34 => ⟨S16x2048x2816, .f32⟩
  | 35 => ⟨S_, .f32⟩
  | 36 => ⟨S16x2048x2816, .f32⟩
  | 37 => ⟨S16x2048x2816, .f32⟩
  | 38 => ⟨S16x2048x2816, .f32⟩
  | 39 => ⟨S16x2048x2816, .f32⟩
  | 40 => ⟨S16x2048x2816, .f32⟩
  | 41 => ⟨S16x2048x1024, .f32⟩
  | 42 => ⟨S_, .f32⟩
  | 43 => ⟨S16x2048x1024, .f32⟩
  | 44 => ⟨S16x2048x1024, .f32⟩
  | 45 => ⟨S16x2048x1024, .f32⟩
  | 46 => ⟨S16x2048x1024, .f32⟩
  | 47 => ⟨S_, .f32⟩
  | 48 => ⟨S16x2048, .f32⟩
  | 49 => ⟨S16x2048x1, .f32⟩
  | 50 => ⟨S_, .f32⟩
  | 51 => ⟨S16x2048x1, .f32⟩
  | 52 => ⟨S16x2048x1, .f32⟩
  | 53 => ⟨S_, .f32⟩
  | 54 => ⟨S16x2048x1, .f32⟩
  | 55 => ⟨S16x2048x1, .f32⟩
  | 56 => ⟨S16x2048x1, .f32⟩
  | 57 => ⟨S16x2048x1024, .f32⟩
  | 58 => ⟨S16x2048x1024, .f32⟩
  | 59 => ⟨S1x1x1024, .f32⟩
  | 60 => ⟨S16x2048x1024, .f32⟩
  | 61 => ⟨S16x2048x1024, .f32⟩
  | 62 => ⟨S16x2048x768, .f32⟩
  | 63 => ⟨S16x2048x768, .f32⟩
  | 64 => ⟨S_, .f32⟩
  | 65 => ⟨S16x2048, .f32⟩
  | 66 => ⟨S16x2048x1, .f32⟩
  | 67 => ⟨S_, .f32⟩
  | 68 => ⟨S16x2048x1, .f32⟩
  | 69 => ⟨S16x2048x1, .f32⟩
  | 70 => ⟨S_, .f32⟩
  | 71 => ⟨S16x2048x1, .f32⟩
  | 72 => ⟨S16x2048x1, .f32⟩
  | 73 => ⟨S16x2048x1, .f32⟩
  | 74 => ⟨S16x2048x768, .f32⟩
  | 75 => ⟨S16x2048x768, .f32⟩
  | 76 => ⟨S1x1x768, .f32⟩
  | 77 => ⟨S16x2048x768, .f32⟩
  | 78 => ⟨S16x2048x768, .f32⟩
  | 79 => ⟨S16x2048x1536, .f32⟩
  | 80 => ⟨S16x2048x8x192, .f32⟩
  | 81 => ⟨S16x2048x8x64, .f32⟩
  | 82 => ⟨S2048x1x32, .f32⟩
  | 83 => ⟨S2048x1x32, .f32⟩
  | 84 => ⟨S16x2048x8x32, .f32⟩
  | 85 => ⟨S16x2048x8x32, .f32⟩
  | 86 => ⟨S1x2048x1x32, .f32⟩
  | 87 => ⟨S16x2048x8x32, .f32⟩
  | 88 => ⟨S16x2048x8x32, .f32⟩
  | 89 => ⟨S1x2048x1x32, .f32⟩
  | 90 => ⟨S16x2048x8x32, .f32⟩
  | 91 => ⟨S16x2048x8x32, .f32⟩
  | 92 => ⟨S16x2048x8x32, .f32⟩
  | 93 => ⟨S1x2048x1x32, .f32⟩
  | 94 => ⟨S16x2048x8x32, .f32⟩
  | 95 => ⟨S16x2048x8x32, .f32⟩
  | 96 => ⟨S1x2048x1x32, .f32⟩
  | 97 => ⟨S16x2048x8x32, .f32⟩
  | 98 => ⟨S16x2048x8x32, .f32⟩
  | 99 => ⟨S16x2048x8x32, .f32⟩
  | 100 => ⟨S16x2048x8x64, .f32⟩
  | 101 => ⟨S16x2048x4x2x64, .f32⟩
  | 102 => ⟨S_, .f32⟩
  | 103 => ⟨S16x2048x4x1x64, .f32⟩
  | 104 => ⟨S16x2048x4x1x64, .f32⟩
  | 105 => ⟨S16x2048x4x1x128, .f32⟩
  | 106 => ⟨S16x2048x4x1x64, .f32⟩
  | 107 => ⟨S16x2048x4x1x128, .f32⟩
  | 108 => ⟨S16x2048x4x2x128, .f32⟩
  | 109 => ⟨S16x2048x8x128, .f32⟩
  | 110 => ⟨S16x2048x8x128, .f32⟩
  | 111 => ⟨S16x2048x8x256, .f32⟩
  | 112 => ⟨S_, .f32⟩
  | 113 => ⟨S_, .f32⟩
  | 114 => ⟨S16x2048x8x256, .f32⟩
  | 115 => ⟨S16x2048x8x256, .f32⟩
  | 116 => ⟨S_, .f32⟩
  | 117 => ⟨S_, .f32⟩
  | 118 => ⟨S16x2048x8x256, .f32⟩
  | 119 => ⟨S16x2048x8x256, .f32⟩
  | 120 => ⟨S32768x1024, .f32⟩
  | 121 => ⟨S32768x2048, .f32⟩
  | 122 => ⟨S32768x2048, .bf16⟩
  | 123 => ⟨S1x1024x5632, .f32⟩
  | 124 => ⟨S1024x5632, .f32⟩
  | 125 => ⟨S1024x5632, .bf16⟩
  | 126 => ⟨S1x2816x1024, .f32⟩
  | 127 => ⟨S2816x1024, .f32⟩
  | _ => ⟨S16x2048x1024, .f32⟩

abbrev hbmTy0_1 (i : Nat) : BufTy := match i % 128 with
  | 0 => ⟨S_, .f32⟩
  | 1 => ⟨S2816x1024, .f32⟩
  | 2 => ⟨S2816x1024, .f32⟩
  | 3 => ⟨S2816x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]
-- ==== Proof.Mla.Tiles.lean ====
/- The tiles of the latent attention's call: a block of queries' scores against a block of keys, and the running
   maximum, sum and weighted values of a block of queries, as functions of the four staged blocks. -/
module

public import proofs.«01_k».proof.Proof.Gen.KernelIdeal.Frame
public import Idealize.ShloMosaic.Lib.Pointwise
public import Idealize.ShloMosaic.Lib.ValueIdx
public import Idealize.ShloMosaic.Lib.MatmulPlain
public import Idealize.ShloMosaic.Lib.Pipeline.Value

@[expose] public section

set_option maxRecDepth 16384

noncomputable section

namespace Cert.Mla

open Idealize.ShloMosaic Idealize.ShloMosaic.ValueIdx Cert.KernelIdeal Cert.KernelIdeal.Gen

/-- An array of three axes read at three naturals, zero outside. -/
def rd {a b c : ℕ} (x : (⟨3, ![a, b, c]⟩ : Shape).Idx → EReal) (i j k : ℕ) : EReal :=
  if h : i < a ∧ j < b ∧ k < c then x (ValueIdx.ix3 ⟨i, h.1⟩ ⟨j, h.2.1⟩ ⟨k, h.2.2⟩) else 0

/-- `M` rows from row `r` and `N` lanes from lane `c` of a staged block. -/
def blk {W : ℕ} (M N : ℕ) (x : (⟨3, ![1, 2048, W]⟩ : Shape).Idx → EReal) (c r : ℕ) : (⟨2, ![M, N]⟩ : Shape).Idx → EReal :=
  fun ix => rd x 0 (r + (ix 0).val) (c + (ix 1).val)

/-- The 256 keys from row `r`: 128 lanes of the head's own from lane `c`, then the 128 shared ones. -/
def kT (x1 : Vec Ideal S1x2048x256 .bf16) (x2 : Vec Ideal S1x2048x128 .bf16) (c r : ℕ) : FVec Ideal S256x256 .bf16 :=
  fun ix => if (ix 1).val < 128 then rd x1 0 (r + (ix 0).val) (c + (ix 1).val)
    else rd x2 0 (r + (ix 0).val) (0 + ((ix 1).val - 128))

/-- The scores of the `M` queries from row `r` against the 256 keys from row `c`. -/
def sG (M : ℕ) (x0 : Vec Ideal S1x2048x512 .bf16) (x1 : Vec Ideal S1x2048x256 .bf16) (x2 : Vec Ideal S1x2048x128 .bf16)
    (cq ck r c : ℕ) : FVec Ideal ⟨2, ![M, 256]⟩ .f32 :=
  fun ix => ∑ d : Fin 256, rd x0 0 (r + (ix 0).val) (cq + d.val) * kT x1 x2 ck c (ValueIdx.ix2 (ix 1) d)

/-- Weights times values, 256 keys at once. -/
def pvG (M : ℕ) (p : FVec Ideal ⟨2, ![M, 256]⟩ .bf16) (v : FVec Ideal S256x128 .bf16) : FVec Ideal ⟨2, ![M, 128]⟩ .f32 :=
  fun ix => ∑ c : Fin 256, p (ValueIdx.ix2 (ix 0) c) * v (ValueIdx.ix2 c (ix 1))

/-- The piece at a position of a list of tiles. -/
def pk : List ((s : Shape) × (s.Idx → EReal)) → ℕ → FVec Ideal S256x256 .bf16
  | [], _ => fun _ => 0
  | ⟨s, f⟩ :: _, 0 => if h : s = S256x256 then h ▸ f else fun _ => 0
  | _ :: L, k + 1 => pk L k

/-- The largest score of each row. -/
def rmax (s : FVec Ideal S256x256 .f32) : FVec Ideal S256x1 .f32 :=
  shapeCast S256x1 (multiReduction .maximumf [1] S256 s 0xFF800000#32 reduces_S256x256_S256 (.inl rfl) rfl) shapeCasts_S256_S256x1
/-- The weights of a tile under a row maximum. -/
def prob (s : FVec Ideal S256x256 .f32) (m : FVec Ideal S256x1 .f32) : FVec Ideal S256x256 .f32 :=
  exp2 (subf s (broadcastTo S256x256 m broadcasts_S256x1_S256x256))
/-- The two halves of a tile's weights added, lane by lane. -/
def halves (p : FVec Ideal S256x256 .f32) : FVec Ideal S256x128 .f32 :=
  addf (extractStridedSlice S256x128 ![0, 0] p slices_S256x256_o0_0_S256x128)
    (extractStridedSlice S256x128 ![0, 128] p slices_S256x256_o0_128_S256x128)
/-- An old row value times the factor of the change of maximum, plus a new one. -/
def upd (m m' : FVec Ideal S256x1 .f32) (old new : FVec Ideal S256x128 .f32) : FVec Ideal S256x128 .f32 :=
  addf (mulf (broadcastTo S256x128 (exp2 (subf m m')) broadcasts_S256x1_S256x128) old) new
/-- The quotient that is stored. -/
def fin (acc l : FVec Ideal S256x128 .f32) : FVec Ideal S1x256x128 .bf16 :=
  shapeCast S1x256x128 (truncf .bf16 (divf acc (broadcastTo S256x128
    (shapeCast S256x1 (multiReduction .add [1] S256 l 0x00000000#32 reduces_S256x128_S256 (.inl rfl) rfl) shapeCasts_S256_S256x1)
    broadcasts_S256x1_S256x128)) bitsLt_bf16_f32) shapeCasts_S256x128_S1x256x128

/-- The mask of a tile on the diagonal: the key's chunk is not after the query's. -/
def mk : IVec S256x256 1 := k0_pay7 k0_pay2 k0_pay3 k0_pay4 k0_pay5 k0_pay6

/-- A masked tile. -/
def msk (s : FVec Ideal S256x256 .f32) : FVec Ideal S256x256 .f32 :=
  select mk s (broadcast S256x256 (Named.named (F := Ideal) κ "mask" 0xF149F2CA#32))

section
variable (x0 : Vec Ideal S1x2048x512 .bf16) (x1 : Vec Ideal S1x2048x256 .bf16) (x2 : Vec Ideal S1x2048x128 .bf16)
  (x3 : Vec Ideal S1x2048x256 .bf16) (cq ck r : ℕ)

/-- The running maximum of the queries from row `r` after the tiles of keys `0, …, j`, none masked. -/
def mM : ℕ → FVec Ideal S256x1 .f32
  | 0 => rmax (sG 256 x0 x1 x2 cq ck r 0)
  | j + 1 => maximumf (mM j) (rmax (sG 256 x0 x1 x2 cq ck r (256 * (j + 1))))

/-- The running sums, lane by lane. -/
def lM : ℕ → FVec Ideal S256x128 .f32
  | 0 => halves (prob (sG 256 x0 x1 x2 cq ck r 0) (mM x0 x1 x2 cq ck r 0))
  | j + 1 => upd (mM x0 x1 x2 cq ck r j) (mM x0 x1 x2 cq ck r (j + 1)) (lM j)
      (halves (prob (sG 256 x0 x1 x2 cq ck r (256 * (j + 1))) (mM x0 x1 x2 cq ck r (j + 1))))

/-- The running weighted values. -/
def aM : ℕ → FVec Ideal S256x128 .f32
  | 0 => pvG 256 (truncf .bf16 (prob (sG 256 x0 x1 x2 cq ck r 0) (mM x0 x1 x2 cq ck r 0)) bitsLt_bf16_f32) (blk 256 128 x3 ck 0)
  | j + 1 => upd (mM x0 x1 x2 cq ck r j) (mM x0 x1 x2 cq ck r (j + 1)) (aM j)
      (pvG 256 (truncf .bf16 (prob (sG 256 x0 x1 x2 cq ck r (256 * (j + 1))) (mM x0 x1 x2 cq ck r (j + 1))) bitsLt_bf16_f32) (blk 256 128 x3 ck (256 * (j + 1))))

/-- The diagonal tile of block `i`. -/
def dT (i : ℕ) : FVec Ideal S256x256 .f32 := msk (sG 256 x0 x1 x2 cq ck (256 * i) (256 * i))

/-- What is stored for block `i` of the queries: the diagonal tile, masked, after the tiles before it. -/
def oT : ℕ → FVec Ideal S1x256x128 .bf16
  | 0 => fin (pvG 256 (truncf .bf16 (prob (dT x0 x1 x2 cq ck 0) (rmax (dT x0 x1 x2 cq ck 0))) bitsLt_bf16_f32) (blk 256 128 x3 ck 0))
      (halves (prob (dT x0 x1 x2 cq ck 0) (rmax (dT x0 x1 x2 cq ck 0))))
  | j + 1 =>
    fin (upd (mM x0 x1 x2 cq ck (256 * (j + 1)) j) (maximumf (mM x0 x1 x2 cq ck (256 * (j + 1)) j) (rmax (dT x0 x1 x2 cq ck (j + 1))))
          (aM x0 x1 x2 x3 cq ck (256 * (j + 1)) j)
          (pvG 256 (truncf .bf16 (prob (dT x0 x1 x2 cq ck (j + 1)) (maximumf (mM x0 x1 x2 cq ck (256 * (j + 1)) j) (rmax (dT x0 x1 x2 cq ck (j + 1)))))
            bitsLt_bf16_f32) (blk 256 128 x3 ck (256 * (j + 1)))))
      (upd (mM x0 x1 x2 cq ck (256 * (j + 1)) j) (maximumf (mM x0 x1 x2 cq ck (256 * (j + 1)) j) (rmax (dT x0 x1 x2 cq ck (j + 1))))
          (lM x0 x1 x2 cq ck (256 * (j + 1)) j)
          (halves (prob (dT x0 x1 x2 cq ck (j + 1)) (maximumf (mM x0 x1 x2 cq ck (256 * (j + 1)) j) (rmax (dT x0 x1 x2 cq ck (j + 1)))))))
end

/-! ## Reading the printed operations as these -/

/-- A read in range. -/
theorem rd_ix3 {a b c : ℕ} (x : (⟨3, ![a, b, c]⟩ : Shape).Idx → EReal) (i j k : ℕ) (hi : i < a) (hj : j < b) (hk : k < c) :
    rd x i j k = x (ValueIdx.ix3 ⟨i, hi⟩ ⟨j, hj⟩ ⟨k, hk⟩) := dif_pos ⟨hi, hj, hk⟩

/-- A staged block's rows and lanes, loaded and viewed with two axes. -/
theorem ld_blk {W M N c r : ℕ} (x : Vec Ideal (⟨3, ![1, 2048, W]⟩ : Shape) .bf16)
    (inb : ∀ a, (![0, r, c] : Fin 3 → ℕ) a + (![1, M, N] : Fin 3 → ℕ) a ≤ (⟨3, ![1, 2048, W]⟩ : Shape).size a)
    (hc : Shape.ShapeCasts (⟨3, ![1, M, N]⟩ : Shape) ⟨2, ![M, N]⟩) :
    @shapeCast _ (no_index _) (no_index (⟨2, ![M, N]⟩ : Shape)) (no_index (View.ld (Val := Elt Ideal) (e' := .bf16) x (Rect.unit (s := ⟨3, ![1, 2048, W]⟩) ![0, r, c] ![1, M, N] inb))) hc
      = blk M N x c r := by
  funext j
  have hr : r + M ≤ 2048 := inb 1
  have hl : c + N ≤ W := inb 2
  have j0 : (j 0).val < M := (j 0).isLt
  have j1 : (j 1).val < N := (j 1).isLt
  refine (shapeCast_dropUnit_apply ![M, N] _ hc j).trans ?_
  unfold blk
  rw [rd_ix3 x 0 _ _ (by omega) (by omega) (by omega)]
  refine congrArg x (funext fun a => Fin.ext ?_)
  match a with
  | ⟨0, _⟩ => rfl
  | ⟨1, _⟩ => exact congrArg (r + ·) (Nat.one_mul _)
  | ⟨2, _⟩ => exact congrArg (c + ·) (Nat.one_mul _)

/-- The keys of a tile: the head's own lanes beside the shared ones. -/
theorem cat_kT (x1 : Vec Ideal S1x2048x256 .bf16) (x2 : Vec Ideal S1x2048x128 .bf16) (c r : ℕ) (h) :
    concatenate S256x256 1 [⟨S256x128, blk 256 128 x1 c r⟩, ⟨S256x128, blk 256 128 x2 0 r⟩] h = kT x1 x2 c r := by
  funext j
  refine (concatenate_pair_apply (t := S256x256) 1 _ _ h j).trans ?_
  unfold kT
  by_cases hlt : (j 1).val < 128
  · refine (dif_pos hlt).trans ?_; rw [if_pos hlt, Shape.Idx.norm_def]; rfl
  · refine (dif_neg hlt).trans ?_; rw [if_neg hlt, Shape.Idx.norm_def]; rfl

/-- The same with the two loads spelt out. -/
theorem cat_ld {r c : ℕ} (x1 : Vec Ideal S1x2048x256 .bf16) (x2 : Vec Ideal S1x2048x128 .bf16)
    (inb1 : ∀ a, (![0, r, c] : Fin 3 → ℕ) a + (![1, 256, 128] : Fin 3 → ℕ) a ≤ (⟨3, ![1, 2048, 256]⟩ : Shape).size a)
    (inb2 : ∀ a, (![0, r, 0] : Fin 3 → ℕ) a + (![1, 256, 128] : Fin 3 → ℕ) a ≤ (⟨3, ![1, 2048, 128]⟩ : Shape).size a) (h1) (h2) (h) :
    @concatenate (no_index _) S256x256 1 (no_index [
      ⟨S256x128, shapeCast S256x128 (View.ld (Val := Elt Ideal) (e' := .bf16) x1 (Rect.unit (s := ⟨3, ![1, 2048, 256]⟩) ![0, r, c] ![1, 256, 128] inb1)) h1⟩,
      ⟨S256x128, shapeCast S256x128 (View.ld (Val := Elt Ideal) (e' := .bf16) x2 (Rect.unit (s := ⟨3, ![1, 2048, 128]⟩) ![0, r, 0] ![1, 256, 128] inb2)) h2⟩]) h
      = kT x1 x2 c r := by
  have e1 := ld_blk x1 inb1 h1
  have e2 := ld_blk x2 inb2 h2
  revert h
  erw [e1, e2]
  exact fun h => cat_kT x1 x2 c r h

/-- A block's rows of the scores are the scores of those rows. -/
theorem sG_slice {M o : ℕ} (x0 : Vec Ideal S1x2048x512 .bf16) (x1 : Vec Ideal S1x2048x256 .bf16) (x2 : Vec Ideal S1x2048x128 .bf16)
    (cq ck r c : ℕ) (hs : Shape.Slices (⟨2, ![M, 256]⟩ : Shape) ![o, 0] S256x256) :
    extractStridedSlice S256x256 ![o, 0] (sG M x0 x1 x2 cq ck r c) hs = sG 256 x0 x1 x2 cq ck (r + o) c := by
  funext ix
  show sG M x0 x1 x2 cq ck r c _ = _
  unfold sG
  refine Finset.sum_congr rfl fun d _ => ?_
  congr 1
  · exact congrArg (fun n => rd x0 0 n (cq + d.val)) (Nat.add_assoc _ _ _).symm
  · refine congrArg (fun i => kT x1 x2 ck c (ValueIdx.ix2 i d)) (Fin.ext (Nat.zero_add _))

theorem getElem_pk : ∀ (L : List ((s : Shape) × (s.Idx → EReal))) (k : ℕ) (hk : k < L.length) (hL : ∀ p ∈ L, p.1 = S256x256),
    L[k] = ⟨S256x256, pk L k⟩
  | [], _, hk, _ => absurd hk (Nat.not_lt_zero _)
  | ⟨s, f⟩ :: L, 0, _, hL => by
    obtain rfl : s = S256x256 := hL _ List.mem_cons_self
    simp [pk]
  | _ :: L, k + 1, hk, hL => getElem_pk L k (Nat.lt_of_succ_lt_succ hk) fun p hp => hL p (List.mem_cons_of_mem _ hp)

theorem pk_zero (f : FVec Ideal S256x256 .bf16) (L : List ((s : Shape) × (s.Idx → EReal))) : pk (⟨S256x256, f⟩ :: L) 0 = f := by
  simp [pk]
theorem pk_succ (q : (s : Shape) × (s.Idx → EReal)) (L : List ((s : Shape) × (s.Idx → EReal))) (k : ℕ) : pk (q :: L) (k + 1) = pk L k := rfl

/-- A block's rows of stacked weights times values are that block's weights times the values. -/
theorem pvG_slice {M o : ℕ} (L : List ((s : Shape) × (s.Idx → EReal))) (v : FVec Ideal S256x128 .bf16)
    (hc : Shape.Concatenates (L.map (·.1)) (⟨2, ![M, 256]⟩ : Shape) 0) (hs : Shape.Slices (⟨2, ![M, 128]⟩ : Shape) ![o, 0] S256x128)
    (hL : ∀ p ∈ L, p.1 = S256x256) (hk : o / 256 < L.length) (ho : 256 * (o / 256) = o) :
    extractStridedSlice S256x128 ![o, 0] (pvG M (concatenate (⟨2, ![M, 256]⟩ : Shape) 0 L hc) v) hs = pvG 256 (pk L (o / 256)) v := by
  funext ix
  show pvG M _ _ _ = _
  unfold pvG
  refine Finset.sum_congr rfl fun d _ => ?_
  congr 1
  · refine concatenate_apply_piece 0 L hc _ (o / 256) hk S256x256 _ (getElem_pk L _ hk hL) rfl o ?_ _ ?_ ?_
    · have : ((L.take (o / 256)).map (·.1)).map (fun s : Shape => if h : s.rank = 2 then s.size ((0 : Fin 2).cast h.symm) else 0)
          = List.replicate (o / 256) 256 := by
        refine List.eq_replicate_iff.2 ⟨by simp; omega, fun b hb => ?_⟩
        simp only [List.mem_map] at hb
        obtain ⟨s, ⟨q, hq, rfl⟩, rfl⟩ := hb
        rw [hL q (List.mem_of_mem_take hq)]; rfl
      refine (congrArg List.sum this).trans ?_
      rw [List.sum_replicate, smul_eq_mul]; omega
    · intro b hb
      match b with
      | ⟨0, _⟩ => exact absurd rfl hb
      | ⟨1, _⟩ => rfl
    · rfl
  · refine congrArg (fun i => v (ValueIdx.ix2 d i)) (Fin.ext (Nat.zero_add _))

/-- A product of the queries' rows with the keys' is the scores. -/
theorem matmul_sG {M : ℕ} (D : DotDims (⟨2, ![M, 256]⟩ : Shape) S256x256 ⟨2, ![M, 256]⟩) (hD : D = DotDims.transposedRhs M 256 256)
    (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) D none (blk M 256 x0 cq r) (kT x1 x2 ck c) (constant (⟨2, ![M, 256]⟩ : Shape) .f32 0x00000000#32)
      = sG M x0 x1 x2 cq ck r c := by
  subst hD
  funext ix
  have e : ix = ValueIdx.ix2 (ix 0) (ix 1) := by
    funext a
    match a with
    | ⟨0, _⟩ => rfl
    | ⟨1, _⟩ => rfl
  rw [e]
  refine (Ideal.matmul_transposedRhs_apply none _ _ _ (ix 0) (ix 1)).trans ?_
  exact (congrArg (· + _) (Ideal.ofBits_zero .f32)).trans (zero_add _)

/-- A product of weights with values. -/
theorem matmul_pvG {M : ℕ} (D : DotDims (⟨2, ![M, 256]⟩ : Shape) S256x128 ⟨2, ![M, 128]⟩) (hD : D = DotDims.plain M 256 128)
    (p : FVec Ideal (⟨2, ![M, 256]⟩ : Shape) .bf16) (v : FVec Ideal S256x128 .bf16) :
    matmul (F := Ideal) D none p v (constant (⟨2, ![M, 128]⟩ : Shape) .f32 0x00000000#32) = pvG M p v := by
  subst hD
  funext ix
  have e : ix = ValueIdx.ix2 (ix 0) (ix 1) := by
    funext a
    match a with
    | ⟨0, _⟩ => rfl
    | ⟨1, _⟩ => rfl
  rw [e]
  refine (Ideal.matmul_plain_apply none _ _ _ (ix 0) (ix 1)).trans ?_
  exact (congrArg (· + _) (Ideal.ofBits_zero .f32)).trans (zero_add _)

/-! ## The body's stores -/

/-- The largest scores of a tile's rows, as printed. -/
theorem rmax_eq (s : FVec Ideal S256x256 .f32) (h1) (h2) (h3 : 0xFF800000#32 = 0xFF800000#32) (h4) :
    @shapeCast _ (no_index _) S256x1 (no_index (multiReduction (F := Ideal) .maximumf [1] S256 s 0xFF800000#32 h1 h2 h3)) h4 = rmax s := rfl
theorem prob_eq (s : FVec Ideal S256x256 .f32) (m : FVec Ideal S256x1 .f32) :
    exp2 (subf s (broadcastTo S256x256 m broadcasts_S256x1_S256x256)) = prob s m := rfl
theorem halves_eq (p : FVec Ideal S256x256 .f32) :
    addf (extractStridedSlice S256x128 ![0, 0] p slices_S256x256_o0_0_S256x128)
      (extractStridedSlice S256x128 ![0, 128] p slices_S256x256_o0_128_S256x128) = halves p := rfl
theorem upd_eq (m m' : FVec Ideal S256x1 .f32) (old new : FVec Ideal S256x128 .f32) :
    addf (mulf (broadcastTo S256x128 (exp2 (subf m m')) broadcasts_S256x1_S256x128) old) new = upd m m' old new := rfl
theorem fin_eq (acc l : FVec Ideal S256x128 .f32) (h1) (h2) (h3 : 0x00000000#32 = 0x00000000#32) (h4) (h5) (h6) (h7) :
    @shapeCast _ (no_index _) S1x256x128 (no_index (truncf (F := Ideal) .bf16 (divf acc (broadcastTo S256x128
      (shapeCast S256x1 (multiReduction .add [1] S256 l 0x00000000#32 h1 h2 h3) h4)
      h5)) h6)) h7 = fin acc l := rfl
theorem msk_eq (s : FVec Ideal S256x256 .f32) :
    select (k0_pay7 k0_pay2 k0_pay3 k0_pay4 k0_pay5 k0_pay6) s (broadcast S256x256 (Named.named (F := Ideal) κ "mask" 0xF149F2CA#32)) = msk s := rfl

section
variable (x0 : Vec Ideal S1x2048x512 .bf16) (x1 : Vec Ideal S1x2048x256 .bf16) (x2 : Vec Ideal S1x2048x128 .bf16)
  (x3 : Vec Ideal S1x2048x256 .bf16) (cq ck r : ℕ)

theorem mM_zero : rmax (sG 256 x0 x1 x2 cq ck r 0) = mM x0 x1 x2 cq ck r 0 := rfl
theorem mM_succ {j c : ℕ} (hc : c = 256 * (j + 1)) :
    maximumf (mM x0 x1 x2 cq ck r j) (rmax (sG 256 x0 x1 x2 cq ck r c)) = mM x0 x1 x2 cq ck r (j + 1) := by subst hc; rfl
theorem lM_zero : halves (prob (sG 256 x0 x1 x2 cq ck r 0) (mM x0 x1 x2 cq ck r 0)) = lM x0 x1 x2 cq ck r 0 := rfl
theorem lM_succ {j j' c : ℕ} (hj : j' = j + 1) (hc : c = 256 * j') :
    upd (mM x0 x1 x2 cq ck r j) (mM x0 x1 x2 cq ck r j') (lM x0 x1 x2 cq ck r j)
      (halves (prob (sG 256 x0 x1 x2 cq ck r c) (mM x0 x1 x2 cq ck r j'))) = lM x0 x1 x2 cq ck r j' := by subst hj; subst hc; rfl
theorem aM_zero : pvG 256 (truncf .bf16 (prob (sG 256 x0 x1 x2 cq ck r 0) (mM x0 x1 x2 cq ck r 0)) bitsLt_bf16_f32) (blk 256 128 x3 ck 0)
    = aM x0 x1 x2 x3 cq ck r 0 := rfl
theorem aM_succ {j j' c : ℕ} (hj : j' = j + 1) (hc : c = 256 * j') :
    upd (mM x0 x1 x2 cq ck r j) (mM x0 x1 x2 cq ck r j') (aM x0 x1 x2 x3 cq ck r j)
      (pvG 256 (truncf .bf16 (prob (sG 256 x0 x1 x2 cq ck r c) (mM x0 x1 x2 cq ck r j')) bitsLt_bf16_f32) (blk 256 128 x3 ck c))
      = aM x0 x1 x2 x3 cq ck r j' := by subst hj; subst hc; rfl
end

end Cert.Mla

end
-- ==== Proof.Mla.Reads.lean ====
/- The tile operations of the latent attention's call, read at an index over the extended reals. -/
module

public import proofs.«01_k».proof.Proof.Mla.Tiles
public import Idealize.ShloMosaic.Lib.Pointwise.IndexVar

@[expose] public section

set_option maxRecDepth 16384

noncomputable section

namespace Cert.Mla

open Idealize.ShloMosaic Cert.KernelIdeal Cert.KernelIdeal.Gen

/-- Minus infinity's word. -/
theorem negInf : Ideal.ofBits .f32 0xFF800000#32 = ⊥ := by simp [Ideal.ofBits, Ideal.ieee]

theorem rmax_apply (s : FVec Ideal S256x256 .f32) (a : Fin 256) :
    rmax s (ValueIdx.ix2 a 0) = Finset.univ.fold max ⊥ fun k : Fin 256 => s (ValueIdx.ix2 a k) := by
  unfold rmax
  pointwise
  rw [negInf]
  rfl

theorem prob_apply (s : FVec Ideal S256x256 .f32) (m : FVec Ideal S256x1 .f32) (a k : Fin 256) :
    prob s m (ValueIdx.ix2 a k) = Ideal.exp2 (s (ValueIdx.ix2 a k) - m (ValueIdx.ix2 a 0)) := by
  unfold prob
  pointwise
  rfl

theorem halves_apply (p : FVec Ideal S256x256 .f32) (a : Fin 256) (t : Fin 128) :
    halves p (ValueIdx.ix2 a t) = p (ValueIdx.ix2 a ⟨t.val, by omega⟩) + p (ValueIdx.ix2 a ⟨128 + t.val, by omega⟩) := by
  unfold halves
  pointwise
  rfl

theorem upd_apply (m m' : FVec Ideal S256x1 .f32) (old new : FVec Ideal S256x128 .f32) (a : Fin 256) (d : Fin 128) :
    upd m m' old new (ValueIdx.ix2 a d)
      = Ideal.exp2 (m (ValueIdx.ix2 a 0) - m' (ValueIdx.ix2 a 0)) * old (ValueIdx.ix2 a d) + new (ValueIdx.ix2 a d) := by
  unfold upd
  pointwise
  rfl

theorem fin_apply (acc l : FVec Ideal S256x128 .f32) (a : Fin 256) (d : Fin 128) :
    fin acc l (ValueIdx.ix3 0 a d) = Ideal.div (acc (ValueIdx.ix2 a d)) (∑ t : Fin 128, l (ValueIdx.ix2 a t)) := by
  unfold fin
  pointwise
  rfl

/-- The chunk of a position, as the program computes it: the floor of the position over 64. -/
def chunkW (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem chunkW_eq (n : Fin 2048) : chunkW n.val = BitVec.ofNat 32 (n.val / 64) := by
  revert n; decide +kernel

theorem sle_eq (a b : Fin 32) : IntOp.cmpi CmpIPredicate.sle (BitVec.ofNat 32 a.val) (BitVec.ofNat 32 b.val) = if a.val ≤ b.val then 1#1 else 0#1 := by
  revert a b; decide +kernel

theorem sle_chunk (k a : ℕ) (hk : k < 2048) (ha : a < 2048) :
    IntOp.cmpi CmpIPredicate.sle (BitVec.ofNat 32 (k / 64)) (BitVec.ofNat 32 (a / 64)) = if k / 64 ≤ a / 64 then 1#1 else 0#1 :=
  sle_eq ⟨k / 64, by omega⟩ ⟨a / 64, by omega⟩

theorem mk_apply (a k : Fin 256) :
    mk (ValueIdx.ix2 a k) = IntOp.cmpi CmpIPredicate.sle (chunkW k.val) (chunkW a.val) := by
  unfold mk k0_pay7 k0_pay2 k0_pay3 k0_pay4 k0_pay5 k0_pay6
  pointwise
  rfl

theorem msk_apply (s : FVec Ideal S256x256 .f32) (a k : Fin 256) :
    msk s (ValueIdx.ix2 a k) = if k.val / 64 ≤ a.val / 64 then s (ValueIdx.ix2 a k) else ⊥ := by
  unfold msk
  pointwise
  rw [mk_apply, chunkW_eq ⟨k.val, by omega⟩, chunkW_eq ⟨a.val, by omega⟩, sle_chunk k.val a.val (by omega) (by omega),
    IdealRules.named_const.ideal_named_scalar κ "mask" (φ := .f32) 0xF149F2CA#32 ⊥ rfl]
  by_cases h : k.val / 64 ≤ a.val / 64
  · simp [h, Scalar.select]
  · simp [h, Scalar.select, κ]

end Cert.Mla

end
-- ==== Proof.Mla.Row.lean ====
/- One row of an online softmax over the extended reals: the running maximum, sum and weighted values after some tiles
   of scores, some of them minus infinity, are those of the scores so far under the maximum. -/
module

public import Idealize.ShloMosaic.PureOps.Ideal
public import Idealize.ShloMosaic.Lib.Pointwise

@[expose] public section

noncomputable section

namespace Cert.Mla

open Idealize.ShloMosaic Finset

/-- A row's score at a column: the real `y c` where the column is kept, minus infinity elsewhere. -/
def zS (ok : ℕ → Prop) [DecidablePred ok] (y : ℕ → ℝ) (c : ℕ) : EReal := if ok c then (y c : EReal) else ⊥

/-- A column's weight under the row maximum `m`, in powers of two. -/
def wS (ok : ℕ → Prop) [DecidablePred ok] (y : ℕ → ℝ) (m : ℝ) (c : ℕ) : ℝ := if ok c then (2 : ℝ) ^ (y c - m) else 0

variable {ok : ℕ → Prop} [DecidablePred ok] {y : ℕ → ℝ}

theorem wS_nonneg (m : ℝ) (c : ℕ) : 0 ≤ wS ok y m c := by
  unfold wS; split
  · positivity
  · exact le_rfl

theorem exp2_coe (r : ℝ) : Ideal.exp2 (r : EReal) = (((2 : ℝ) ^ r : ℝ) : EReal) := rfl

theorem exp2_zS (m : ℝ) (c : ℕ) : Ideal.exp2 (zS ok y c - (m : EReal)) = (wS ok y m c : EReal) := by
  unfold zS wS
  split
  · rw [← EReal.coe_sub, exp2_coe]
  · rw [EReal.bot_sub]; rfl

theorem exp2_sub (m m' : ℝ) : Ideal.exp2 ((m : EReal) - (m' : EReal)) = (((2 : ℝ) ^ (m - m') : ℝ) : EReal) := by
  rw [← EReal.coe_sub, exp2_coe]

theorem rescale (m m' : ℝ) (c : ℕ) : (2 : ℝ) ^ (m - m') * wS ok y m c = wS ok y m' c := by
  unfold wS
  split
  · rw [← Real.rpow_add (by norm_num)]; congr 1; ring
  · simp

/-- The maximum of scores, one of them kept, is real. -/
theorem fold_real {n : ℕ} (f : Fin n → ℕ) (k : Fin n) (hk : ok (f k)) :
    ∃ m : ℝ, (univ.fold max ⊥ fun i : Fin n => zS ok y (f i)) = (m : EReal) := by
  have hlt : (univ.fold max ⊥ fun i : Fin n => zS ok y (f i)) < ⊤ := by
    rw [Finset.fold_max_lt]
    refine ⟨bot_lt_top, fun i _ => ?_⟩
    unfold zS; split
    · exact EReal.coe_lt_top _
    · exact bot_lt_top
  have hgt : ⊥ < (univ.fold max ⊥ fun i : Fin n => zS ok y (f i)) := by
    rw [Finset.lt_fold_max]
    exact Or.inr ⟨k, mem_univ k, by unfold zS; rw [if_pos hk]; exact EReal.bot_lt_coe _⟩
  exact ⟨_, (EReal.coe_toReal hlt.ne hgt.ne').symm⟩

/-- The larger of a real maximum and the maximum of a tile's scores is real. -/
theorem max_real {n : ℕ} (m : ℝ) (f : Fin n → ℕ) :
    ∃ m' : ℝ, max (m : EReal) (univ.fold max ⊥ fun i : Fin n => zS ok y (f i)) = (m' : EReal) := by
  have hlt : (univ.fold max ⊥ fun i : Fin n => zS ok y (f i)) < ⊤ := by
    rw [Finset.fold_max_lt]
    refine ⟨bot_lt_top, fun i _ => ?_⟩
    unfold zS; split
    · exact EReal.coe_lt_top _
    · exact bot_lt_top
  refine ⟨_, (EReal.coe_toReal (max_lt (EReal.coe_lt_top m) hlt).ne ?_).symm⟩
  exact (lt_of_lt_of_le (EReal.bot_lt_coe m) (le_max_left _ _)).ne'

/-- A real factor that is not negative goes into a sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [sum_insert hi, sum_insert hi, EReal.left_distrib_of_nonneg_of_ne_top (EReal.coe_nonneg.2 ha) (EReal.coe_ne_top a), ih]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- What is held of a row after `N` columns: its maximum, 128 partial sums of the weights, and the weighted values. -/
def Held (ok : ℕ → Prop) [DecidablePred ok] (y : ℕ → ℝ) (V : ℕ → Fin 128 → EReal) (N : ℕ) (M : EReal)
    (L A : Fin 128 → EReal) : Prop :=
  ∃ (m : ℝ) (l : Fin 128 → ℝ), M = (m : EReal) ∧ (∀ t, L t = (l t : EReal)) ∧ (∑ t, l t = ∑ c ∈ range N, wS ok y m c) ∧
    ∀ d, A d = ∑ c ∈ range N, (wS ok y m c : EReal) * V c d

theorem sum_halves (g : ℕ → ℝ) : ∑ t : Fin 128, (g t.val + g (128 + t.val)) = ∑ c ∈ range 256, g c := by
  rw [sum_add_distrib, Fin.sum_univ_eq_sum_range (fun n => g n) 128, Fin.sum_univ_eq_sum_range (fun n => g (128 + n)) 128,
    ← sum_range_add g 128 128]

/-- The first tile. -/
theorem held_first {V : ℕ → Fin 128 → EReal} (h0 : ok 0) {M : EReal} {L A : Fin 128 → EReal}
    (hM : M = univ.fold max ⊥ fun k : Fin 256 => zS ok y k.val)
    (hL : ∀ t : Fin 128, L t = Ideal.exp2 (zS ok y t.val - M) + Ideal.exp2 (zS ok y (128 + t.val) - M))
    (hA : ∀ d, A d = ∑ k : Fin 256, Ideal.exp2 (zS ok y k.val - M) * V k.val d) : Held ok y V 256 M L A := by
  obtain ⟨m, hm⟩ := fold_real (ok := ok) (y := y) (fun k : Fin 256 => k.val) 0 h0
  have hMm : M = (m : EReal) := hM.trans hm
  refine ⟨m, fun t => wS ok y m t.val + wS ok y m (128 + t.val), hMm, fun t => ?_, sum_halves _, fun d => ?_⟩
  · rw [hL, hMm, exp2_zS, exp2_zS, EReal.coe_add]
  · rw [hA, hMm, ← Fin.sum_univ_eq_sum_range (fun c => (wS ok y m c : EReal) * V c d) 256]
    exact sum_congr rfl fun k _ => by rw [exp2_zS]

/-- A further tile. -/
theorem held_next {V : ℕ → Fin 128 → EReal} {N : ℕ} {M M' : EReal} {L A L' A' : Fin 128 → EReal} (h : Held ok y V N M L A)
    (hM : M' = max M (univ.fold max ⊥ fun k : Fin 256 => zS ok y (N + k.val)))
    (hL : ∀ t : Fin 128, L' t = Ideal.exp2 (M - M') * L t + (Ideal.exp2 (zS ok y (N + t.val) - M') + Ideal.exp2 (zS ok y (N + (128 + t.val)) - M')))
    (hA : ∀ d, A' d = Ideal.exp2 (M - M') * A d + ∑ k : Fin 256, Ideal.exp2 (zS ok y (N + k.val) - M') * V (N + k.val) d) :
    Held ok y V (N + 256) M' L' A' := by
  obtain ⟨m, l, rfl, hl, hs, ha⟩ := h
  obtain ⟨m', hm'⟩ := max_real (ok := ok) (y := y) m (fun k : Fin 256 => N + k.val)
  have hMm : M' = (m' : EReal) := hM.trans hm'
  have hα : (0 : ℝ) ≤ 2 ^ (m - m') := by positivity
  refine ⟨m', fun t => 2 ^ (m - m') * l t + (wS ok y m' (N + t.val) + wS ok y m' (N + (128 + t.val))), hMm, fun t => ?_, ?_, fun d => ?_⟩
  · rw [hL, hMm, exp2_sub, exp2_zS, exp2_zS, hl, EReal.coe_add, EReal.coe_add, EReal.coe_mul]
  · rw [sum_add_distrib, ← mul_sum, hs, mul_sum, sum_halves (fun n => wS ok y m' (N + n)), sum_range_add]
    exact congrArg (· + _) (sum_congr rfl fun c _ => rescale m m' c)
  · rw [hA, hMm, exp2_sub, ha, coe_mul_sum _ _ hα, sum_range_add,
      ← Fin.sum_univ_eq_sum_range (fun c => (wS ok y m' (N + c) : EReal) * V (N + c) d) 256]
    refine congrArg₂ (· + ·) (sum_congr rfl fun c _ => ?_) (sum_congr rfl fun k _ => by rw [exp2_zS])
    rw [← mul_assoc, ← EReal.coe_mul, rescale]

/-- A column's share of the row's weights. -/
def pS (ok : ℕ → Prop) [DecidablePred ok] (y : ℕ → ℝ) (N : ℕ) (c : ℕ) : ℝ := wS ok y 0 c / ∑ c' ∈ range N, wS ok y 0 c'

theorem sum_pos {N : ℕ} (h0 : ok 0) (hN : 0 < N) (m : ℝ) : 0 < ∑ c ∈ range N, wS ok y m c :=
  Finset.sum_pos' (fun c _ => wS_nonneg m c) ⟨0, mem_range.2 hN, by unfold wS; rw [if_pos h0]; positivity⟩

theorem share_eq (N : ℕ) (m : ℝ) (c : ℕ) : wS ok y m c / ∑ c' ∈ range N, wS ok y m c' = pS ok y N c := by
  unfold pS
  have e : ∀ c, wS ok y m c = 2 ^ (-m) * wS ok y 0 c := fun c => by
    rw [← rescale (ok := ok) (y := y) 0 m c, zero_sub]
  rw [sum_congr rfl fun c _ => e c, e c, ← mul_sum, mul_div_mul_left]
  positivity

/-- The stored quotient is the values weighted by the shares. -/
theorem held_div {V : ℕ → Fin 128 → EReal} {N : ℕ} {M : EReal} {L A : Fin 128 → EReal} (h : Held ok y V N M L A) (h0 : ok 0) (hN : 0 < N)
    (d : Fin 128) : Ideal.div (A d) (∑ t, L t) = ∑ c ∈ range N, (pS ok y N c : EReal) * V c d := by
  obtain ⟨m, l, rfl, hl, hs, ha⟩ := h
  have hp := sum_pos (y := y) h0 hN m
  have hsum : ∑ t, L t = ((∑ c ∈ range N, wS ok y m c : ℝ) : EReal) := by
    rw [← hs, coe_sum]; exact sum_congr rfl fun t _ => hl t
  have hne : ((∑ c ∈ range N, wS ok y m c : ℝ) : EReal) ≠ 0 := by
    rw [Ne, EReal.coe_eq_zero]; exact hp.ne'
  rw [hsum, ha]
  unfold Ideal.div
  rw [if_neg hne, ← EReal.coe_inv, mul_comm, coe_mul_sum _ _ (inv_nonneg.2 hp.le)]
  refine sum_congr rfl fun c _ => ?_
  rw [← mul_assoc, ← EReal.coe_mul, ← share_eq N m c, div_eq_inv_mul]

/-- Columns that are not kept have no share. -/
theorem share_ext {V : ℕ → Fin 128 → EReal} {N N' : ℕ} (hN : N ≤ N') (hok : ∀ c, N ≤ c → ¬ ok c) (d : Fin 128) :
    ∑ c ∈ range N, (pS ok y N c : EReal) * V c d = ∑ c ∈ range N', (pS ok y N' c : EReal) * V c d := by
  have z : ∀ c, N ≤ c → wS ok y 0 c = 0 := fun c hc => by unfold wS; rw [if_neg (hok c hc)]
  have hs : ∑ c ∈ range N, wS ok y 0 c = ∑ c ∈ range N', wS ok y 0 c :=
    sum_subset (range_subset_range.2 hN) fun c _ hc => z c (by simpa using hc)
  have hp : ∀ c, pS ok y N c = pS ok y N' c := fun c => by unfold pS; rw [hs]
  rw [sum_congr rfl fun c _ => by rw [hp c]]
  refine sum_subset (range_subset_range.2 hN) fun c _ hc => ?_
  unfold pS
  rw [z c (by simpa using hc), zero_div, EReal.coe_zero, zero_mul]

end Cert.Mla

end
-- ==== Proof.Mla.Block.lean ====
/- What is stored for a block of queries: each row's values weighted by the shares of the row's kept columns. -/
module

public import proofs.«01_k».proof.Proof.Mla.Reads
public import proofs.«01_k».proof.Proof.Mla.Row

@[expose] public section

set_option maxRecDepth 16384

noncomputable section

namespace Cert.Mla

open Idealize.ShloMosaic Cert.KernelIdeal Cert.KernelIdeal.Gen

/-- The score of a query's row against a key's. -/
def score (x0 : Vec Ideal S1x2048x512 .bf16) (x1 : Vec Ideal S1x2048x256 .bf16) (x2 : Vec Ideal S1x2048x128 .bf16)
    (cq ck q c : ℕ) : EReal :=
  ∑ d : Fin 256, rd x0 0 q (cq + d.val) * (if d.val < 128 then rd x1 0 c (ck + d.val) else rd x2 0 c (0 + (d.val - 128)))

/-- A query keeps the keys of its own chunk of 64 and of the chunks before. -/
abbrev keeps (q c : ℕ) : Prop := c / 64 ≤ q / 64

section
variable {x0 : Vec Ideal S1x2048x512 .bf16} {x1 : Vec Ideal S1x2048x256 .bf16} {x2 : Vec Ideal S1x2048x128 .bf16}
  {x3 : Vec Ideal S1x2048x256 .bf16} {cq ck : ℕ}

theorem sG_apply (r c : ℕ) (a k : Fin 256) :
    sG 256 x0 x1 x2 cq ck r c (ValueIdx.ix2 a k) = score x0 x1 x2 cq ck (r + a.val) (c + k.val) := rfl

variable {i : ℕ} {a : Fin 256} {y : ℕ → ℝ}

/-- A tile before the diagonal keeps every column. -/
theorem tile_off (hy : ∀ c < 2048, score x0 x1 x2 cq ck (256 * i + a.val) c = (y c : EReal)) (hi : i < 8) {c : ℕ} (hc : c + 256 ≤ 256 * i)
    (k : Fin 256) : sG 256 x0 x1 x2 cq ck (256 * i) c (ValueIdx.ix2 a k) = zS (keeps (256 * i + a.val)) y (c + k.val) := by
  rw [sG_apply, hy _ (by omega)]
  unfold zS
  rw [if_pos (show (c + k.val) / 64 ≤ (256 * i + a.val) / 64 by omega)]

/-- The tile on the diagonal, masked. -/
theorem tile_diag (hy : ∀ c < 2048, score x0 x1 x2 cq ck (256 * i + a.val) c = (y c : EReal)) (hi : i < 8)
    (k : Fin 256) : dT x0 x1 x2 cq ck i (ValueIdx.ix2 a k) = zS (keeps (256 * i + a.val)) y (256 * i + k.val) := by
  unfold dT
  rw [msk_apply, sG_apply, hy _ (by omega)]
  unfold zS keeps
  by_cases h : k.val / 64 ≤ a.val / 64
  · rw [if_pos h, if_pos (by omega)]
  · rw [if_neg h, if_neg (by omega)]

/-- The values of a column. -/
abbrev vals (x3 : Vec Ideal S1x2048x256 .bf16) (ck : ℕ) (c : ℕ) (d : Fin 128) : EReal := rd x3 0 c (ck + d.val)

theorem pvG_apply (p : FVec Ideal S256x256 .bf16) (r : ℕ) (d : Fin 128) :
    pvG 256 p (blk 256 128 x3 ck r) (ValueIdx.ix2 a d) = ∑ k : Fin 256, p (ValueIdx.ix2 a k) * vals x3 ck (r + k.val) d := rfl

theorem truncf_apply' (p : FVec Ideal S256x256 .f32) (h) (ix : S256x256.Idx) : truncf (F := Ideal) .bf16 p h ix = p ix := rfl
theorem maximumf_apply' (p q : FVec Ideal S256x1 .f32) (ix : S256x1.Idx) : maximumf (F := Ideal) p q ix = max (p ix) (q ix) := rfl

/-- The state after a first tile, from its scores. -/
theorem first_tile (s : FVec Ideal S256x256 .f32) (h0 : keeps (256 * i + a.val) 0)
    (hs : ∀ k : Fin 256, s (ValueIdx.ix2 a k) = zS (keeps (256 * i + a.val)) y k.val) :
    Held (keeps (256 * i + a.val)) y (vals x3 ck) 256 (rmax s (ValueIdx.ix2 a 0)) (fun t => halves (prob s (rmax s)) (ValueIdx.ix2 a t))
      (fun d => pvG 256 (truncf .bf16 (prob s (rmax s)) bitsLt_bf16_f32) (blk 256 128 x3 ck 0) (ValueIdx.ix2 a d)) := by
  refine held_first h0 ?_ (fun t => ?_) fun d => ?_
  · rw [rmax_apply]; exact congrArg (fun f => Finset.univ.fold max ⊥ f) (funext hs)
  · rw [halves_apply, prob_apply, prob_apply, hs, hs]
  · rw [pvG_apply]
    refine Finset.sum_congr rfl fun k _ => ?_
    rw [truncf_apply', prob_apply, hs, Nat.zero_add]

/-- The state after a further tile, from its scores. -/
theorem next_tile {N : ℕ} {M : FVec Ideal S256x1 .f32} {L A : FVec Ideal S256x128 .f32} (s : FVec Ideal S256x256 .f32)
    (h : Held (keeps (256 * i + a.val)) y (vals x3 ck) N (M (ValueIdx.ix2 a 0)) (fun t => L (ValueIdx.ix2 a t)) (fun d => A (ValueIdx.ix2 a d)))
    (hs : ∀ k : Fin 256, s (ValueIdx.ix2 a k) = zS (keeps (256 * i + a.val)) y (N + k.val)) :
    Held (keeps (256 * i + a.val)) y (vals x3 ck) (N + 256) (maximumf M (rmax s) (ValueIdx.ix2 a 0))
      (fun t => upd M (maximumf M (rmax s)) L (halves (prob s (maximumf M (rmax s)))) (ValueIdx.ix2 a t))
      (fun d => upd M (maximumf M (rmax s)) A
        (pvG 256 (truncf .bf16 (prob s (maximumf M (rmax s))) bitsLt_bf16_f32) (blk 256 128 x3 ck N)) (ValueIdx.ix2 a d)) := by
  refine held_next h ?_ (fun t => ?_) fun d => ?_
  · rw [maximumf_apply', rmax_apply]; exact congrArg (fun f => max _ (Finset.univ.fold max ⊥ f)) (funext hs)
  · rw [upd_apply, halves_apply, prob_apply, prob_apply, hs, hs]
  · rw [upd_apply, pvG_apply]
    refine congrArg (_ + ·) (Finset.sum_congr rfl fun k _ => ?_)
    rw [truncf_apply', prob_apply, hs]

/-- The state after the tiles before the diagonal. -/
theorem held_state (hy : ∀ c < 2048, score x0 x1 x2 cq ck (256 * i + a.val) c = (y c : EReal)) (hi : i < 8) : ∀ j, j < i →
    Held (keeps (256 * i + a.val)) y (vals x3 ck) (256 * (j + 1)) (mM x0 x1 x2 cq ck (256 * i) j (ValueIdx.ix2 a 0))
      (fun t => lM x0 x1 x2 cq ck (256 * i) j (ValueIdx.ix2 a t)) (fun d => aM x0 x1 x2 x3 cq ck (256 * i) j (ValueIdx.ix2 a d))
  | 0, hj => first_tile _ (Nat.zero_le _) fun k => by rw [tile_off hy hi (by omega), Nat.zero_add]
  | j + 1, hj => next_tile _ (held_state hy hi j (by omega)) fun k => tile_off hy hi (by omega) k

/-- The block that is stored. -/
theorem oT_apply (hy : ∀ c < 2048, score x0 x1 x2 cq ck (256 * i + a.val) c = (y c : EReal)) (hi : i < 8) (d : Fin 128) :
    oT x0 x1 x2 x3 cq ck i (ValueIdx.ix3 0 a d)
      = ∑ c ∈ Finset.range 2048, (pS (keeps (256 * i + a.val)) y 2048 c : EReal) * rd x3 0 c (ck + d.val) := by
  have h0 : keeps (256 * i + a.val) 0 := Nat.zero_le _
  have hfar : ∀ c, 256 * (i + 1) ≤ c → ¬ keeps (256 * i + a.val) c := fun c hc => by unfold keeps; omega
  have hlast : oT x0 x1 x2 x3 cq ck i (ValueIdx.ix3 0 a d)
      = ∑ c ∈ Finset.range (256 * (i + 1)), (pS (keeps (256 * i + a.val)) y (256 * (i + 1)) c : EReal) * vals x3 ck c d := by
    match i, hi, hy with
    | 0, hi, hy =>
      exact (fin_apply _ _ a d).trans (held_div (first_tile (dT x0 x1 x2 cq ck 0) h0 fun k =>
        (tile_diag hy hi k).trans (congrArg (zS _ y) (Nat.zero_add _))) h0 (by omega) d)
    | j + 1, hi, hy =>
      exact (fin_apply _ _ a d).trans (held_div (next_tile (dT x0 x1 x2 cq ck (j + 1)) (held_state hy hi j (Nat.lt_succ_self j))
        fun k => tile_diag hy hi k) h0 (by omega) d)
  rw [hlast]
  exact share_ext (by omega) hfar d

end

end Cert.Mla

end
-- ==== Proof.Mla.RefRead.lean ====
/- The reference's value, stage by stage, read at an index. -/
module

public import proofs.«01_k».proof.Proof.Mla.Reads
public import proofs.«01_k».proof.Proof.Mla.Block
public import proofs.«01_k».proof.Proof.Gen.ReferenceIdeal.Run

@[expose] public section

set_option maxRecDepth 16384

noncomputable section

namespace Cert.Mla

open Idealize.ShloMosaic Cert.ReferenceIdeal Cert.ReferenceIdeal.Gen

/-- The chunk of each position. -/
def rChunk : IVec S2048 32 :=
  (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))

/-- The mask of the scores. -/
def rMask : IVec S16x8x2048x2048 1 :=
  (broadcastInDim S16x8x2048x2048 ![0, 1, 2, 3] bcast_S1x1x2048x2048_S16x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 rChunk)) (broadcastInDim S2048x2048 ![0, 1] bcast_S2048x1_S2048x2048_0_1 (broadcastInDim S2048x1 ![0] bcast_S2048_S2048x1_0 rChunk)))))

section
variable (A0 : FVec Ideal S16x2048x8x128 .f32) (A1 : FVec Ideal S16x2048x8x64 .f32) (A2 : FVec Ideal S16x2048x8x128 .f32)
  (A3 : FVec Ideal S16x2048x64 .f32) (A4 : FVec Ideal S16x2048x8x128 .f32)

/-- The scores. -/
def rRaw : FVec Ideal S16x8x2048x2048 .f32 :=
  (mulf (addf (Host.dotGeneral dot_S16x2048x8x128_S16x2048x8x128_S16x8x2048x2048_3_3_1_1_02_02 none A0 A2) (transpose S16x8x2048x2048 [0, 3, 2, 1] (Host.dotGeneral dot_S16x2048x64_S16x2048x8x64_S16x2048x2048x8_2_3_1_12_0_0 none A3 A1) transposes_S16x2048x2048x8_S16x8x2048x2048_0_3_2_1)) (broadcastInDim S16x8x2048x2048 ![] bcast_S_S16x8x2048x2048 (Host.divf (constant S_ .f32 0x3F800000#32) (Host.sqrt (constant S_ .f32 0x43400000#32)))))

/-- The masked scores. -/
def rX : FVec Ideal S16x8x2048x2048 .f32 :=
  (select rMask (rRaw A0 A1 A2 A3) (broadcastInDim S16x8x2048x2048 ![] bcast_S_S16x8x2048x2048 (id (constant S_ .f32 0xFF800000#32))))

/-- The rows' maxima. -/
def rM : FVec Ideal S16x8x2048 .f32 :=
  (maximumf (broadcastInDim S16x8x2048 ![] bcast_S_S16x8x2048 (constant S_ .f32 0xFF800000#32)) (Host.reduce FloatOps.maximumf (rX A0 A1 A2 A3) (constant S_ .f32 0xFF800000#32) reducesTo_S16x8x2048x2048_S16x8x2048_d3 h_S_))

/-- The exponentials. -/
def rE : FVec Ideal S16x8x2048x2048 .f32 :=
  (Host.exp (subf (rX A0 A1 A2 A3) (broadcastInDim S16x8x2048x2048 ![0, 1, 2, 3] bcast_S16x8x2048x1_S16x8x2048x2048_0_1_2_3 (broadcastInDim S16x8x2048x1 ![0, 1, 2] bcast_S16x8x2048_S16x8x2048x1_0_1_2 (rM A0 A1 A2 A3)))))

/-- The probabilities. -/
def rP : FVec Ideal S16x8x2048x2048 .f32 :=
  (Host.divf (rE A0 A1 A2 A3) (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd (rE A0 A1 A2 A3) (constant S_ .f32 0x00000000#32) reducesTo_S16x8x2048x2048_S16x8x2048_d3 h_S_))))

/-- The result. -/
def rOut : FVec Ideal S16x2048x1024 .bf16 :=
  truncf .bf16 (shapeCast _ (transpose S16x2048x8x128 [0, 3, 1, 2] (Host.dotGeneral dot_S16x2048x8x128_S16x8x2048x2048_S16x8x128x2048_1_3_3_2_02_01 none A4 (rP A0 A1 A2 A3)) transposes_S16x8x128x2048_S16x2048x8x128_0_3_1_2) shapeCasts_S16x2048x8x128_S16x2048x1024) bitsLt_bf16_f32
end

theorem res_eq (m : (ℓ : Loc nD τ sig) → Buf (Elt Ideal) ℓ) (c : Dev nD) :
    Value.res_main_v31 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

section
variable {A0 : FVec Ideal S16x2048x8x128 .f32} {A1 : FVec Ideal S16x2048x8x64 .f32} {A2 : FVec Ideal S16x2048x8x128 .f32}
  {A3 : FVec Ideal S16x2048x64 .f32} {A4 : FVec Ideal S16x2048x8x128 .f32}

/-- The chunk of a position is its number divided by 64. -/
theorem rChunk_apply (n : Fin 2048) : rChunk (ValueIdx.ix1 n) = BitVec.ofNat 32 (n.val / 64) := by
  unfold rChunk
  pointwise
  revert n
  decide +kernel

/-- A query sees the keys of its own chunk and of the chunks before. -/
theorem rMask_apply (b : Fin 16) (h : Fin 8) (q c : Fin 2048) :
    rMask (ValueIdx.ix4 b h q c) = if keeps q.val c.val then 1#1 else 0#1 := by
  have e : rMask (ValueIdx.ix4 b h q c) = IntOp.cmpi .sle (rChunk (ValueIdx.ix1 c)) (rChunk (ValueIdx.ix1 q)) := by
    unfold rMask
    pointwise
    rfl
  rw [e, rChunk_apply, rChunk_apply]
  exact sle_eq ⟨c.val / 64, by omega⟩ ⟨q.val / 64, by omega⟩

/-- The square root of the width of a query. -/
theorem sqrtWidth : Ideal.sqrt (Ideal.ofBits .f32 0x43400000#32) = ((√192 : ℝ) : EReal) := by
  have e : Ideal.ofBits .f32 0x43400000#32 = ((192 : ℝ) : EReal) := by
    simp only [Ideal.ofBits, Ideal.ieee]
    simp
    rw [← EReal.coe_mul]
    norm_num
  rw [e]
  exact if_neg (by norm_num)

/-- The quotient by a real that is not zero. -/
theorem div_coe (x : EReal) {r : ℝ} (hr : r ≠ 0) : Ideal.div x (r : EReal) = x * ((r⁻¹ : ℝ) : EReal) := by
  unfold Ideal.div
  rw [if_neg (by exact_mod_cast hr), ← EReal.coe_inv]

/-- The factor of the scores. -/
theorem invSqrt : Ideal.div 1 (Ideal.sqrt (Ideal.ofBits .f32 0x43400000#32)) = ((1 / √192 : ℝ) : EReal) := by
  rw [sqrtWidth, div_coe _ (by positivity), one_mul, one_div]

/-- The score of query `q` and key `c`, over the reals. -/
def raw (a0 : S16x2048x8x128.Idx → ℝ) (a1 : S16x2048x8x64.Idx → ℝ) (a2 : S16x2048x8x128.Idx → ℝ) (a3 : S16x2048x64.Idx → ℝ)
    (b : Fin 16) (h : Fin 8) (q c : Fin 2048) : ℝ :=
  (∑ k : Fin 128, a0 (ValueIdx.ix4 b q h k) * a2 (ValueIdx.ix4 b c h k)
    + ∑ r : Fin 64, a3 (ValueIdx.ix3 b c r) * a1 (ValueIdx.ix4 b q h r)) * (1 / √192)

/-- The same at natural numbers, to base two. -/
def rawN (a0 : S16x2048x8x128.Idx → ℝ) (a1 : S16x2048x8x64.Idx → ℝ) (a2 : S16x2048x8x128.Idx → ℝ) (a3 : S16x2048x64.Idx → ℝ)
    (b : Fin 16) (h : Fin 8) (q : Fin 2048) (c : ℕ) : ℝ :=
  if hc : c < 2048 then raw a0 a1 a2 a3 b h q ⟨c, hc⟩ / Real.log 2 else 0

section
variable {a0 : S16x2048x8x128.Idx → ℝ} {a1 : S16x2048x8x64.Idx → ℝ} {a2 : S16x2048x8x128.Idx → ℝ} {a3 : S16x2048x64.Idx → ℝ}

theorem rRaw_apply (h0 : ∀ i, A0 i = (a0 i : EReal)) (h1 : ∀ i, A1 i = (a1 i : EReal)) (h2 : ∀ i, A2 i = (a2 i : EReal))
    (h3 : ∀ i, A3 i = (a3 i : EReal)) (b : Fin 16) (h : Fin 8) (q c : Fin 2048) :
    rRaw A0 A1 A2 A3 (ValueIdx.ix4 b h q c) = (raw a0 a1 a2 a3 b h q c : EReal) := by
  have e : rRaw A0 A1 A2 A3 (ValueIdx.ix4 b h q c)
      = (∑ k : Fin 128, A0 (ValueIdx.ix4 b q h k) * A2 (ValueIdx.ix4 b c h k)
        + ∑ r : Fin 64, A3 (ValueIdx.ix3 b c r) * A1 (ValueIdx.ix4 b q h r))
        * Ideal.div 1 (Ideal.sqrt (Ideal.ofBits .f32 0x43400000#32)) := by
    unfold rRaw
    pointwise
    rfl
  rw [e, invSqrt]
  simp only [h0, h1, h2, h3, ← EReal.coe_mul, ← coe_sum, ← EReal.coe_add]
  rfl

theorem rX_apply (h0 : ∀ i, A0 i = (a0 i : EReal)) (h1 : ∀ i, A1 i = (a1 i : EReal)) (h2 : ∀ i, A2 i = (a2 i : EReal))
    (h3 : ∀ i, A3 i = (a3 i : EReal)) (b : Fin 16) (h : Fin 8) (q c : Fin 2048) :
    rX A0 A1 A2 A3 (ValueIdx.ix4 b h q c)
      = if keeps q.val c.val then (raw a0 a1 a2 a3 b h q c : EReal) else ⊥ := by
  have e : rX A0 A1 A2 A3 (ValueIdx.ix4 b h q c) = Scalar.select (rMask (ValueIdx.ix4 b h q c)) (rRaw A0 A1 A2 A3 (ValueIdx.ix4 b h q c))
      (Ideal.ofBits .f32 0xFF800000#32) := by
    unfold rX
    pointwise
    rfl
  rw [e, rMask_apply, rRaw_apply h0 h1 h2 h3, negInf]
  split <;> rfl

/-- A maximum, from minus infinity, of numbers none of which is plus infinity and one of which is not minus infinity. -/
theorem hostMax_real {s t u : Shape} {axes : List (Fin s.rank)} (X : s.Idx → EReal) (init : u.Idx → EReal) (h : s.ReducesTo axes t)
    (hu : 0 < u.numel) (j : t.Idx) (hi : init (Shape.Idx.first hu) = ⊥) (hX : ∀ i, X i < ⊤) (i : s.Idx) (hj : h.drop i = j) (hb : ⊥ < X i) :
    ∃ m : ℝ, Host.reduce (max : EReal → EReal → EReal) X init h hu j = (m : EReal) := by
  rw [Host.reduce_eq_fold, hi]
  have lt : (Finset.univ.filter fun i => h.drop i = j).fold max ⊥ X < ⊤ := by
    rw [Finset.fold_max_lt]
    exact ⟨bot_lt_top, fun i _ => hX i⟩
  have gt : ⊥ < (Finset.univ.filter fun i => h.drop i = j).fold max ⊥ X := by
    rw [Finset.lt_fold_max]
    exact Or.inr ⟨i, by simpa using hj, hb⟩
  exact ⟨_, (EReal.coe_toReal lt.ne gt.ne').symm⟩

theorem rM_real (h0 : ∀ i, A0 i = (a0 i : EReal)) (h1 : ∀ i, A1 i = (a1 i : EReal)) (h2 : ∀ i, A2 i = (a2 i : EReal))
    (h3 : ∀ i, A3 i = (a3 i : EReal)) (b : Fin 16) (h : Fin 8) (q : Fin 2048) :
    ∃ m : ℝ, rM A0 A1 A2 A3 (ValueIdx.ix3 b h q) = (m : EReal) := by
  have hx : ∀ i, rX A0 A1 A2 A3 i < ⊤ := fun i => by
    obtain ⟨b', h', q', c', rfl⟩ : ∃ (b : Fin 16) (h : Fin 8) (q c : Fin 2048), i = ValueIdx.ix4 b h q c :=
      ⟨i 0, i 1, i 2, i 3, by funext k; fin_cases k <;> rfl⟩
    rw [rX_apply h0 h1 h2 h3]
    split
    · exact EReal.coe_lt_top _
    · exact bot_lt_top
  have hd : reducesTo_S16x8x2048x2048_S16x8x2048_d3.drop (ValueIdx.ix4 b h q q) = ValueIdx.ix3 b h q := by
    funext k
    apply Fin.ext
    fin_cases k
    · exact Shape.ReducesTo.drop_apply_val_of_eq _ (ValueIdx.ix4 b h q q) 0 0 (by decide)
    · exact Shape.ReducesTo.drop_apply_val_of_eq _ (ValueIdx.ix4 b h q q) 1 1 (by decide)
    · exact Shape.ReducesTo.drop_apply_val_of_eq _ (ValueIdx.ix4 b h q q) 2 2 (by decide)
  obtain ⟨m, hm⟩ := hostMax_real (rX A0 A1 A2 A3) (constant S_ .f32 0xFF800000#32 : FVec Ideal S_ .f32) reducesTo_S16x8x2048x2048_S16x8x2048_d3 h_S_
    (ValueIdx.ix3 b h q) negInf hx (ValueIdx.ix4 b h q q) hd (by
      rw [rX_apply h0 h1 h2 h3, if_pos le_rfl]; exact EReal.bot_lt_coe _)
  refine ⟨m, ?_⟩
  rw [← hm]
  have e : ∀ y : FVec Ideal S16x8x2048 .f32, maximumf (broadcastInDim S16x8x2048 ![] bcast_S_S16x8x2048 (constant S_ .f32 0xFF800000#32)) y
      (ValueIdx.ix3 b h q) = y (ValueIdx.ix3 b h q) := fun y => by
    pointwise
    rw [negInf, max_eq_right bot_le]
  exact e _

theorem exp_zS {q : ℕ} {x : ℕ → ℝ} (m : ℝ) (c : ℕ) :
    Ideal.exp ((if keeps q c then (x c : EReal) else ⊥) - (m : EReal))
      = (wS (keeps q) (fun c => x c / Real.log 2) (m / Real.log 2) c : EReal) := by
  unfold wS
  split
  · have : (2 : ℝ) ^ (x c / Real.log 2 - m / Real.log 2) = Real.exp (x c - m) := by
      rw [Real.rpow_def_of_pos two_pos, ← sub_div, mul_div_cancel₀ _ (Real.log_pos one_lt_two).ne']
    rw [this, ← EReal.coe_sub]
    rfl
  · rw [EReal.bot_sub]; rfl

theorem rE_apply (h0 : ∀ i, A0 i = (a0 i : EReal)) (h1 : ∀ i, A1 i = (a1 i : EReal)) (h2 : ∀ i, A2 i = (a2 i : EReal))
    (h3 : ∀ i, A3 i = (a3 i : EReal)) (b : Fin 16) (h : Fin 8) (q : Fin 2048) {m : ℝ}
    (hm : rM A0 A1 A2 A3 (ValueIdx.ix3 b h q) = (m : EReal)) (c : Fin 2048) :
    rE A0 A1 A2 A3 (ValueIdx.ix4 b h q c) = (wS (keeps q.val) (rawN a0 a1 a2 a3 b h q) (m / Real.log 2) c.val : EReal) := by
  have e : rE A0 A1 A2 A3 (ValueIdx.ix4 b h q c)
      = Ideal.exp (rX A0 A1 A2 A3 (ValueIdx.ix4 b h q c) - rM A0 A1 A2 A3 (ValueIdx.ix3 b h q)) := by
    unfold rE
    pointwise
    rfl
  rw [e, hm, rX_apply h0 h1 h2 h3]
  have z := exp_zS (q := q.val) (x := fun c => if hc : c < 2048 then raw a0 a1 a2 a3 b h q ⟨c, hc⟩ else 0) m c.val
  simp only [Fin.is_lt, dite_true, Fin.eta] at z
  rw [z]
  unfold wS rawN
  simp only [Fin.is_lt, dite_true, Fin.eta]

theorem rP_apply (h0 : ∀ i, A0 i = (a0 i : EReal)) (h1 : ∀ i, A1 i = (a1 i : EReal)) (h2 : ∀ i, A2 i = (a2 i : EReal))
    (h3 : ∀ i, A3 i = (a3 i : EReal)) (b : Fin 16) (h : Fin 8) (q c : Fin 2048) :
    rP A0 A1 A2 A3 (ValueIdx.ix4 b h q c) = (pS (keeps q.val) (rawN a0 a1 a2 a3 b h q) 2048 c.val : EReal) := by
  obtain ⟨m, hm⟩ := rM_real h0 h1 h2 h3 b h q
  have e : rP A0 A1 A2 A3 (ValueIdx.ix4 b h q c)
      = Ideal.div (rE A0 A1 A2 A3 (ValueIdx.ix4 b h q c)) (∑ c : Fin 2048, rE A0 A1 A2 A3 (ValueIdx.ix4 b h q c)) := by
    unfold rP
    pointwise
    rfl
  have hp := sum_pos (ok := keeps q.val) (y := rawN a0 a1 a2 a3 b h q) (N := 2048) (Nat.zero_le _) (by norm_num) (m / Real.log 2)
  rw [e, Finset.sum_congr rfl fun c _ => rE_apply h0 h1 h2 h3 b h q hm c, rE_apply h0 h1 h2 h3 b h q hm c, ← coe_sum,
    Fin.sum_univ_eq_sum_range (fun n => wS (keeps q.val) (rawN a0 a1 a2 a3 b h q) (m / Real.log 2) n) 2048, ← share_eq 2048 (m / Real.log 2)]
  unfold Ideal.div
  rw [if_neg (by exact_mod_cast hp.ne'), ← EReal.coe_inv, ← EReal.coe_mul]
  exact congrArg _ (div_eq_mul_inv _ _).symm

/-- The reference's entry: the values weighted by the shares. -/
theorem rOut_apply (h0 : ∀ i, A0 i = (a0 i : EReal)) (h1 : ∀ i, A1 i = (a1 i : EReal)) (h2 : ∀ i, A2 i = (a2 i : EReal))
    (h3 : ∀ i, A3 i = (a3 i : EReal)) (b : Fin 16) (h : Fin 8) (q : Fin 2048) (d : Fin 128) :
    rOut A0 A1 A2 A3 A4 (ValueIdx.ix3 b q ⟨128 * h.val + d.val, by omega⟩)
      = ∑ c : Fin 2048, (pS (keeps q.val) (rawN a0 a1 a2 a3 b h q) 2048 c.val : EReal) * A4 (ValueIdx.ix4 b c h d) := by
  have e : rOut A0 A1 A2 A3 A4 (ValueIdx.ix3 b q ⟨128 * h.val + d.val, by omega⟩)
      = ∑ c : Fin 2048, A4 (ValueIdx.ix4 b c ⟨(128 * h.val + d.val) / 128, by omega⟩ ⟨(128 * h.val + d.val) % 128, by omega⟩)
        * rP A0 A1 A2 A3 (ValueIdx.ix4 b ⟨(128 * h.val + d.val) / 128, by omega⟩ q c) := by
    unfold rOut
    pointwise
    rfl
  have eh : (⟨(128 * h.val + d.val) / 128, by omega⟩ : Fin 8) = h := Fin.ext (by simp only []; omega)
  have ed : (⟨(128 * h.val + d.val) % 128, by omega⟩ : Fin 128) = d := Fin.ext (by simp only []; omega)
  rw [e, eh, ed]
  exact Finset.sum_congr rfl fun c _ => by rw [rP_apply h0 h1 h2 h3, mul_comm]
end
end

end Cert.Mla

end
-- ==== Proof.Mla.Host.lean ====
/- The arrays the host prepares for the attention, read at an index. -/
module

public import proofs.«01_k».proof.Proof.Mla.RefRead
public import proofs.«01_k».proof.Proof.Gen.KernelIdeal.Value
public import Idealize.ShloMosaic.Lib.Claim
public import Idealize.ShloMosaic.Lib.StableHlo.RunRead
public import Idealize.ShloMosaic.Lib.Pipeline.ValueKit

@[expose] public section

set_option maxRecDepth 16384

noncomputable section

namespace Cert.Mla

open Idealize.ShloMosaic Cert.KernelIdeal Cert.KernelIdeal.Gen

/-- The factor of the queries. -/
def hScale : FVec Ideal S_ .f32 :=
  Host.divf (constant S_ .f32 0x3F800000#32) (mulf (Host.sqrt (constant S_ .f32 0x43400000#32)) (Host.log (constant S_ .f32 0x40000000#32)))

/-- The half of the pair a lane belongs to. -/
def hHalf : IVec S16x2048x4x2x128 32 :=
  select (andi (cmpi .ne (signi (iotaInDim S16x2048x4x2x128 32 4)) (broadcastInDim S16x2048x4x2x128 ![] bcast_S_S16x2048x4x2x128 (signi (id (constantI S_ 32 64#32)))))
      (cmpi .ne (Host.remsi (iotaInDim S16x2048x4x2x128 32 4) (broadcastInDim S16x2048x4x2x128 ![] bcast_S_S16x2048x4x2x128 (id (constantI S_ 32 64#32)))) (broadcastInDim S16x2048x4x2x128 ![] bcast_S_S16x2048x4x2x128 (constantI S_ 32 0#32))))
    (subi (Host.divsi (iotaInDim S16x2048x4x2x128 32 4) (broadcastInDim S16x2048x4x2x128 ![] bcast_S_S16x2048x4x2x128 (id (constantI S_ 32 64#32)))) (broadcastInDim S16x2048x4x2x128 ![] bcast_S_S16x2048x4x2x128 (constantI S_ 32 1#32)))
    (Host.divsi (iotaInDim S16x2048x4x2x128 32 4) (broadcastInDim S16x2048x4x2x128 ![] bcast_S_S16x2048x4x2x128 (id (constantI S_ 32 64#32))))

/-- The rotary parts of the queries, each head's in its own half of 128 lanes. -/
def hRope (A1 : FVec Ideal S16x2048x8x64 .f32) : FVec Ideal S16x2048x4x2x128 .bf16 :=
  truncf .bf16 (mulf (select (cmpi .eq hHalf (iotaInDim S16x2048x4x2x128 32 3))
    (broadcastInDim S16x2048x4x2x128 ![0, 1, 2, 3, 4] bcast_S16x2048x4x1x128_S16x2048x4x2x128_0_1_2_3_4 (shapeCast S16x2048x4x1x128 A1 shapeCasts_S16x2048x8x64_S16x2048x4x1x128))
    (broadcastInDim S16x2048x4x2x128 ![] bcast_S_S16x2048x4x2x128 (id (constant S_ .f32 0x00000000#32))))
    (broadcastInDim S16x2048x4x2x128 ![] bcast_S_S16x2048x4x2x128 hScale)) bitsLt_bf16_f32

/-- The plain parts of the queries, scaled. -/
def hNope (A0 : FVec Ideal S16x2048x8x128 .f32) : FVec Ideal S16x2048x8x128 .bf16 :=
  truncf .bf16 (mulf A0 (broadcastInDim S16x2048x8x128 ![] bcast_S_S16x2048x8x128 hScale)) bitsLt_bf16_f32

/-- The plain and the rotary parts side by side. -/
def hCat (x y : FVec Ideal S16x2048x8x128 .bf16) : FVec Ideal S16x2048x8x256 .bf16 :=
  concatenate S16x2048x8x256 3 [⟨S16x2048x8x128, x⟩, ⟨S16x2048x8x128, y⟩] concatenates_S16x2048x8x128_S16x2048x8x128_S16x2048x8x256_d3

theorem hCat_eq (x y : FVec Ideal S16x2048x8x128 .bf16) :
  concatenate S16x2048x8x256 3 [⟨S16x2048x8x128, x⟩, ⟨S16x2048x8x128, y⟩] concatenates_S16x2048x8x128_S16x2048x8x128_S16x2048x8x256_d3 = hCat x y := rfl

/-- The queries. -/
def hQ (A0 : FVec Ideal S16x2048x8x128 .f32) (A1 : FVec Ideal S16x2048x8x64 .f32) : FVec Ideal S16x2048x2048 .bf16 :=
  shapeCast S16x2048x2048 (hCat (hNope A0) (shapeCast S16x2048x8x128 (hRope A1) shapeCasts_S16x2048x4x2x128_S16x2048x8x128))
    shapeCasts_S16x2048x8x256_S16x2048x2048

/-- The keys, or the values. -/
def hK (A2 : FVec Ideal S16x2048x8x128 .f32) : FVec Ideal S16x2048x1024 .bf16 :=
  shapeCast S16x2048x1024 (truncf .bf16 A2 bitsLt_bf16_f32 : FVec Ideal S16x2048x8x128 .bf16) shapeCasts_S16x2048x8x128_S16x2048x1024

/-- The rotary part of the keys, twice. -/
def hR (A3 : FVec Ideal S16x2048x64 .f32) : FVec Ideal S16x2048x128 .bf16 :=
  concatenate S16x2048x128 2 [⟨S16x2048x64, truncf .bf16 A3 bitsLt_bf16_f32⟩, ⟨S16x2048x64, truncf .bf16 A3 bitsLt_bf16_f32⟩] concatenates_S16x2048x64_S16x2048x64_S16x2048x128_d2

section
variable (m : (ℓ : Loc nD τ sig) → Buf (Elt Ideal) ℓ) (c : Dev nD)

theorem V_q : V m c main_v20 = hQ (m ((c.tc : Thread nD τ).loc main_arg0)) (m ((c.tc : Thread nD τ).loc main_arg1)) := by
  unfold_abbrev_sides
  after_reads_simp
  rw [hCat_eq]
  after_reads_simp
  simp -implicitDefEqProofs only [StableHlo.TRef.toBuf, StableHlo.TRef.ofBuf, cast_cast, cast_eq]
  rfl

theorem V_k : V m c main_v22 = hK (m ((c.tc : Thread nD τ).loc main_arg2)) := by
  entry_read
  rfl

theorem V_r : V m c main_v23 = hR (m ((c.tc : Thread nD τ).loc main_arg3)) := by
  entry_read
  rfl

theorem V_v : V m c main_v25 = hK (m ((c.tc : Thread nD τ).loc main_arg4)) := by
  entry_read
  rfl
end

theorem hK_apply (A2 : FVec Ideal S16x2048x8x128 .f32) (b : Fin 16) (s : Fin 2048) (h : Fin 8) (d : Fin 128) :
    hK A2 (ValueIdx.ix3 b s ⟨128 * h.val + d.val, by omega⟩) = A2 (ValueIdx.ix4 b s h d) := by
  have e : hK A2 (ValueIdx.ix3 b s ⟨128 * h.val + d.val, by omega⟩)
      = A2 (ValueIdx.ix4 b s ⟨(128 * h.val + d.val) / 128, by omega⟩ ⟨(128 * h.val + d.val) % 128, by omega⟩) := by
    unfold hK
    pointwise
    rfl
  have eh : (⟨(128 * h.val + d.val) / 128, by omega⟩ : Fin 8) = h := Fin.ext (by simp only []; omega)
  have ed : (⟨(128 * h.val + d.val) % 128, by omega⟩ : Fin 128) = d := Fin.ext (by simp only []; omega)
  rw [e, eh, ed]

theorem hNope_apply (A0 : FVec Ideal S16x2048x8x128 .f32) (b : Fin 16) (s : Fin 2048) (h : Fin 8) (d : Fin 128) :
    hNope A0 (ValueIdx.ix4 b s h d) = A0 (ValueIdx.ix4 b s h d) * hScale ix0 := by
  unfold hNope
  pointwise

/-- The floor of a word over 64, as the host finds it. -/
def floor64 (w : BitVec 32) : BitVec 32 :=
  Scalar.select (IntOp.andi (IntOp.cmpi .ne (if w = 0 then (0 : BitVec 32) else if w.msb then -1 else 1) (if 64#32 = 0 then (0 : BitVec 32) else if (64#32).msb then -1 else 1))
      (IntOp.cmpi .ne (IntOp.remsi .host w 64#32) 0#32))
    (IntOp.subi (IntOp.divsi .host w 64#32) 1#32) (IntOp.divsi .host w 64#32)

theorem hHalf_apply (i : S16x2048x4x2x128.Idx) : hHalf i = floor64 (BitVec.ofNat 32 (i 4).val) := rfl

theorem halfW_eq (l : Fin 128) (o : Fin 2) :
    IntOp.cmpi .eq (floor64 (BitVec.ofNat 32 l.val)) (BitVec.ofNat 32 o.val) = if l.val / 64 = o.val then 1#1 else 0#1 := by
  revert l o
  decide +kernel

/-- One entry of the rotary part: the query's own lanes, zero in the others. -/
def ropeAt (A1 : FVec Ideal S16x2048x8x64 .f32) (b : Fin 16) (s : Fin 2048) (p : Fin 4) (o : Fin 2) (l : Fin 128) : EReal :=
  Scalar.select (IntOp.cmpi .eq (hHalf (ValueIdx.ix5 b s p o l)) (BitVec.ofNat 32 o.val))
    (A1 (ValueIdx.ix4 b s ⟨p.val * 2 + l.val / 64, by omega⟩ ⟨l.val % 64, by omega⟩)) (Ideal.ofBits .f32 0#32) * hScale ix0

theorem hRope_apply (A1 : FVec Ideal S16x2048x8x64 .f32) (b : Fin 16) (s : Fin 2048) (p : Fin 4) (o : Fin 2) (l : Fin 128) :
    hRope A1 (ValueIdx.ix5 b s p o l)
      = (if l.val / 64 = o.val then A1 (ValueIdx.ix4 b s ⟨p.val * 2 + o.val, by omega⟩ ⟨l.val % 64, by omega⟩) else 0) * hScale ix0 := by
  have e : hRope A1 (ValueIdx.ix5 b s p o l) = ropeAt A1 b s p o l := by
    unfold hRope
    pointwise
    rfl
  rw [e, ropeAt, hHalf_apply, halfW_eq, Ideal.ofBits_zero]
  by_cases hl : l.val / 64 = o.val
  · simp [hl, Scalar.select]
  · simp [hl, Scalar.select]

theorem hQ_lo (A0 : FVec Ideal S16x2048x8x128 .f32) (A1 : FVec Ideal S16x2048x8x64 .f32) (b : Fin 16) (s : Fin 2048) (h : Fin 8) (j : Fin 2048)
    (d : Fin 128) (hj : j.val = 256 * h.val + d.val) : hQ A0 A1 (ValueIdx.ix3 b s j) = A0 (ValueIdx.ix4 b s h d) * hScale ix0 := by
  have e : hQ A0 A1 (ValueIdx.ix3 b s j) = hNope A0 (ValueIdx.ix4 b s ⟨j.val / 256, by omega⟩ ⟨j.val % 256, by omega⟩) := by
    unfold hQ hCat
    pointwise
    rw [dif_pos (show (ValueIdx.ix3 b s j 2).val % 256 < 128 by show j.val % 256 < 128; omega)]
    rfl
  have eh : (⟨j.val / 256, by omega⟩ : Fin 8) = h := Fin.ext (by simp only []; omega)
  have ed : (⟨j.val % 256, by omega⟩ : Fin 128) = d := Fin.ext (by simp only []; omega)
  rw [e, eh, ed, hNope_apply]

theorem hQ_hi (A0 : FVec Ideal S16x2048x8x128 .f32) (A1 : FVec Ideal S16x2048x8x64 .f32) (b : Fin 16) (s : Fin 2048) (h : Fin 8) (j : Fin 2048)
    (l : Fin 128) (hj : j.val = 256 * h.val + (128 + l.val)) :
    hQ A0 A1 (ValueIdx.ix3 b s j) = (if l.val / 64 = h.val % 2 then A1 (ValueIdx.ix4 b s h ⟨l.val % 64, by omega⟩) else 0) * hScale ix0 := by
  have e : hQ A0 A1 (ValueIdx.ix3 b s j) = hRope A1 (ValueIdx.ix5 b s ⟨j.val / 256 / 2, by omega⟩ ⟨j.val / 256 % 2, by omega⟩ ⟨j.val % 256 - 128, by omega⟩) := by
    unfold hQ hCat
    pointwise
    rw [dif_neg (show ¬ (ValueIdx.ix3 b s j 2).val % 256 < 128 by show ¬ j.val % 256 < 128; omega)]
    rfl
  have el : (⟨j.val % 256 - 128, by omega⟩ : Fin 128) = l := Fin.ext (by simp only []; omega)
  have eo : j.val / 256 % 2 = h.val % 2 := by omega
  have eh : (⟨j.val / 256 / 2 * 2 + h.val % 2, by omega⟩ : Fin 8) = h := Fin.ext (by simp only []; omega)
  rw [e, el, hRope_apply]
  simp only [eo, eh]

theorem hR_apply (A3 : FVec Ideal S16x2048x64 .f32) (b : Fin 16) (s : Fin 2048) (l : Fin 128) :
    hR A3 (ValueIdx.ix3 b s l) = A3 (ValueIdx.ix3 b s ⟨l.val % 64, by omega⟩) := by
  have e : hR A3 (ValueIdx.ix3 b s l) = if h : l.val < 64 then A3 (ValueIdx.ix3 b s ⟨l.val, h⟩) else A3 (ValueIdx.ix3 b s ⟨l.val - 64, by omega⟩) := by
    unfold hR
    pointwise
    rfl
  rw [e]
  split
  · congr 2; exact Fin.ext (by simp only []; omega)
  · congr 2; exact Fin.ext (by simp only []; omega)

/-- The factor over the reals: the square root's inverse, to base two. -/
theorem hScale_eq : hScale ix0 = ((1 / (√192 * Real.log 2) : ℝ) : EReal) := by
  have e : hScale ix0 = Ideal.div 1 (Ideal.sqrt (Ideal.ofBits .f32 0x43400000#32) * Ideal.log (Ideal.ofBits .f32 0x40000000#32)) := by
    unfold hScale
    pointwise
  have e2 : Ideal.ofBits .f32 0x40000000#32 = ((2 : ℝ) : EReal) := by
    simp only [Ideal.ofBits, Ideal.ieee]
    simp
    rw [← EReal.coe_mul]
    norm_num
  have el : Ideal.log ((2 : ℝ) : EReal) = ((Real.log 2 : ℝ) : EReal) := by
    exact if_neg (by norm_num)
  have hl := Real.log_pos one_lt_two
  rw [e, sqrtWidth, e2, el, ← EReal.coe_mul, div_coe _ (by positivity), one_mul, one_div]

end Cert.Mla

end
-- ==== Proof.Mla.Out.lean ====
/- What the body leaves in the output's block: sixteen stores, one for each head of the pair and each block of 256
   queries. -/
module

public import proofs.«01_k».proof.Proof.Mla.Tiles

@[expose] public section

set_option maxRecDepth 65536

noncomputable section

namespace Cert.Mla

open Idealize.ShloMosaic Cert.KernelIdeal Cert.KernelIdeal.Gen

theorem sG_2048 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S2048x256_S256x256_S2048x256_1_1_0_0_n_n none (blk 2048 256 x0 cq r) (kT x1 x2 ck c)
      (constant S2048x256 .f32 0x00000000#32) = sG 2048 x0 x1 x2 cq ck r c := matmul_sG _ rfl x0 x1 x2 cq ck r c
theorem pvG_2048 (p : FVec Ideal S2048x256 .bf16) (v : FVec Ideal S256x128 .bf16) :
    matmul (F := Ideal) dot_S2048x256_S256x128_S2048x128_1_0_0_1_n_n none p v (constant S2048x128 .f32 0x00000000#32) = pvG 2048 p v := matmul_pvG _ rfl p v
theorem sG_1792 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S1792x256_S256x256_S1792x256_1_1_0_0_n_n none (blk 1792 256 x0 cq r) (kT x1 x2 ck c)
      (constant S1792x256 .f32 0x00000000#32) = sG 1792 x0 x1 x2 cq ck r c := matmul_sG _ rfl x0 x1 x2 cq ck r c
theorem pvG_1792 (p : FVec Ideal S1792x256 .bf16) (v : FVec Ideal S256x128 .bf16) :
    matmul (F := Ideal) dot_S1792x256_S256x128_S1792x128_1_0_0_1_n_n none p v (constant S1792x128 .f32 0x00000000#32) = pvG 1792 p v := matmul_pvG _ rfl p v
theorem sG_1536 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S1536x256_S256x256_S1536x256_1_1_0_0_n_n none (blk 1536 256 x0 cq r) (kT x1 x2 ck c)
      (constant S1536x256 .f32 0x00000000#32) = sG 1536 x0 x1 x2 cq ck r c := matmul_sG _ rfl x0 x1 x2 cq ck r c
theorem pvG_1536 (p : FVec Ideal S1536x256 .bf16) (v : FVec Ideal S256x128 .bf16) :
    matmul (F := Ideal) dot_S1536x256_S256x128_S1536x128_1_0_0_1_n_n none p v (constant S1536x128 .f32 0x00000000#32) = pvG 1536 p v := matmul_pvG _ rfl p v
theorem sG_1280 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S1280x256_S256x256_S1280x256_1_1_0_0_n_n none (blk 1280 256 x0 cq r) (kT x1 x2 ck c)
      (constant S1280x256 .f32 0x00000000#32) = sG 1280 x0 x1 x2 cq ck r c := matmul_sG _ rfl x0 x1 x2 cq ck r c
theorem pvG_1280 (p : FVec Ideal S1280x256 .bf16) (v : FVec Ideal S256x128 .bf16) :
    matmul (F := Ideal) dot_S1280x256_S256x128_S1280x128_1_0_0_1_n_n none p v (constant S1280x128 .f32 0x00000000#32) = pvG 1280 p v := matmul_pvG _ rfl p v
theorem sG_1024 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S1024x256_S256x256_S1024x256_1_1_0_0_n_n none (blk 1024 256 x0 cq r) (kT x1 x2 ck c)
      (constant S1024x256 .f32 0x00000000#32) = sG 1024 x0 x1 x2 cq ck r c := matmul_sG _ rfl x0 x1 x2 cq ck r c
theorem pvG_1024 (p : FVec Ideal S1024x256 .bf16) (v : FVec Ideal S256x128 .bf16) :
    matmul (F := Ideal) dot_S1024x256_S256x128_S1024x128_1_0_0_1_n_n none p v (constant S1024x128 .f32 0x00000000#32) = pvG 1024 p v := matmul_pvG _ rfl p v
theorem sG_768 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S768x256_S256x256_S768x256_1_1_0_0_n_n none (blk 768 256 x0 cq r) (kT x1 x2 ck c)
      (constant S768x256 .f32 0x00000000#32) = sG 768 x0 x1 x2 cq ck r c := matmul_sG _ rfl x0 x1 x2 cq ck r c
theorem pvG_768 (p : FVec Ideal S768x256 .bf16) (v : FVec Ideal S256x128 .bf16) :
    matmul (F := Ideal) dot_S768x256_S256x128_S768x128_1_0_0_1_n_n none p v (constant S768x128 .f32 0x00000000#32) = pvG 768 p v := matmul_pvG _ rfl p v
theorem sG_512 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S512x256_S256x256_S512x256_1_1_0_0_n_n none (blk 512 256 x0 cq r) (kT x1 x2 ck c)
      (constant S512x256 .f32 0x00000000#32) = sG 512 x0 x1 x2 cq ck r c := matmul_sG _ rfl x0 x1 x2 cq ck r c
theorem pvG_512 (p : FVec Ideal S512x256 .bf16) (v : FVec Ideal S256x128 .bf16) :
    matmul (F := Ideal) dot_S512x256_S256x128_S512x128_1_0_0_1_n_n none p v (constant S512x128 .f32 0x00000000#32) = pvG 512 p v := matmul_pvG _ rfl p v
theorem sG_256 (x0 : Vec Ideal S1x2048x512 .bf16) (x1 : Vec Ideal S1x2048x256 .bf16) (x2 : Vec Ideal S1x2048x128 .bf16) (cq ck r c : ℕ) :
    matmul (F := Ideal) (φ₁ := .bf16) (φ₂ := .bf16) dot_S256x256_S256x256_S256x256_1_1_0_0_n_n none (blk 256 256 x0 cq r) (kT x1 x2 ck c)
      (constant S256x256 .f32 0x00000000#32) = sG 256 x0 x1 x2 cq ck r c := matmul_sG _ rfl x0 x1 x2 cq ck r c
theorem pvG_256 (p : FVec Ideal S256x256 .bf16) (v : FVec Ideal S256x128 .bf16) :
    matmul (F := Ideal) dot_S256x256_S256x128_S256x128_1_0_0_1_n_n none p v (constant S256x128 .f32 0x00000000#32) = pvG 256 p v := matmul_pvG _ rfl p v

set_option maxHeartbeats 40000000 in
/-- The output's block after the body, store by store. -/
theorem out_eq (x0 : Vec Ideal S1x2048x512 .bf16) (x1 : Vec Ideal S1x2048x256 .bf16) (x2 : Vec Ideal S1x2048x128 .bf16)
    (x3 : Vec Ideal S1x2048x256 .bf16) : out0_4 x0 x1 x2 x3 = View.canon [
      ⟨r0_38, oT x0 x1 x2 x3 256 128 7⟩,
      ⟨r0_36, oT x0 x1 x2 x3 256 128 6⟩,
      ⟨r0_34, oT x0 x1 x2 x3 256 128 5⟩,
      ⟨r0_32, oT x0 x1 x2 x3 256 128 4⟩,
      ⟨r0_30, oT x0 x1 x2 x3 256 128 3⟩,
      ⟨r0_28, oT x0 x1 x2 x3 256 128 2⟩,
      ⟨r0_26, oT x0 x1 x2 x3 256 128 1⟩,
      ⟨r0_24, oT x0 x1 x2 x3 256 128 0⟩,
      ⟨r0_21, oT x0 x1 x2 x3 0 0 7⟩,
      ⟨r0_18, oT x0 x1 x2 x3 0 0 6⟩,
      ⟨r0_15, oT x0 x1 x2 x3 0 0 5⟩,
      ⟨r0_12, oT x0 x1 x2 x3 0 0 4⟩,
      ⟨r0_9, oT x0 x1 x2 x3 0 0 3⟩,
      ⟨r0_6, oT x0 x1 x2 x3 0 0 2⟩,
      ⟨r0_3, oT x0 x1 x2 x3 0 0 1⟩,
      ⟨r0_0, oT x0 x1 x2 x3 0 0 0⟩] := by
  simp only [out0_4, oT, dT, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, rmax_eq, prob_eq, halves_eq, upd_eq, fin_eq, msk, mk, mM_zero, mM_succ, lM_zero, lM_succ, aM_zero, aM_succ, ld_blk, cat_ld, sG_slice, pvG_slice, pk_zero, pk_succ, List.forall_mem_cons, List.not_mem_nil, false_imp_iff, implies_true, and_self, List.length_cons, List.length_nil, Nat.reduceAdd, Nat.reduceMul, Nat.reduceDiv, Nat.reduceLT, Nat.zero_add, Nat.add_zero, Nat.reduceEqDiff,
    sG_2048, pvG_2048, sG_1792, pvG_1792, sG_1536, pvG_1536, sG_1280, pvG_1280, sG_1024, pvG_1024, sG_768, pvG_768, sG_512, pvG_512, sG_256, pvG_256]
  rfl

end Cert.Mla

end
-- ==== Proof.Mla.Result.lean ====
/- The attention's result array: the values weighted by the shares. -/
module

public import proofs.«01_k».proof.Proof.Mla.Host
public import proofs.«01_k».proof.Proof.Mla.Out

@[expose] public section

set_option maxRecDepth 16384

noncomputable section

namespace Cert.Mla

open Idealize.ShloMosaic Idealize.ShloMosaic.TcCoe Cert.KernelIdeal Cert.KernelIdeal.Gen

section
variable (x0 : Vec Ideal S1x2048x512 .bf16) (x1 : Vec Ideal S1x2048x256 .bf16) (x2 : Vec Ideal S1x2048x128 .bf16) (x3 : Vec Ideal S1x2048x256 .bf16)

/-- The block's entry in row `r` and column `n`, from the tile it lies in. -/
def tileAt (r : Fin 2048) (n : Fin 256) : EReal :=
  oT x0 x1 x2 x3 (256 * (n.val / 128)) (128 * (n.val / 128)) (r.val / 256) (ValueIdx.ix3 0 ⟨r.val % 256, by omega⟩ ⟨n.val % 128, by omega⟩)

theorem piece {cq ck i : ℕ} (x : S1x256x128.Idx) (r : Fin 2048) (n : Fin 256) (hq : cq = 256 * (n.val / 128)) (hk : ck = 128 * (n.val / 128))
    (hi : i = r.val / 256) (h0 : (x 0).val = 0) (h1 : (x 1).val = r.val % 256) (h2 : (x 2).val = n.val % 128) :
    oT x0 x1 x2 x3 cq ck i x = tileAt x0 x1 x2 x3 r n := by
  have ex : x = ValueIdx.ix3 0 ⟨r.val % 256, by omega⟩ ⟨n.val % 128, by omega⟩ := by
    funext k
    apply Fin.ext
    match k with
    | ⟨0, _⟩ => exact h0
    | ⟨1, _⟩ => exact h1
    | ⟨2, _⟩ => exact h2
  unfold tileAt
  rw [hq, hk, hi]
  exact congrArg _ ex

/-- The tiles fill the block. -/
theorem out_apply (r : Fin 2048) (n : Fin 256) : out0_4 x0 x1 x2 x3 (ValueIdx.ix3 0 r n) = tileAt x0 x1 x2 x3 r n := by
  have e1 : ((ValueIdx.ix3 0 r n : S1x2048x256.Idx) 1).val = r.val := rfl
  have e2 : ((ValueIdx.ix3 0 r n : S1x2048x256.Idx) 2).val = n.val := rfl
  rw [out_eq]
  canon_tiles x h
  all_goals exact piece x0 x1 x2 x3 x r n (by omega) (by omega) (by omega) (by omega) (by omega) (by omega)
end

/-- A block's score is the reference's, to base two. -/
theorem score_real {x0 : Vec Ideal S1x2048x512 .bf16} {x1 : Vec Ideal S1x2048x256 .bf16} {x2 : Vec Ideal S1x2048x128 .bf16} {cq ck q c o : ℕ} {sc : ℝ}
    {q0 k0 : Fin 128 → ℝ} {q1 k1 : Fin 64 → ℝ} (ho : o < 2)
    (h0 : ∀ d : Fin 128, rd x0 0 q (cq + d.val) = (q0 d : EReal) * (sc : EReal))
    (h1 : ∀ l : Fin 128, rd x0 0 q (cq + (128 + l.val)) = (if l.val / 64 = o then (q1 ⟨l.val % 64, by omega⟩ : EReal) else 0) * (sc : EReal))
    (h2 : ∀ d : Fin 128, rd x1 0 c (ck + d.val) = (k0 d : EReal))
    (h3 : ∀ l : Fin 128, rd x2 0 c (0 + l.val) = (k1 ⟨l.val % 64, by omega⟩ : EReal)) :
    score x0 x1 x2 cq ck q c = (((∑ d, q0 d * k0 d + ∑ r, k1 r * q1 r) * sc : ℝ) : EReal) := by
  have hl : ∀ d : Fin 128, rd x0 0 q (cq + (Fin.castAdd 128 d).val) * (if (Fin.castAdd 128 d).val < 128 then rd x1 0 c (ck + (Fin.castAdd 128 d).val)
      else rd x2 0 c (0 + ((Fin.castAdd 128 d).val - 128))) = ((q0 d * sc * k0 d : ℝ) : EReal) := fun d => by
    rw [if_pos (show (Fin.castAdd 128 d).val < 128 from d.isLt)]
    show rd x0 0 q (cq + d.val) * rd x1 0 c (ck + d.val) = _
    rw [h0, h2, EReal.coe_mul, EReal.coe_mul]
  have hr : ∀ l : Fin 128, rd x0 0 q (cq + (Fin.natAdd 128 l).val) * (if (Fin.natAdd 128 l).val < 128 then rd x1 0 c (ck + (Fin.natAdd 128 l).val)
      else rd x2 0 c (0 + ((Fin.natAdd 128 l).val - 128)))
      = (((if l.val / 64 = o then q1 ⟨l.val % 64, by omega⟩ else 0) * sc * k1 ⟨l.val % 64, by omega⟩ : ℝ) : EReal) := fun l => by
    have e : (Fin.natAdd 128 l).val = 128 + l.val := rfl
    rw [e, if_neg (by omega), Nat.add_sub_cancel_left, h1, h3]
    split <;> simp only [EReal.coe_mul, EReal.coe_zero]
  have hs : ∑ l : Fin 128, (if l.val / 64 = o then q1 ⟨l.val % 64, by omega⟩ else 0) * sc * k1 ⟨l.val % 64, by omega⟩ = ∑ r : Fin 64, q1 r * sc * k1 r := by
    rw [Fin.sum_univ_add (a := 64) (b := 64)]
    have ea : ∀ r : Fin 64, (⟨(Fin.castAdd 64 r).val % 64, by omega⟩ : Fin 64) = r := fun r => Fin.ext (by simp)
    have eb : ∀ r : Fin 64, (⟨(Fin.natAdd 64 r).val % 64, by omega⟩ : Fin 64) = r := fun r => Fin.ext (by simp)
    have ea' : ∀ r : Fin 64, (Fin.castAdd 64 r).val / 64 = 0 := fun r => by simp
    have eb' : ∀ r : Fin 64, (Fin.natAdd 64 r).val / 64 = 1 := fun r => by simp
    simp only [ea, eb, ea', eb']
    rcases (show o = 0 ∨ o = 1 by omega) with rfl | rfl <;> simp
  unfold score
  rw [Fin.sum_univ_add (a := 128) (b := 128), Finset.sum_congr rfl fun d _ => hl d, Finset.sum_congr rfl fun l _ => hr l, ← coe_sum, ← coe_sum,
    ← EReal.coe_add, hs, add_mul, Finset.sum_mul, Finset.sum_mul]
  congr 2
  · exact Finset.sum_congr rfl fun d _ => by ring
  · exact Finset.sum_congr rfl fun r _ => by ring

section
variable (m : (ℓ : Loc nD τ sig) → Buf (Elt Ideal) ℓ) (c : Dev nD)

theorem idx0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])
theorem idx1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
theorem idx4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])

theorem read_q (X : S16x2048x2048.Idx → EReal) (t : Fin cfg0.N) (s : Fin 2048) (j : Fin 512) (b : Fin 16) (n : Fin 2048) (hb : b.val = (grid0.coords t 0).val)
    (hn : n.val = 512 * (grid0.coords t 1).val + j.val) :
    ((cfg0.win 0).blk t).view.read (Elt Ideal) X (ValueIdx.ix3 0 s j) = X (ValueIdx.ix3 b s n) := by
  blk_ext [idx0 t]
  · exact hb.symm
  · show (grid0.coords t 1).val * 512 + j.val = n.val
    omega

theorem iblk_q (t : Fin cfg0.N) (s : Fin 2048) (j : Fin 512) (b : Fin 16) (n : Fin 2048) (hb : b.val = (grid0.coords t 0).val)
    (hn : n.val = 512 * (grid0.coords t 1).val + j.val) :
    iblk m c 0 t (ValueIdx.ix3 0 s j) = hQ (m ((c.tc : Thread nD τ).loc main_arg0)) (m ((c.tc : Thread nD τ).loc main_arg1)) (ValueIdx.ix3 b s n) :=
  (read_q (V m c main_v20) t s j b n hb hn).trans (congrFun (V_q m c) _)

theorem read_k (X : S16x2048x1024.Idx → EReal) (t : Fin cfg0.N) (s : Fin 2048) (j : Fin 256) (b : Fin 16) (n : Fin 1024) (hb : b.val = (grid0.coords t 0).val)
    (hn : n.val = 256 * (grid0.coords t 1).val + j.val) :
    ((cfg0.win 1).blk t).view.read (Elt Ideal) X (ValueIdx.ix3 0 s j) = X (ValueIdx.ix3 b s n) := by
  blk_ext [idx1 t]
  · exact hb.symm
  · show (grid0.coords t 1).val * 256 + j.val = n.val
    omega

theorem iblk_k (t : Fin cfg0.N) (s : Fin 2048) (j : Fin 256) (b : Fin 16) (n : Fin 1024) (hb : b.val = (grid0.coords t 0).val)
    (hn : n.val = 256 * (grid0.coords t 1).val + j.val) :
    iblk m c 1 t (ValueIdx.ix3 0 s j) = hK (m ((c.tc : Thread nD τ).loc main_arg2)) (ValueIdx.ix3 b s n) :=
  (read_k (V m c main_v22) t s j b n hb hn).trans (congrFun (V_k m c) _)

theorem read_r (X : S16x2048x128.Idx → EReal) (t : Fin cfg0.N) (s : Fin 2048) (j : Fin 128) (b : Fin 16) (hb : b.val = (grid0.coords t 0).val) :
    ((cfg0.win 2).blk t).view.read (Elt Ideal) X (ValueIdx.ix3 0 s j) = X (ValueIdx.ix3 b s j) := by
  blk_ext [idx2 t]
  · exact hb.symm

theorem iblk_r (t : Fin cfg0.N) (s : Fin 2048) (j : Fin 128) (b : Fin 16) (hb : b.val = (grid0.coords t 0).val) :
    iblk m c 2 t (ValueIdx.ix3 0 s j) = hR (m ((c.tc : Thread nD τ).loc main_arg3)) (ValueIdx.ix3 b s j) :=
  (read_r (V m c main_v23) t s j b hb).trans (congrFun (V_r m c) _)

theorem read_v (X : S16x2048x1024.Idx → EReal) (t : Fin cfg0.N) (s : Fin 2048) (j : Fin 256) (b : Fin 16) (n : Fin 1024) (hb : b.val = (grid0.coords t 0).val)
    (hn : n.val = 256 * (grid0.coords t 1).val + j.val) :
    ((cfg0.win 3).blk t).view.read (Elt Ideal) X (ValueIdx.ix3 0 s j) = X (ValueIdx.ix3 b s n) := by
  blk_ext [idx3 t]
  · exact hb.symm
  · show (grid0.coords t 1).val * 256 + j.val = n.val
    omega

theorem iblk_v (t : Fin cfg0.N) (s : Fin 2048) (j : Fin 256) (b : Fin 16) (n : Fin 1024) (hb : b.val = (grid0.coords t 0).val)
    (hn : n.val = 256 * (grid0.coords t 1).val + j.val) :
    iblk m c 3 t (ValueIdx.ix3 0 s j) = hK (m ((c.tc : Thread nD τ).loc main_arg4)) (ValueIdx.ix3 b s n) :=
  (read_v (V m c main_v25) t s j b n hb hn).trans (congrFun (V_v m c) _)

section
variable {a0 : S16x2048x8x128.Idx → ℝ} {a1 : S16x2048x8x64.Idx → ℝ} {a2 : S16x2048x8x128.Idx → ℝ} {a3 : S16x2048x64.Idx → ℝ}

/-- The scores of a grid point's blocks. -/
theorem score_blocks (h0 : ∀ i, m ((c.tc : Thread nD τ).loc main_arg0) i = (a0 i : EReal)) (h1 : ∀ i, m ((c.tc : Thread nD τ).loc main_arg1) i = (a1 i : EReal))
    (h2 : ∀ i, m ((c.tc : Thread nD τ).loc main_arg2) i = (a2 i : EReal)) (h3 : ∀ i, m ((c.tc : Thread nD τ).loc main_arg3) i = (a3 i : EReal))
    (t : Fin cfg0.N) (b : Fin 16) (hb : b.val = (grid0.coords t 0).val) (h : Fin 8) (o : ℕ) (ho : o < 2) (hh : h.val = 2 * (grid0.coords t 1).val + o)
    (q : Fin 2048) (s : ℕ) (hs : s < 2048) :
    score (iblk m c 0 t) (iblk m c 1 t) (iblk m c 2 t) (256 * o) (128 * o) q.val s = (rawN a0 a1 a2 a3 b h q s : EReal) := by
  have hp : h.val % 2 = o := by omega
  refine (score_real (sc := 1 / (√192 * Real.log 2)) (q0 := fun d => a0 (ValueIdx.ix4 b q h d)) (k0 := fun d => a2 (ValueIdx.ix4 b ⟨s, hs⟩ h d))
    (q1 := fun r => a1 (ValueIdx.ix4 b q h r)) (k1 := fun r => a3 (ValueIdx.ix3 b ⟨s, hs⟩ r)) ho (fun d => ?_) (fun l => ?_) (fun d => ?_) (fun l => ?_)).trans ?_
  · rw [rd_ix3 _ _ _ _ (by omega) q.isLt (by omega)]
    refine (iblk_q m c t q ⟨256 * o + d.val, by omega⟩ b ⟨256 * h.val + d.val, by omega⟩ hb (by simp only []; omega)).trans ?_
    rw [hQ_lo _ _ b q h _ d rfl, h0, hScale_eq]
  · rw [rd_ix3 _ _ _ _ (by omega) q.isLt (by omega)]
    refine (iblk_q m c t q ⟨256 * o + (128 + l.val), by omega⟩ b ⟨256 * h.val + (128 + l.val), by omega⟩ hb (by simp only []; omega)).trans ?_
    rw [hQ_hi _ _ b q h _ l rfl, h1, hScale_eq, hp]
  · rw [rd_ix3 _ _ _ _ (by omega) hs (by omega)]
    refine (iblk_k m c t ⟨s, hs⟩ ⟨128 * o + d.val, by omega⟩ b ⟨128 * h.val + d.val, by omega⟩ hb (by simp only []; omega)).trans ?_
    rw [hK_apply, h2]
  · rw [rd_ix3 _ _ _ _ (by omega) hs (by omega)]
    refine (iblk_r m c t ⟨s, hs⟩ ⟨0 + l.val, by omega⟩ b hb).trans ?_
    rw [hR_apply, h3]
    congr 3
    exact Fin.ext (by simp)
  · unfold rawN raw
    rw [dif_pos hs]
    congr 1
    ring

/-- The attention's entry: the values weighted by the shares. -/
def mlaAt (a0 : S16x2048x8x128.Idx → ℝ) (a1 : S16x2048x8x64.Idx → ℝ) (a2 : S16x2048x8x128.Idx → ℝ) (a3 : S16x2048x64.Idx → ℝ)
    (A4 : S16x2048x8x128.Idx → EReal) (b : Fin 16) (q : Fin 2048) (h : Fin 8) (d : Fin 128) : EReal :=
  ∑ s : Fin 2048, (pS (keeps q.val) (rawN a0 a1 a2 a3 b h q) 2048 s.val : EReal) * A4 (ValueIdx.ix4 b s h d)

theorem block_apply (h0 : ∀ i, m ((c.tc : Thread nD τ).loc main_arg0) i = (a0 i : EReal)) (h1 : ∀ i, m ((c.tc : Thread nD τ).loc main_arg1) i = (a1 i : EReal))
    (h2 : ∀ i, m ((c.tc : Thread nD τ).loc main_arg2) i = (a2 i : EReal)) (h3 : ∀ i, m ((c.tc : Thread nD τ).loc main_arg3) i = (a3 i : EReal))
    (t : Fin cfg0.N) (b : Fin 16) (hb : b.val = (grid0.coords t 0).val) (q : Fin 2048) (n : Fin 256) (h : Fin 8)
    (hh : h.val = 2 * (grid0.coords t 1).val + n.val / 128) :
    out0_4 (iblk m c 0 t) (iblk m c 1 t) (iblk m c 2 t) (iblk m c 3 t) (ValueIdx.ix3 0 q n)
      = mlaAt a0 a1 a2 a3 (m ((c.tc : Thread nD τ).loc main_arg4)) b q h ⟨n.val % 128, by omega⟩ := by
  rw [out_apply]
  unfold tileAt
  have eq : 256 * (q.val / 256) + (⟨q.val % 256, by omega⟩ : Fin 256).val = q.val := by simp only []; omega
  rw [oT_apply (y := rawN a0 a1 a2 a3 b h q) (fun s hs => by rw [eq]; exact score_blocks m c h0 h1 h2 h3 t b hb h _ (by omega) hh q s hs) (by omega),
    Finset.sum_range, eq]
  refine Finset.sum_congr rfl fun s _ => congrArg _ ?_
  rw [rd_ix3 _ _ _ _ (by omega) s.isLt (by omega)]
  refine (iblk_v m c t s ⟨128 * (n.val / 128) + n.val % 128, by omega⟩ b ⟨128 * h.val + n.val % 128, by omega⟩ hb (by simp only []; omega)).trans ?_
  exact hK_apply _ b s h ⟨n.val % 128, by omega⟩

/-- The attention's result array. -/
theorem result (h0 : ∀ i, m ((c.tc : Thread nD τ).loc main_arg0) i = (a0 i : EReal)) (h1 : ∀ i, m ((c.tc : Thread nD τ).loc main_arg1) i = (a1 i : EReal))
    (h2 : ∀ i, m ((c.tc : Thread nD τ).loc main_arg2) i = (a2 i : EReal)) (h3 : ∀ i, m ((c.tc : Thread nD τ).loc main_arg3) i = (a3 i : EReal)) :
    (dats m 0 c).arrAt 4 cfg0.N
      = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 4 _ (by decide +kernel) fun t hf y => ?_
  blk_simp
  rw [after0_4]
  obtain ⟨q, n, rfl⟩ : ∃ (q : Fin 2048) (n : Fin 256), y = ValueIdx.ix3 0 q n := by
    refine ⟨y 1, y 2, ?_⟩
    funext k
    match k with
    | ⟨0, _⟩ => exact Fin.ext (by have : (y 0).val < 1 := (y 0).isLt; show (y 0).val = 0; omega)
    | ⟨1, _⟩ => rfl
    | ⟨2, _⟩ => rfl
  have l0 : (grid0.coords t 0).val < 16 := (grid0.coords t 0).isLt
  have l1 : (grid0.coords t 1).val < 4 := (grid0.coords t 1).isLt
  have ey : (win0_4.blk t).view.emb (ValueIdx.ix3 0 q n) = ValueIdx.ix3 ⟨(grid0.coords t 0).val, l0⟩ q
      ⟨128 * (2 * (grid0.coords t 1).val + n.val / 128) + n.val % 128, by omega⟩ := by
    blk_ext [idx4 t]
    have e2 : ((ValueIdx.ix3 0 q n : S1x2048x256.Idx) 2).val = n.val := rfl
    omega
  rw [ey]
  exact (block_apply m c h0 h1 h2 h3 t ⟨(grid0.coords t 0).val, l0⟩ rfl q n ⟨2 * (grid0.coords t 1).val + n.val / 128, by omega⟩ rfl).trans
    (rOut_apply h0 h1 h2 h3 ⟨(grid0.coords t 0).val, l0⟩ ⟨2 * (grid0.coords t 1).val + n.val / 128, by omega⟩ q ⟨n.val % 128, by omega⟩).symm
end
end

end Cert.Mla

end
-- ==== Proof.Mla.Claims.lean ====
/- The claims of the latent attention: the precondition read at its arguments, and the two runs side by side. -/
module

public import proofs.«01_k».proof.Defs
public import proofs.«01_k».proof.Proof.Gen.Kernel.Frame
public import proofs.«01_k».proof.Proof.Gen.KernelIdeal.Frame
public import proofs.«01_k».proof.Proof.Gen.Pre_finite_scores
public import proofs.«01_k».proof.Proof.Gen.ReferenceIdeal.Run
public import proofs.«01_k».proof.Proof.Mla.Result
public import Idealize.ShloMosaic.Lib.ReduceAll
public import Idealize.ShloMosaic.Adequacy

@[expose] public section

noncomputable section

namespace Cert.Mla

open Idealize.ShloMosaic Idealize.SL.Sem

/-- The greatest word of the format's exponents without fraction is infinity. -/
theorem inf_word : Ideal.ofBits .f32 0x7F800000#32 = ⊤ := by
  simp [Ideal.ofBits, Ideal.ieee]

/-- A number whose magnitude is below infinity is a real number. -/
theorem real_of_lt {x : EReal} (h : max x (-x) < ⊤) : x = (x.toReal : EReal) := by
  obtain ⟨h1, h2⟩ := max_lt_iff.mp h
  refine (EReal.coe_toReal h1.ne ?_).symm
  rintro rfl
  simp at h2

/-- The test `|x| < ∞` on all of an array, where it gives true, makes every element real. -/
theorem all_real {s : Shape} {axes : List (Fin s.rank)} (A : FVec Ideal s .f32) {d : Fin 0 → Fin s.rank} (hb : (⟨0, ![]⟩ : Shape).BroadcastsInDim s d)
    (h : s.ReducesTo axes ⟨0, ![]⟩) (hu : 0 < (⟨0, ![]⟩ : Shape).numel) (j : (⟨0, ![]⟩ : Shape).Idx)
    (e : Host.reduce IntOp.andi (cmpf .olt (Host.absf A) (broadcastInDim s d hb (constant ⟨0, ![]⟩ .f32 0x7F800000#32)))
      (constantI ⟨0, ![]⟩ 1 1#1) h hu j = 1#1) (i : s.Idx) : A i = ((A i).toReal : EReal) := by
  haveI : Subsingleton (⟨0, ![]⟩ : Shape).Idx := ⟨fun a b => funext fun k => k.elim0⟩
  have hi := Host.reduce_andi_all _ _ h hu j e i
  have hc : Ideal.cmp .olt (max (A i) (-(A i))) (Ideal.ofBits .f32 0x7F800000#32) = 1#1 := hi
  rw [inf_word] at hc
  refine real_of_lt (by_contra fun hn => ?_)
  simp [Ideal.cmp, hn] at hc

/-- What the precondition says of the arguments. -/
theorem pre_real {A0 : FVec Ideal Pre_finite_scores.S16x2048x8x128 .f32} {A1 : FVec Ideal Pre_finite_scores.S16x2048x8x64 .f32}
    {A2 : FVec Ideal Pre_finite_scores.S16x2048x8x128 .f32} {A3 : FVec Ideal Pre_finite_scores.S16x2048x64 .f32} {A4 : FVec Ideal Pre_finite_scores.S16x2048x8x128 .f32}
    (h : Pre_finite_scores.fn (F := Ideal) A0 A1 A2 A3 A4 = fun _ => 1#1) :
    (∀ i, A0 i = ((A0 i).toReal : EReal)) ∧ (∀ i, A1 i = ((A1 i).toReal : EReal)) ∧ (∀ i, A2 i = ((A2 i).toReal : EReal))
      ∧ (∀ i, A3 i = ((A3 i).toReal : EReal)) := by
  have h' := congrFun h ValueIdx.ix0
  dsimp only [Pre_finite_scores.fn, Pre_finite_scores.fn_part1] at h'
  obtain ⟨h', e3⟩ := IntOp.andi_eq_one.mp h'
  obtain ⟨h', e2⟩ := IntOp.andi_eq_one.mp h'
  obtain ⟨e0, e1⟩ := IntOp.andi_eq_one.mp h'
  exact ⟨all_real A0 _ _ _ _ e0, all_real A1 _ _ _ _ e1, all_real A2 _ _ _ _ e2, all_real A3 _ _ _ _ e3⟩

/-- The attention computes its reference. -/
theorem algebraic : Cert.algebraic_KernelIdeal_ReferenceIdeal_pre_finite_scores := by
  intro m ρ m' ρ' hpre hagree
  refine ⟨fun c => (KernelIdeal.Gen.dats m 0 c).arrAt 4 KernelIdeal.cfg0.N, KernelIdeal.Value.run_blocks (F := Ideal) m ρ, ?_⟩
  refine (θ_run ReferenceIdeal.defs _ _).mono (fun _ h c => ⟨(h c).1.trans ?_, (h c).2⟩) (ReferenceIdeal.Value.run (F := Ideal) m' ρ')
  obtain ⟨h0, h1, h2, h3⟩ := pre_real (hpre c)
  obtain ⟨g0, g1, g2, g3, g4⟩ := hagree c
  rw [res_eq, g0, g1, g2, g3, g4]
  exact (result m c h0 h1 h2 h3).symm

theorem frame_r : Cert.quiescent_ReferenceIdeal := fun m ρ _ =>
  (θ_run ReferenceIdeal.defs _ _).mono (fun r h => ⟨fun c => (h c).2, sem_eq_zero_of_no_sems (by decide) r.2⟩) (ReferenceIdeal.Value.run (F := Ideal) m ρ)

theorem frame_rp : Cert.quiescent_ReferenceIdeal_pre_finite_scores := fun m ρ _ => frame_r m ρ trivial

theorem frame_i : Cert.quiescent_KernelIdeal := fun m ρ _ => KernelIdeal.Gen.frame m ρ

theorem frame_k : Cert.quiescent_Kernel := fun m ρ _ => Kernel.Gen.frame m ρ

theorem preserves : Cert.preserves_Kernel_KernelIdeal :=
  IdealRules.named_const.statement _ _ _ _ _ rfl

end Cert.Mla

end
-- ==== Proof.Trunk.Ops.lean ====
/- The operations of the trunk's calls on a tile of rows: a product, a normalization and the gated feed-forward layer, as functions of a row. -/
module

public import proofs.«01_k».proof.Proof.Mla.Row
public import Idealize.ShloMosaic.Lib.Pointwise
public import Idealize.ShloMosaic.Lib.ValueIdx
public import Idealize.ShloMosaic.Lib.MatmulPlain
public import Idealize.ShloMosaic.Lib.Pipeline.ValueKit

@[expose] public section

set_option maxRecDepth 16384

noncomputable section

namespace Cert.Trunk

open Idealize.ShloMosaic

/-- A matrix of `a` rows and `b` columns. -/
abbrev M2 (a b : ℕ) : Shape := ⟨2, ![a, b]⟩

theorem eta2 {a b : ℕ} (ix : (M2 a b).Idx) : ix = ValueIdx.ix2 (ix 0) (ix 1) := by
  funext k
  match k with
  | ⟨0, _⟩ => rfl
  | ⟨1, _⟩ => rfl

/-! ## Rows -/

/-- A row times a matrix. -/
def dotR {K N : ℕ} (x : Fin K → EReal) (w : (M2 K N).Idx → EReal) (j : Fin N) : EReal := ∑ k : Fin K, x k * w (ValueIdx.ix2 k j)

theorem dotR_congr {K N N' : ℕ} {x y : Fin K → EReal} {w : (M2 K N).Idx → EReal} {v : (M2 K N').Idx → EReal} {j : Fin N} {n : Fin N'}
    (h : ∀ k, x k = y k) (h' : ∀ k, w (ValueIdx.ix2 k j) = v (ValueIdx.ix2 k n)) : dotR x w j = dotR y v n :=
  Finset.sum_congr rfl fun k _ => congrArg₂ (· * ·) (h k) (h' k)

/-- The reciprocal root of a row's mean square, the mean over the width `w`. -/
def rmsR {K : ℕ} (w : BitVec 32) (x : Fin K → EReal) : EReal :=
  Ideal.rsqrt (Ideal.div (∑ i, x i * x i) (Ideal.ofBits .f32 w) + Ideal.ofBits .f32 0x358637BD#32)

/-- A row normalized. -/
def normR {K : ℕ} (w : BitVec 32) (x g : Fin K → EReal) (j : Fin K) : EReal := x j * rmsR w x * g j

/-- A number times its logistic. -/
def silu (x : EReal) : EReal := x * Ideal.logistic x

/-- The gated hidden layer of a row. -/
def swiR (hn : Fin 1024 → EReal) (win : (M2 1024 5632).Idx → EReal) (k : Fin 2816) : EReal :=
  silu (dotR hn win ⟨k.val, by omega⟩) * dotR hn win ⟨2816 + k.val, by omega⟩

/-- The feed-forward layer of a row. -/
def ffnR (hn : Fin 1024 → EReal) (win : (M2 1024 5632).Idx → EReal) (wout : (M2 2816 1024).Idx → EReal) (j : Fin 1024) : EReal :=
  dotR (swiR hn win) wout j

/-- Half of the layer's result is the result under half of the last weights. -/
theorem ffnR_half (hn : Fin 1024 → EReal) (win : (M2 1024 5632).Idx → EReal) (wout : (M2 2816 1024).Idx → EReal) (j : Fin 1024) :
    ffnR hn win (fun ix => wout ix * Ideal.ofBits .f32 0x3F000000#32) j = Ideal.ofBits .f32 0x3F000000#32 * ffnR hn win wout j := by
  have e : Ideal.ofBits .f32 0x3F000000#32 = ((1 / 2 : ℝ) : EReal) := by
    simp only [Ideal.ofBits, Ideal.ieee]
    simp
    rw [← EReal.coe_mul]
    norm_num
  unfold ffnR dotR
  rw [e, Cert.Mla.coe_mul_sum _ _ (by norm_num)]
  exact Finset.sum_congr rfl fun k _ => by rw [← mul_assoc, mul_comm]

/-- A row of the residual stream after half a step of the feed-forward layer. -/
def stepR (x hn : Fin 1024 → EReal) (win : (M2 1024 5632).Idx → EReal) (wout : (M2 2816 1024).Idx → EReal) (j : Fin 1024) : EReal :=
  x j + Ideal.ofBits .f32 0x3F000000#32 * ffnR hn win wout j

/-- Weights times a half. -/
def halved (w : (M2 2816 1024).Idx → EReal) : (M2 2816 1024).Idx → EReal := fun ix => w ix * Ideal.ofBits .f32 0x3F000000#32

/-- Half a step on a tile of rows whose last weights are halved. -/
theorem half_step (x hn : Fin 1024 → EReal) (win : (M2 1024 5632).Idx → EReal) (w w' : (M2 2816 1024).Idx → EReal)
    (hw : ∀ ix, w' ix = w ix * Ideal.ofBits .f32 0x3F000000#32) (j : Fin 1024) : x j + ffnR hn win w' j = stepR x hn win w j := by
  obtain rfl : w' = fun ix => w ix * Ideal.ofBits .f32 0x3F000000#32 := funext hw
  exact congrArg (x j + ·) (ffnR_half hn win w j)

/-- A row of the residual stream with the attention's projection added. -/
def projR (x h : Fin 1024 → EReal) (w : (M2 1024 1024).Idx → EReal) (j : Fin 1024) : EReal := x j + dotR h w j

/-! ## Tiles -/

variable {R : ℕ}

/-- A tile's row. -/
def rowOf {K : ℕ} (x : (M2 R K).Idx → EReal) (a : Fin R) (j : Fin K) : EReal := x (ValueIdx.ix2 a j)

/-- A product. -/
def mm {K N : ℕ} (x : (M2 R K).Idx → EReal) (w : (M2 K N).Idx → EReal) : (M2 R N).Idx → EReal := fun ix => dotR (rowOf x (ix 0)) w (ix 1)

theorem matmul_mm {K N : ℕ} (D : DotDims (M2 R K) (M2 K N) (M2 R N)) (hD : D = DotDims.plain R K N)
    (p : FVec Ideal (M2 R K) .bf16) (v : FVec Ideal (M2 K N) .bf16) :
    matmul (F := Ideal) D none p v (constant (M2 R N) .f32 0x00000000#32) = mm p v := by
  subst hD
  funext ix
  rw [eta2 ix]
  refine (Ideal.matmul_plain_apply none _ _ _ (ix 0) (ix 1)).trans ?_
  exact (congrArg (· + _) (Ideal.ofBits_zero .f32)).trans (zero_add _)

/-- 256 columns of the first weights, from column `lo`. -/
def ldV (win : (M2 1024 5632).Idx → EReal) (lo : ℕ) : (M2 1024 256).Idx → EReal :=
  fun ix => if h : lo + (ix 1).val < 5632 then win (ValueIdx.ix2 (ix 0) ⟨lo + (ix 1).val, h⟩) else 0

theorem ld_ldV {lo : ℕ} (win : Vec Ideal (M2 1024 5632) .bf16)
    (inb : ∀ a, (![0, lo] : Fin 2 → ℕ) a + (![1024, 256] : Fin 2 → ℕ) a ≤ (M2 1024 5632).size a) :
    (no_index (View.ld (Val := Elt Ideal) (e' := .bf16) win (Rect.unit (s := M2 1024 5632) ![0, lo] ![1024, 256] inb)) : (M2 1024 256).Idx → EReal) = ldV win lo := by
  funext j
  have hl : lo + 256 ≤ 5632 := inb 1
  have j1 : (j 1).val < 256 := (j 1).isLt
  unfold ldV
  rw [dif_pos (by omega)]
  refine congrArg win (funext fun a => Fin.ext ?_)
  match a with
  | ⟨0, _⟩ => show 0 + 1 * (j 0).val = (j 0).val; omega
  | ⟨1, _⟩ => show lo + 1 * (j 1).val = lo + (j 1).val; omega

/-- 256 columns of the gated hidden layer. -/
def actV (hn : (M2 R 1024).Idx → EReal) (g u : (M2 1024 256).Idx → EReal) : (M2 R 256).Idx → EReal :=
  fun ix => silu (mm hn g ix) * mm hn u ix

/-- The eleven pieces of the hidden layer. -/
def actC (hn : (M2 R 1024).Idx → EReal) (win : (M2 1024 5632).Idx → EReal) (c : ℕ) : (M2 R 256).Idx → EReal :=
  actV hn (ldV win (256 * c)) (ldV win (2816 + 256 * c))

theorem actC_apply (hn : (M2 R 1024).Idx → EReal) (win : (M2 1024 5632).Idx → EReal) (a : Fin R) (k : Fin 2816) :
    actC hn win (k.val / 256) (ValueIdx.ix2 a ⟨k.val % 256, by omega⟩) = swiR (rowOf hn a) win k := by
  have hk := k.isLt
  have hl : ∀ (lo : ℕ) (n : Fin 5632) (i : Fin 1024), lo + k.val % 256 = n.val → ldV win lo (ValueIdx.ix2 i ⟨k.val % 256, by omega⟩) = win (ValueIdx.ix2 i n) := by
    intro lo n i e
    have hn := n.isLt
    unfold ldV
    rw [dif_pos (show lo + k.val % 256 < 5632 by omega)]
    exact congrArg (fun q => win (ValueIdx.ix2 i q)) (Fin.ext e)
  have hs : ∀ (lo : ℕ) (n : Fin 5632), lo + k.val % 256 = n.val → mm hn (ldV win lo) (ValueIdx.ix2 a ⟨k.val % 256, by omega⟩) = dotR (rowOf hn a) win n := by
    intro lo n e
    exact dotR_congr (fun _ => rfl) fun i => hl lo n i e
  show silu (mm hn _ _) * mm hn _ _ = _
  unfold swiR
  rw [hs _ ⟨k.val, by omega⟩ (by simp only []; omega), hs _ ⟨2816 + k.val, by omega⟩ (by simp only []; omega)]

/-- Eleven tiles side by side, read at an index. -/
theorem cat_apply (f : ℕ → FVec Ideal (M2 R 256) .bf16) (L : List ((s : Shape) × (s.Idx → EReal)))
    (hL : L = (List.range 11).map fun c => ⟨M2 R 256, f c⟩) (hc : Shape.Concatenates (L.map (·.1)) (M2 R 2816) 1) (a : Fin R) (k : Fin 2816) :
    concatenate (M2 R 2816) 1 L hc (ValueIdx.ix2 a k) = f (k.val / 256) (ValueIdx.ix2 a ⟨k.val % 256, by omega⟩) := by
  subst hL
  have hk := k.isLt
  refine concatenate_apply_piece 1 _ hc _ (k.val / 256) (by simp; omega) (M2 R 256) (f (k.val / 256)) (by simp) rfl (256 * (k.val / 256)) ?_ _ ?_ ?_
  · have : ((((List.range 11).map fun c => (⟨M2 R 256, f c⟩ : (s : Shape) × (s.Idx → EReal))).take (k.val / 256)).map (·.1)).map
          (fun s : Shape => if h : s.rank = 2 then s.size ((1 : Fin 2).cast h.symm) else 0)
        = List.replicate (k.val / 256) 256 := by
      refine List.eq_replicate_iff.2 ⟨by simp; omega, fun b hb => ?_⟩
      simp only [List.mem_map] at hb
      obtain ⟨s, ⟨q, hq, rfl⟩, rfl⟩ := hb
      obtain ⟨c, _, rfl⟩ := List.mem_map.1 (List.mem_of_mem_take hq)
      rfl
    refine (congrArg List.sum this).trans ?_
    rw [List.sum_replicate, smul_eq_mul]; omega
  · intro b hb
    match b with
    | ⟨0, _⟩ => rfl
    | ⟨1, _⟩ => exact absurd rfl hb
  · show 256 * (k.val / 256) + k.val % 256 = k.val
    omega

/-- The list of the eleven pieces. -/
theorem range_map {α : Type _} (f : ℕ → α) : (List.range 11).map f = [f 0, f 1, f 2, f 3, f 4, f 5, f 6, f 7, f 8, f 9, f 10] := rfl

/-- The pieces side by side times the last weights are the feed-forward layer. -/
theorem mm_cat (hn : (M2 R 1024).Idx → EReal) (win : (M2 1024 5632).Idx → EReal) (wout : (M2 2816 1024).Idx → EReal)
    (L : List ((s : Shape) × (s.Idx → EReal))) (hL : L = (List.range 11).map fun c => ⟨M2 R 256, actC hn win c⟩)
    (hc : Shape.Concatenates (L.map (·.1)) (M2 R 2816) 1) (a : Fin R) (j : Fin 1024) :
    mm (concatenate (M2 R 2816) 1 L hc) wout (ValueIdx.ix2 a j) = ffnR (rowOf hn a) win wout j := by
  refine dotR_congr (fun k => ?_) fun _ => rfl
  exact (cat_apply (actC hn win) L hL hc a k).trans (actC_apply hn win a k)

end Cert.Trunk

end
-- ==== Proof.Trunk.Final.lean ====
/- The last call of the trunk, `ffn_final`: its result block as a function of its rows. -/
module

public import proofs.«01_k».proof.Proof.Trunk.Ops
public import proofs.«01_k».proof.Proof.Gen.Kernel2Ideal.Value

@[expose] public section

set_option maxRecDepth 16384

noncomputable section

namespace Cert.Trunk

open Idealize.ShloMosaic Idealize.ShloMosaic.TcCoe

section
open Cert.Kernel2Ideal Cert.Kernel2Ideal.Gen

/-- A tile normalized by the last scale. -/
theorem pay1_apply (v : FVec Ideal S1024x1024 .f32) (g : Vec Ideal S1x1024 .f32) (a : Fin 1024) (j : Fin 1024) :
    k0_pay1 v g (ValueIdx.ix2 a j) = normR 0x44800000#32 (rowOf v a) (rowOf g 0) j := by
  unfold k0_pay1
  pointwise
  rfl

/-- The residual stream with the attention's projection added. -/
theorem pay2_eq (x : Vec Ideal S1024x1024 .f32) (h : Vec Ideal S1024x1024 .bf16) (w : Vec Ideal S1024x1024 .bf16) :
    k0_pay2 x h w = fun ix => x ix + mm (R := 1024) h w ix := by
  simp only [k0_pay2, shapeCast_self, matmul_mm dot_S1024x1024_S1024x1024_S1024x1024_1_0_0_1_n_n rfl]
  rfl

/-- That stream normalized. -/
theorem pay3_apply (x : Vec Ideal S1024x1024 .f32) (h : Vec Ideal S1024x1024 .bf16) (w : Vec Ideal S1024x1024 .bf16) (g : Vec Ideal S1x1024 .f32)
    (a : Fin 1024) (j : Fin 1024) :
    k0_pay3 x h w g (ValueIdx.ix2 a j) = normR 0x44800000#32 (rowOf (k0_pay2 x h w) a) (rowOf g 0) j := by
  unfold k0_pay3
  generalize k0_pay2 x h w = v
  pointwise
  rfl

section
variable (hn : Vec Ideal S1024x1024 .bf16) (g u : Vec Ideal S1024x256 .bf16)

theorem act_eq :
    (truncf (F := Ideal) .bf16 (mulf (mulf (mm (R := 1024) hn g) (logistic (φ := .f32) (mm (R := 1024) hn g))) (mm (R := 1024) hn u)) bitsLt_bf16_f32 : FVec Ideal S1024x256 .bf16)
      = actV hn g u := rfl
theorem pay6_eq : k0_pay6 hn (k0_pay4 hn g) (k0_pay5 u) (constant S1024x256 .f32 0#32) = actV hn g u := by
  simp only [k0_pay4, k0_pay5, k0_pay6, shapeCast_self, matmul_mm dot_S1024x1024_S1024x256_S1024x256_1_0_0_1_n_n rfl]
  rfl
theorem pay7_eq : k0_pay7 hn g u = actV hn g u := by
  simp only [k0_pay7, shapeCast_self, matmul_mm dot_S1024x1024_S1024x256_S1024x256_1_0_0_1_n_n rfl]
  rfl
theorem pay8_eq : k0_pay8 hn g u = actV hn g u := pay7_eq hn g u
theorem pay9_eq : k0_pay9 hn g u = actV hn g u := pay7_eq hn g u
theorem pay11_eq : k0_pay11 hn (k0_pay10 hn g) u = actV hn g u := pay7_eq hn g u
theorem pay12_eq : k0_pay12 hn g u = actV hn g u := pay7_eq hn g u
theorem pay13_eq : k0_pay13 hn g u = actV hn g u := pay7_eq hn g u
theorem pay14_eq : k0_pay14 hn g u = actV hn g u := pay7_eq hn g u
end

/-- A block of the call's result. -/
def finB (x : Vec Ideal S1024x1024 .f32) (h w : Vec Ideal S1024x1024 .bf16) (g : Vec Ideal S1x1024 .f32) (win : Vec Ideal S1024x5632 .bf16)
    (wout : Vec Ideal S2816x1024 .bf16) (fg : Vec Ideal S1x1024 .f32) : FVec Ideal S1024x1024 .f32 :=
  k0_pay1 (k0_pay15 (k0_pay3 x h w g) (actC (k0_pay3 x h w g) win 0) (actC (k0_pay3 x h w g) win 1) (actC (k0_pay3 x h w g) win 2)
    (actC (k0_pay3 x h w g) win 3) (actC (k0_pay3 x h w g) win 4) (actC (k0_pay3 x h w g) win 5) (actC (k0_pay3 x h w g) win 6)
    (actC (k0_pay3 x h w g) win 7) (ldV win 2048) (ldV win 4864) (ldV win 2304) (ldV win 5120) (ldV win 2560) (ldV win 5376) wout (k0_pay2 x h w)) fg

theorem pay15_apply (hn : Vec Ideal S1024x1024 .bf16) (win : Vec Ideal S1024x5632 .bf16) (wout : Vec Ideal S2816x1024 .bf16) (x : Vec Ideal S1024x1024 .f32)
    (a : Fin 1024) (j : Fin 1024) :
    k0_pay15 hn (actC hn win 0) (actC hn win 1) (actC hn win 2) (actC hn win 3) (actC hn win 4) (actC hn win 5) (actC hn win 6) (actC hn win 7)
      (ldV win 2048) (ldV win 4864) (ldV win 2304) (ldV win 5120) (ldV win 2560) (ldV win 5376) wout x (ValueIdx.ix2 a j)
    = x (ValueIdx.ix2 a j) + ffnR (rowOf hn a) win wout j := by
  simp only [k0_pay15, shapeCast_self, matmul_mm dot_S1024x1024_S1024x256_S1024x256_1_0_0_1_n_n rfl, matmul_mm dot_S1024x2816_S2816x1024_S1024x1024_1_0_0_1_n_n rfl, act_eq]
  refine congrArg (x (ValueIdx.ix2 a j) + ·) (mm_cat hn win wout _ ?_ _ a j)
  rw [range_map]
  simp only [shapeCast_self, matmul_mm dot_S1024x1024_S1024x256_S1024x256_1_0_0_1_n_n rfl, act_eq]
  rfl

section
variable (m : (ℓ : Loc nD τ sig) → Buf (Elt Ideal) ℓ) (c : Dev nD)

/-- What a grid point leaves in the result's block. -/
theorem out_eq (t : Fin cfg0.N) : (dats m 0 c).after 7 t = finB (iblk m c 0 t) (iblk m c 1 t) (iblk m c 2 t) (iblk m c 3 t) (iblk m c 4 t) (iblk m c 5 t) (iblk m c 6 t) := by
  rw [after0_7]
  unfold outsAt0
  frame_out
  simp only [ld_ldV, pay6_eq, pay7_eq, pay8_eq, pay9_eq, pay11_eq, pay12_eq, pay13_eq, pay14_eq]
  rfl
end
end
end Cert.Trunk

end
-- ==== Proof.Trunk.Ref.lean ====
/- The steps of the trunk in the reference, each read at an index: the normalization and the feed-forward layer of a row. -/
module

public import proofs.«01_k».proof.Proof.Trunk.Ops
public import proofs.«01_k».proof.Proof.Gen.Reference2Ideal.Run

@[expose] public section

set_option maxRecDepth 16384

noncomputable section

namespace Cert.Trunk

open Idealize.ShloMosaic Cert.Reference2Ideal Cert.Reference2Ideal.Gen

/-- An array's row at batch `b` and position `s`. -/
def rowAt {N : ℕ} (x : (⟨3, ![16, 2048, N]⟩ : Shape).Idx → EReal) (b : Fin 16) (s : Fin 2048) (j : Fin N) : EReal := x (ValueIdx.ix3 b s j)
/-- An array of one axis as a row. -/
def vecR {N : ℕ} (g : (⟨1, ![N]⟩ : Shape).Idx → EReal) (j : Fin N) : EReal := g (ValueIdx.ix1 j)

/-- The normalization. -/
def rNorm (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The first product of the feed-forward layer. -/
def rU (hn : FVec Ideal S16x2048x1024 .f32) (win : FVec Ideal S1024x5632 .f32) : FVec Ideal S16x2048x5632 .f32 :=
  Host.dotGeneral dot_S16x2048x1024_S1024x5632_S16x2048x5632_2_0_01_1_n_n none hn win

/-- The gated hidden layer. -/
def rSwi (u : FVec Ideal S16x2048x5632 .f32) : FVec Ideal S16x2048x2816 .f32 :=
  mulf (mulf (extractStridedSlice S16x2048x2816 ![0, 0, 0] u slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] u slices_S16x2048x5632_S16x2048x2816_0_0_0)))))) (extractStridedSlice S16x2048x2816 ![0, 0, 2816] u slices_S16x2048x5632_S16x2048x2816_0_0_2816)

/-- Half a step of the feed-forward layer. -/
def rStep (x hn : FVec Ideal S16x2048x1024 .f32) (win : FVec Ideal S1024x5632 .f32) (wout : FVec Ideal S2816x1024 .f32) : FVec Ideal S16x2048x1024 .f32 :=
  addf x (mulf (broadcastInDim S16x2048x1024 ![] bcast_S_S16x2048x1024 (constant S_ .f32 0x3F000000#32)) (Host.dotGeneral dot_S16x2048x2816_S2816x1024_S16x2048x1024_2_0_01_1_n_n none (rSwi (rU hn win)) wout))

/-- The residual stream with the attention's projection added. -/
def rProj (x h : FVec Ideal S16x2048x1024 .f32) (w : FVec Ideal S1024x1024 .f32) : FVec Ideal S16x2048x1024 .f32 :=
  addf x (Host.dotGeneral dot_S16x2048x1024_S1024x1024_S16x2048x1024_2_0_01_1_n_n none h w)

theorem rNorm_apply (x : FVec Ideal S16x2048x1024 .f32) (g : FVec Ideal S1024 .f32) (b : Fin 16) (s : Fin 2048) (j : Fin 1024) :
    rNorm x g (ValueIdx.ix3 b s j) = normR 0x44800000#32 (rowAt x b s) (vecR g) j := by
  unfold rNorm
  pointwise
  rfl

theorem rU_apply (hn : FVec Ideal S16x2048x1024 .f32) (win : FVec Ideal S1024x5632 .f32) (b : Fin 16) (s : Fin 2048) (j : Fin 5632) :
    rU hn win (ValueIdx.ix3 b s j) = dotR (rowAt hn b s) win j := by
  unfold rU
  pointwise
  rfl

theorem rProj_apply (x h : FVec Ideal S16x2048x1024 .f32) (w : FVec Ideal S1024x1024 .f32) (b : Fin 16) (s : Fin 2048) (j : Fin 1024) :
    rProj x h w (ValueIdx.ix3 b s j) = projR (rowAt x b s) (rowAt h b s) w j := by
  unfold rProj
  pointwise
  rfl

theorem rSwi_apply (u : FVec Ideal S16x2048x5632 .f32) (b : Fin 16) (s : Fin 2048) (k : Fin 2816) :
    rSwi u (ValueIdx.ix3 b s k) = silu (u (ValueIdx.ix3 b s ⟨k.val, by omega⟩)) * u (ValueIdx.ix3 b s ⟨2816 + k.val, by omega⟩) := by
  unfold rSwi
  pointwise
  rfl

theorem rFfn_apply (hn : FVec Ideal S16x2048x1024 .f32) (win : FVec Ideal S1024x5632 .f32) (wout : FVec Ideal S2816x1024 .f32) (b : Fin 16) (s : Fin 2048) (j : Fin 1024) :
    dotR (rowAt (rSwi (rU hn win)) b s) wout j = ffnR (rowAt hn b s) win wout j := by
  refine dotR_congr (fun k => (rSwi_apply _ b s k).trans ?_) fun _ => rfl
  rw [rU_apply, rU_apply]
  rfl

theorem rStep_apply (x hn : FVec Ideal S16x2048x1024 .f32) (win : FVec Ideal S1024x5632 .f32) (wout : FVec Ideal S2816x1024 .f32) (b : Fin 16) (s : Fin 2048) (j : Fin 1024) :
    rStep x hn win wout (ValueIdx.ix3 b s j) = stepR (rowAt x b s) (rowAt hn b s) win wout j := by
  unfold rStep
  pointwise
  exact congrArg (fun q => x (ValueIdx.ix3 b s j) + Ideal.ofBits .f32 0x3F000000#32 * q) (rFfn_apply hn win wout b s j)

/-- The same as rows. -/
theorem rNorm_row (x : FVec Ideal S16x2048x1024 .f32) (g : FVec Ideal S1024 .f32) (b : Fin 16) (s : Fin 2048) :
    rowAt (rNorm x g) b s = normR 0x44800000#32 (rowAt x b s) (vecR g) := funext fun j => rNorm_apply x g b s j
theorem rProj_row (x h : FVec Ideal S16x2048x1024 .f32) (w : FVec Ideal S1024x1024 .f32) (b : Fin 16) (s : Fin 2048) :
    rowAt (rProj x h w) b s = projR (rowAt x b s) (rowAt h b s) w := funext fun j => rProj_apply x h w b s j
theorem rStep_row (x hn : FVec Ideal S16x2048x1024 .f32) (win : FVec Ideal S1024x5632 .f32) (wout : FVec Ideal S2816x1024 .f32) (b : Fin 16) (s : Fin 2048) :
    rowAt (rStep x hn win wout) b s = stepR (rowAt x b s) (rowAt hn b s) win wout := funext fun j => rStep_apply x hn win wout b s j

/-- The batch and the position of a token. -/
def tb (T : Fin 32768) : Fin 16 := ⟨T.val / 2048, by omega⟩
def ts (T : Fin 32768) : Fin 2048 := ⟨T.val % 2048, by omega⟩

/-- A row of the trunk's result. -/
def finR (x h : Fin 1024 → EReal) (w : (M2 1024 1024).Idx → EReal) (g : Fin 1024 → EReal) (win : (M2 1024 5632).Idx → EReal) (wout : (M2 2816 1024).Idx → EReal)
    (fg : Fin 1024 → EReal) : Fin 1024 → EReal :=
  normR 0x44800000#32 (stepR (projR x h w) (normR 0x44800000#32 (projR x h w) g) win wout) fg

/-- The trunk's result. -/
def rFin (x h : FVec Ideal S16x2048x1024 .f32) (w : FVec Ideal S1024x1024 .f32) (g : FVec Ideal S1024 .f32) (win : FVec Ideal S1024x5632 .f32)
    (wout : FVec Ideal S2816x1024 .f32) (fg : FVec Ideal S1024 .f32) : FVec Ideal S32768x1024 .f32 :=
  shapeCast _ (rNorm (rStep (rProj x h w) (rNorm (rProj x h w) g) win wout) fg) shapeCasts_S16x2048x1024_S32768x1024

theorem rFin_apply (x h : FVec Ideal S16x2048x1024 .f32) (w : FVec Ideal S1024x1024 .f32) (g : FVec Ideal S1024 .f32) (win : FVec Ideal S1024x5632 .f32)
    (wout : FVec Ideal S2816x1024 .f32) (fg : FVec Ideal S1024 .f32) (T : Fin 32768) (j : Fin 1024) :
    rFin x h w g win wout fg (ValueIdx.ix2 T j) = finR (rowAt x (tb T) (ts T)) (rowAt h (tb T) (ts T)) w (vecR g) win wout (vecR fg) j := by
  have e : rFin x h w g win wout fg (ValueIdx.ix2 T j) = rowAt (rNorm (rStep (rProj x h w) (rNorm (rProj x h w) g) win wout) fg) (tb T) (ts T) j := by
    unfold rFin
    generalize rNorm _ fg = v
    pointwise
    rfl
  rw [e, rNorm_row, rStep_row, rNorm_row, rProj_row]
  rfl

theorem res2_eq (m : (ℓ : Loc nD τ sig) → Buf (Elt Ideal) ℓ) (c : Dev nD) :
    Value.res_main_v37 m c = rFin (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Cert.Trunk

end
-- ==== Proof.Trunk.FinalResult.lean ====
/- The call `ffn_final`: its result array is the reference's, and its claims. -/
module

public import proofs.«01_k».proof.Proof.Trunk.Final
public import proofs.«01_k».proof.Proof.Trunk.Ref
public import proofs.«01_k».proof.Proof.Gen.Kernel2.Frame
public import proofs.«01_k».proof.Defs
public import Idealize.ShloMosaic.Lib.Claim
public import Idealize.ShloMosaic.Lib.StableHlo.RunRead

@[expose] public section

set_option maxRecDepth 16384

noncomputable section

namespace Cert.Trunk

open Idealize.ShloMosaic Idealize.ShloMosaic.TcCoe Cert.Kernel2Ideal Cert.Kernel2Ideal.Gen

/-- An entry of a result's block. -/
theorem finB_apply (x : Vec Ideal S1024x1024 .f32) (h w : Vec Ideal S1024x1024 .bf16) (g : Vec Ideal S1x1024 .f32) (win : Vec Ideal S1024x5632 .bf16)
    (wout : Vec Ideal S2816x1024 .bf16) (fg : Vec Ideal S1x1024 .f32) (w0 : (M2 2816 1024).Idx → EReal)
    (hw : ∀ ix, wout ix = w0 ix * Ideal.ofBits .f32 0x3F000000#32) (a j : Fin 1024) :
    finB x h w g win wout fg (ValueIdx.ix2 a j) = finR (rowOf (R := 1024) x a) (rowOf (R := 1024) h a) w (rowOf (R := 1) g 0) win w0 (rowOf (R := 1) fg 0) j := by
  have e2 : rowOf (R := 1024) (k0_pay2 x h w) a = projR (rowOf (R := 1024) x a) (rowOf (R := 1024) h a) w := by
    rw [pay2_eq]
    rfl
  have e3 : rowOf (R := 1024) (k0_pay3 x h w g) a = normR 0x44800000#32 (rowOf (R := 1024) (k0_pay2 x h w) a) (rowOf (R := 1) g 0) :=
    funext fun j => pay3_apply x h w g a j
  unfold finB
  rw [pay1_apply]
  refine congrArg (fun r => normR 0x44800000#32 r (rowOf (R := 1) fg 0) j) (funext fun n => ?_)
  refine (pay15_apply _ win wout _ a n).trans ?_
  rw [e3]
  refine (half_step (rowOf (R := 1024) (k0_pay2 x h w) a) _ win w0 wout hw n).trans ?_
  rw [e2]

section
variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

/-- The token of a grid point's row. -/
theorem read0 (X : S32768x1024.Idx → EReal) (t : Fin cfg0.N) (a j : Fin 1024) (T : Fin 32768) (hT : T.val = 1024 * t.val + a.val) :
    ((cfg0.win 0).blk t).view.read (Elt Ideal) X (ValueIdx.ix2 a j) = X (ValueIdx.ix2 T j) := by
  blk_ext [idx0 t]
  show t.val * 1024 + a.val = T.val
  omega
theorem read1 (X : S32768x1024.Idx → EReal) (t : Fin cfg0.N) (a j : Fin 1024) (T : Fin 32768) (hT : T.val = 1024 * t.val + a.val) :
    ((cfg0.win 1).blk t).view.read (Elt Ideal) X (ValueIdx.ix2 a j) = X (ValueIdx.ix2 T j) := by
  blk_ext [idx1 t]
  show t.val * 1024 + a.val = T.val
  omega
theorem read2 (X : S1024x1024.Idx → EReal) (t : Fin cfg0.N) : ((cfg0.win 2).blk t).view.read (Elt Ideal) X = X := by
  funext ix
  rw [eta2 ix]
  blk_ext [idx2 t]
theorem read3 (X : S1x1024.Idx → EReal) (t : Fin cfg0.N) : ((cfg0.win 3).blk t).view.read (Elt Ideal) X = X := by
  funext ix
  rw [eta2 ix]
  blk_ext [idx3 t]
theorem read4 (X : S1024x5632.Idx → EReal) (t : Fin cfg0.N) : ((cfg0.win 4).blk t).view.read (Elt Ideal) X = X := by
  funext ix
  rw [eta2 ix]
  blk_ext [idx4 t]
theorem read5 (X : S2816x1024.Idx → EReal) (t : Fin cfg0.N) : ((cfg0.win 5).blk t).view.read (Elt Ideal) X = X := by
  funext ix
  rw [eta2 ix]
  blk_ext [idx5 t]
theorem read6 (X : S1x1024.Idx → EReal) (t : Fin cfg0.N) : ((cfg0.win 6).blk t).view.read (Elt Ideal) X = X := by
  funext ix
  rw [eta2 ix]
  blk_ext [idx6 t]

/-- The arrays that the host prepares. -/
theorem V0 : V m c main_v0 = shapeCast S32768x1024 (m ((c.tc : Thread nD τ).loc main_arg0) : FVec Ideal S16x2048x1024 .f32) shapeCasts_S16x2048x1024_S32768x1024 := by
  entry_read
  rfl
theorem V1 : V m c main_v7 = shapeCast S32768x1024 (m ((c.tc : Thread nD τ).loc main_arg1) : FVec Ideal S16x2048x1024 .f32) shapeCasts_S16x2048x1024_S32768x1024 := by
  entry_read
  rfl
theorem V2 : V m c main_v8 = (m ((c.tc : Thread nD τ).loc main_arg2) : S1024x1024.Idx → EReal) := by
  entry_read
  rfl
theorem V3 : V m c main_v1 = shapeCast S1x1024 (m ((c.tc : Thread nD τ).loc main_arg3) : FVec Ideal S1024 .f32) shapeCasts_S1024_S1x1024 := by
  entry_read
  rfl
theorem V4 : V m c main_v2 = (m ((c.tc : Thread nD τ).loc main_arg4) : S1024x5632.Idx → EReal) := by
  entry_read
  rfl
theorem V5 : V m c main_v5 = halved (m ((c.tc : Thread nD τ).loc main_arg5)) := by
  entry_read
  rfl
theorem V6 : V m c main_v9 = shapeCast S1x1024 (m ((c.tc : Thread nD τ).loc main_arg6) : FVec Ideal S1024 .f32) shapeCasts_S1024_S1x1024 := by
  entry_read
  rfl

theorem tok_apply (x : FVec Ideal S16x2048x1024 .f32) (T : Fin 32768) (j : Fin 1024) :
    shapeCast S32768x1024 x shapeCasts_S16x2048x1024_S32768x1024 (ValueIdx.ix2 T j) = rowAt x (tb T) (ts T) j := by
  pointwise
  rfl
theorem row_apply (g : FVec Ideal S1024 .f32) : rowOf (R := 1) (shapeCast S1x1024 g shapeCasts_S1024_S1x1024) 0 = vecR g := by
  funext j
  unfold rowOf
  pointwise
  rfl

/-- The call's result array. -/
theorem result2 : (dats m 0 c).arrAt 7 cfg0.N
      = rFin (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [out_eq]
  obtain ⟨a, j, rfl⟩ : ∃ (a : Fin 1024) (j : Fin 1024), y = ValueIdx.ix2 a j := ⟨y 0, y 1, eta2 y⟩
  have ht : t.val < 32 := t.isLt
  obtain ⟨T, hT⟩ : ∃ T : Fin 32768, T.val = 1024 * t.val + a.val := ⟨⟨1024 * t.val + a.val, by omega⟩, rfl⟩
  have ey : (win0_7.blk t).view.emb (ValueIdx.ix2 a j) = ValueIdx.ix2 T j := by
    blk_ext [idx7 t]
    show t.val * 1024 + a.val = T.val
    omega
  rw [ey, rFin_apply]
  refine (finB_apply _ _ _ _ _ _ _ (m ((c.tc : Thread nD τ).loc main_arg5)) (fun ix => ?_) a j).trans ?_
  · exact congrFun ((read5 (V m c main_v5) t).trans (V5 m c)) ix
  · have r0 : rowOf (R := 1024) (iblk m c 0 t) a = rowAt (m ((c.tc : Thread nD τ).loc main_arg0)) (tb T) (ts T) :=
      funext fun j => (read0 (V m c main_v0) t a j T hT).trans ((congrFun (V0 m c) _).trans (tok_apply _ T j))
    have r1 : rowOf (R := 1024) (iblk m c 1 t) a = rowAt (m ((c.tc : Thread nD τ).loc main_arg1)) (tb T) (ts T) :=
      funext fun j => (read1 (V m c main_v7) t a j T hT).trans ((congrFun (V1 m c) _).trans (tok_apply _ T j))
    have r2 : iblk m c 2 t = m ((c.tc : Thread nD τ).loc main_arg2) := (read2 (V m c main_v8) t).trans (V2 m c)
    have r3 : rowOf (R := 1) (iblk m c 3 t) 0 = vecR (m ((c.tc : Thread nD τ).loc main_arg3)) :=
      (congrArg (fun q => rowOf (R := 1) q 0) ((read3 (V m c main_v1) t).trans (V3 m c))).trans (row_apply _)
    have r4 : iblk m c 4 t = m ((c.tc : Thread nD τ).loc main_arg4) := (read4 (V m c main_v2) t).trans (V4 m c)
    have r6 : rowOf (R := 1) (iblk m c 6 t) 0 = vecR (m ((c.tc : Thread nD τ).loc main_arg6)) :=
      (congrArg (fun q => rowOf (R := 1) q 0) ((read6 (V m c main_v9) t).trans (V6 m c))).trans (row_apply _)
    rw [r0, r1, r2, r3, r4, r6]
end

/-- The call computes its reference. -/
theorem algebraic2 : Cert.algebraic_Kernel2Ideal_Reference2Ideal := by
  intro m ρ m' ρ' _ hagree
  refine ⟨fun c => (Kernel2Ideal.Gen.dats m 0 c).arrAt 7 Kernel2Ideal.cfg0.N, Kernel2Ideal.Value.run_blocks (F := Ideal) m ρ, ?_⟩
  refine (θ_run Reference2Ideal.defs _ _).mono (fun _ h c => ⟨(h c).1.trans ?_, (h c).2⟩) (Reference2Ideal.Value.run (F := Ideal) m' ρ')
  obtain ⟨g0, g1, g2, g3, g4, g5, g6⟩ := hagree c
  rw [res2_eq, g0, g1, g2, g3, g4, g5, g6]
  exact (result2 m c).symm

theorem frame_r2 : Cert.quiescent_Reference2Ideal := fun m ρ _ =>
  (θ_run Reference2Ideal.defs _ _).mono (fun r h => ⟨fun c => (h c).2, sem_eq_zero_of_no_sems (by decide) r.2⟩) (Reference2Ideal.Value.run (F := Ideal) m ρ)

theorem frame_i2 : Cert.quiescent_Kernel2Ideal := fun m ρ _ => Kernel2Ideal.Gen.frame m ρ

theorem frame_k2 : Cert.quiescent_Kernel2 := fun m ρ _ => Kernel2.Gen.frame m ρ

theorem preserves2 : Cert.preserves_Kernel2_Kernel2Ideal := trivial

end Cert.Trunk

end
-- ==== Proof.Trunk.Qkv.lean ====
/- The call `ffn_qkv`: its result blocks as functions of their rows. -/
module

public import proofs.«01_k».proof.Proof.Trunk.Ops
public import proofs.«01_k».proof.Proof.Gen.Kernel3Ideal.Value

@[expose] public section

set_option maxRecDepth 16384

noncomputable section

namespace Cert.Trunk.Qkv

open Idealize.ShloMosaic Idealize.ShloMosaic.TcCoe Cert.Kernel3Ideal Cert.Kernel3Ideal.Gen

/-- A tile normalized. -/
theorem pay1_apply (v : Vec Ideal S512x1024 .f32) (g : Vec Ideal S1x1024 .f32) (a : Fin 512) (j : Fin 1024) :
    k0_pay1 v g (ValueIdx.ix2 a j) = normR 0x44800000#32 (rowOf v a) (rowOf g 0) j := by
  unfold k0_pay1
  pointwise
  rfl

theorem act_eq (hn : Vec Ideal S512x1024 .bf16) (g u : Vec Ideal S1024x256 .bf16) :
    (truncf (F := Ideal) .bf16 (mulf (mulf (mm (R := 512) hn g) (logistic (φ := .f32) (mm (R := 512) hn g))) (mm (R := 512) hn u)) bitsLt_bf16_f32 : FVec Ideal S512x256 .bf16)
      = actV hn g u := rfl

theorem add_congr (u : EReal) {v w : EReal} (h : v = w) : u + v = u + w := by rw [h]

/-- A block of the new residual stream. -/
def hB (x : Vec Ideal S512x1024 .f32) (g : Vec Ideal S1x1024 .f32) (win : Vec Ideal S1024x5632 .bf16) (wout : Vec Ideal S2816x1024 .bf16) : FVec Ideal S512x1024 .f32 :=
  fun ix => x ix + ffnR (rowOf (R := 512) (k0_pay1 x g) (ix 0)) win wout (ix 1)

/-- The mean square of a tile's rows with its epsilon. -/
def msB (h : Vec Ideal S512x1024 .f32) : FVec Ideal S512x1 .f32 :=
  addf (divf (shapeCast S512x1 (multiReduction .add [1] S512 (mulf h h) 0x00000000#32 reduces_S512x1024_S512 (.inl rfl) rfl) shapeCasts_S512_S512x1) (broadcast S512x1 (Scalar.ofBits .f32 0x44800000#32))) (broadcast S512x1 (Scalar.ofBits .f32 0x358637BD#32))

section
variable (m : (ℓ : Loc nD τ sig) → Buf (Elt Ideal) ℓ) (c : Dev nD)

set_option maxHeartbeats 1000000 in
/-- What a grid point leaves in the residual stream's block. -/
theorem out_h (t : Fin cfg0.N) : (dats m 0 c).after 8 t = hB (iblk m c 0 t) (iblk m c 1 t) (iblk m c 2 t) (iblk m c 3 t) := by
  rw [after0_8]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, matmul_mm dot_S512x2816_S2816x1024_S512x1024_1_0_0_1_n_n rfl]
  generalize (iblk m c 0 t : Vec Ideal S512x1024 .f32) = X0
  generalize (iblk m c 1 t : Vec Ideal S1x1024 .f32) = X1
  generalize (iblk m c 2 t : Vec Ideal S1024x5632 .bf16) = X2
  generalize (iblk m c 3 t : Vec Ideal S2816x1024 .bf16) = X3
  funext ix
  obtain ⟨a, j, rfl⟩ : ∃ (a : Fin 512) (j : Fin 1024), ix = ValueIdx.ix2 a j := ⟨ix 0, ix 1, eta2 ix⟩
  refine add_congr _ (mm_cat (R := 512) (k0_pay1 X0 X1) X2 X3 _ ?_ _ a j)
  rw [range_map]
  simp (disch := decide) only [View.ld_unit_lit', View.readCov_unit_lit', View.readCov_cons_unit_lit', View.readAt_eq_ld, Memref.IsWhole.read_unread,
    shapeCast_self, matmul_mm dot_S512x1024_S1024x256_S512x256_1_0_0_1_n_n rfl, ld_ldV, act_eq, k0_pay1]
  rfl

set_option maxHeartbeats 1000000 in
/-- What it leaves in the queries' block, of the residual stream's. -/
theorem out_q (t : Fin cfg0.N) : (dats m 0 c).after 9 t = k0_pay18 ((dats m 0 c).after 8 t) (iblk m c 4 t) (msB ((dats m 0 c).after 8 t)) (iblk m c 5 t) := by
  rw [after0_8, after0_9]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, k0_pay18, k0_pay17, msB]
set_option maxHeartbeats 1000000 in
/-- The keys' block. -/
theorem out_k (t : Fin cfg0.N) : (dats m 0 c).after 10 t = k0_pay19 ((dats m 0 c).after 8 t) (iblk m c 4 t) (msB ((dats m 0 c).after 8 t)) (iblk m c 5 t) := by
  rw [after0_8, after0_10]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, k0_pay19, k0_pay17, msB]
set_option maxHeartbeats 1000000 in
/-- The values' block. -/
theorem out_v (t : Fin cfg0.N) : (dats m 0 c).after 11 t = k0_pay20 ((dats m 0 c).after 8 t) (iblk m c 4 t) (msB ((dats m 0 c).after 8 t)) (iblk m c 5 t) := by
  rw [after0_8, after0_11]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, k0_pay20, k0_pay17, msB]
/-- The block of the next layer's first weights. -/
theorem out_win (t : Fin cfg0.N) : (dats m 0 c).after 12 t = k0_pay21 (iblk m c 6 t) := by
  rw [after0_12]
  unfold outsAt0
  frame_out
/-- The block of the next layer's last weights. -/
theorem out_wout (t : Fin cfg0.N) : (dats m 0 c).after 13 t = k0_pay22 (iblk m c 7 t) := by
  rw [after0_13]
  unfold outsAt0
  frame_out
end

/-- A row of the residual stream's block. -/
theorem hB_row (x : Vec Ideal S512x1024 .f32) (g : Vec Ideal S1x1024 .f32) (win : Vec Ideal S1024x5632 .bf16) (wout : Vec Ideal S2816x1024 .bf16) (w0 : (M2 2816 1024).Idx → EReal)
    (hw : ∀ ix, wout ix = w0 ix * Ideal.ofBits .f32 0x3F000000#32) (a : Fin 512) :
    rowOf (R := 512) (hB x g win wout) a = stepR (rowOf (R := 512) x a) (normR 0x44800000#32 (rowOf (R := 512) x a) (rowOf (R := 1) g 0)) win w0 := by
  funext j
  have e : rowOf (R := 512) (k0_pay1 x g) a = normR 0x44800000#32 (rowOf (R := 512) x a) (rowOf (R := 1) g 0) := funext fun j => pay1_apply x g a j
  refine Eq.trans ?_ (half_step _ _ win w0 wout hw j)
  rw [← e]
  rfl

/-- The three projections of a row. -/
theorem pay17_apply (h : Vec Ideal S512x1024 .f32) (g : Vec Ideal S1x1024 .f32) (w : Vec Ideal S1024x3072 .bf16) (a : Fin 512) (j : Fin 3072) :
    k0_pay17 h g (msB h) w (ValueIdx.ix2 a j) = dotR (normR 0x44800000#32 (rowOf (R := 512) h a) (rowOf (R := 1) g 0)) w j := by
  simp only [k0_pay17, shapeCast_self, matmul_mm dot_S512x1024_S1024x3072_S512x3072_1_0_0_1_n_n rfl]
  refine dotR_congr (fun k => ?_) fun _ => rfl
  unfold rowOf msB
  pointwise
  rfl

theorem pay18_apply (h : Vec Ideal S512x1024 .f32) (g : Vec Ideal S1x1024 .f32) (w : Vec Ideal S1024x3072 .bf16) (a : Fin 512) (j : Fin 1024) :
    k0_pay18 h g (msB h) w (ValueIdx.ix2 a j)
      = dotR (normR 0x44800000#32 (rowOf (R := 512) h a) (rowOf (R := 1) g 0)) w ⟨j.val, by omega⟩ * (((8 * Real.log 2)⁻¹ : ℝ) : EReal) := by
  rw [← pay17_apply]
  unfold k0_pay18
  generalize k0_pay17 h g (msB h) w = q
  pointwise
  rw [IdealRules.named_const.ideal_named_scalar κ "qk" (φ := .f32) 0x3E38AA3B#32 _ rfl]
  rfl

theorem pay19_apply (h : Vec Ideal S512x1024 .f32) (g : Vec Ideal S1x1024 .f32) (w : Vec Ideal S1024x3072 .bf16) (a : Fin 512) (j : Fin 1024) :
    k0_pay19 h g (msB h) w (ValueIdx.ix2 a j) = dotR (normR 0x44800000#32 (rowOf (R := 512) h a) (rowOf (R := 1) g 0)) w ⟨1024 + j.val, by omega⟩ := by
  rw [← pay17_apply]
  unfold k0_pay19
  generalize k0_pay17 h g (msB h) w = q
  pointwise
  rfl
theorem pay20_apply (h : Vec Ideal S512x1024 .f32) (g : Vec Ideal S1x1024 .f32) (w : Vec Ideal S1024x3072 .bf16) (a : Fin 512) (j : Fin 1024) :
    k0_pay20 h g (msB h) w (ValueIdx.ix2 a j) = dotR (normR 0x44800000#32 (rowOf (R := 512) h a) (rowOf (R := 1) g 0)) w ⟨2048 + j.val, by omega⟩ := by
  rw [← pay17_apply]
  unfold k0_pay20
  generalize k0_pay17 h g (msB h) w = q
  pointwise
  rfl

theorem pay21_apply (w : Vec Ideal S1x16x5632 .f32) (a : Fin 16) (j : Fin 5632) : k0_pay21 w (ValueIdx.ix2 a j) = w (ValueIdx.ix3 0 a j) := by
  unfold k0_pay21
  pointwise
  rfl
theorem pay22_apply (w : Vec Ideal S1x176x1024 .f32) (a : Fin 176) (j : Fin 1024) :
    k0_pay22 w (ValueIdx.ix2 a j) = w (ValueIdx.ix3 0 a j) * Ideal.ofBits .f32 0x3F000000#32 := by
  unfold k0_pay22
  pointwise
  rfl

end Cert.Trunk.Qkv

end
-- ==== Proof.Trunk.QkvRef.lean ====
/- The reference of the call `ffn_qkv`, read at an index. -/
module

public import proofs.«01_k».proof.Proof.Trunk.Ref
public import proofs.«01_k».proof.Proof.Mla.RefRead
public import proofs.«01_k».proof.Proof.Gen.Reference3Ideal.Run

@[expose] public section

set_option maxRecDepth 16384

noncomputable section

namespace Cert.Trunk.Qkv

open Idealize.ShloMosaic Cert.Reference3Ideal Cert.Reference3Ideal.Gen

/-- The new residual stream. -/
def rH (x : FVec Ideal S16x2048x1024 .f32) (g : FVec Ideal S1024 .f32) (win : FVec Ideal S1024x5632 .f32) (wout : FVec Ideal S2816x1024 .f32) : FVec Ideal S16x2048x1024 .f32 :=
  rStep x (rNorm x g) win wout

/-- The three projections. -/
def rQkv (h : FVec Ideal S16x2048x1024 .f32) (g : FVec Ideal S1024 .f32) (w : FVec Ideal S1024x3072 .f32) : FVec Ideal S16x2048x3072 .f32 :=
  Host.dotGeneral dot_S16x2048x1024_S1024x3072_S16x2048x3072_2_0_01_1_n_n none (rNorm h g) w

/-- The queries: the first projection over the square root of the width and to base two. -/
def rQ (q : FVec Ideal S16x2048x3072 .f32) : FVec Ideal S32768x1024 .bf16 :=
  truncf .bf16 (Host.divf (mulf (shapeCast _ (extractStridedSlice S32768x1x1024 ![0, 0, 0] (shapeCast _ q shapeCasts_S16x2048x3072_S32768x3x1024) slices_S32768x3x1024_S32768x1x1024_0_0_0) shapeCasts_S32768x1x1024_S32768x1024) (broadcastInDim S32768x1024 ![] bcast_S_S32768x1024 (constant S_ .f32 0x3E000000#32))) (broadcastInDim S32768x1024 ![] bcast_S_S32768x1024 (Host.log (constant S_ .f32 0x40000000#32)))) bitsLt_bf16_f32

/-- The keys: the second projection. -/
def rK (q : FVec Ideal S16x2048x3072 .f32) : FVec Ideal S32768x1024 .bf16 :=
  truncf .bf16 (shapeCast _ (extractStridedSlice S32768x1x1024 ![0, 1, 0] (shapeCast _ q shapeCasts_S16x2048x3072_S32768x3x1024) slices_S32768x3x1024_S32768x1x1024_0_1_0) shapeCasts_S32768x1x1024_S32768x1024) bitsLt_bf16_f32

/-- The values: the third projection. -/
def rV (q : FVec Ideal S16x2048x3072 .f32) : FVec Ideal S32768x1024 .bf16 :=
  truncf .bf16 (shapeCast _ (extractStridedSlice S32768x1x1024 ![0, 2, 0] (shapeCast _ q shapeCasts_S16x2048x3072_S32768x3x1024) slices_S32768x3x1024_S32768x1x1024_0_2_0) shapeCasts_S32768x1x1024_S32768x1024) bitsLt_bf16_f32

/-- The first weights of the next layer. -/
def rWin (w : FVec Ideal S2x1024x5632 .f32) : FVec Ideal S1024x5632 .bf16 :=
  truncf .bf16 (shapeCast _ (extractStridedSlice S1x1024x5632 ![0, 0, 0] w slices_S2x1024x5632_S1x1024x5632_0_0_0) shapeCasts_S1x1024x5632_S1024x5632) bitsLt_bf16_f32

/-- Half of its last weights. -/
def rWout (w : FVec Ideal S2x2816x1024 .f32) : FVec Ideal S2816x1024 .bf16 :=
  truncf .bf16 (mulf (broadcastInDim S2816x1024 ![] bcast_S_S2816x1024 (constant S_ .f32 0x3F000000#32)) (shapeCast _ (extractStridedSlice S1x2816x1024 ![0, 0, 0] w slices_S2x2816x1024_S1x2816x1024_0_0_0) shapeCasts_S1x2816x1024_S2816x1024)) bitsLt_bf16_f32

theorem rH_row (x : FVec Ideal S16x2048x1024 .f32) (g : FVec Ideal S1024 .f32) (win : FVec Ideal S1024x5632 .f32) (wout : FVec Ideal S2816x1024 .f32) (b : Fin 16) (s : Fin 2048) :
    rowAt (rH x g win wout) b s = stepR (rowAt x b s) (normR 0x44800000#32 (rowAt x b s) (vecR g)) win wout := by
  unfold rH
  rw [rStep_row, rNorm_row]

/-- The residual stream as an array of tokens. -/
def rTok (h : FVec Ideal S16x2048x1024 .f32) : FVec Ideal S32768x1024 .f32 := shapeCast _ h shapeCasts_S16x2048x1024_S32768x1024

theorem rTok_apply (h : FVec Ideal S16x2048x1024 .f32) (T : Fin 32768) (j : Fin 1024) : rTok h (ValueIdx.ix2 T j) = rowAt h (tb T) (ts T) j := by
  unfold rTok
  pointwise
  rfl

theorem rQkv_apply (h : FVec Ideal S16x2048x1024 .f32) (g : FVec Ideal S1024 .f32) (w : FVec Ideal S1024x3072 .f32) (b : Fin 16) (s : Fin 2048) (j : Fin 3072) :
    rQkv h g w (ValueIdx.ix3 b s j) = dotR (normR 0x44800000#32 (rowAt h b s) (vecR g)) w j := by
  rw [← rNorm_row]
  unfold rQkv
  generalize rNorm h g = v
  pointwise
  rfl

/-- The queries' factor. -/
theorem scale_eq (x : EReal) : Ideal.div (x * Ideal.ofBits .f32 0x3E000000#32) (Ideal.log (Ideal.ofBits .f32 0x40000000#32)) = x * (((8 * Real.log 2)⁻¹ : ℝ) : EReal) := by
  have e2 : Ideal.ofBits .f32 0x40000000#32 = ((2 : ℝ) : EReal) := by
    simp only [Ideal.ofBits, Ideal.ieee]
    simp
    rw [← EReal.coe_mul]
    norm_num
  have e8 : Ideal.ofBits .f32 0x3E000000#32 = ((1 / 8 : ℝ) : EReal) := by
    simp only [Ideal.ofBits, Ideal.ieee]
    simp
    rw [← EReal.coe_mul]
    norm_num
  have el : Ideal.log ((2 : ℝ) : EReal) = ((Real.log 2 : ℝ) : EReal) := by
    exact if_neg (by norm_num)
  rw [e2, e8, el, Cert.Mla.div_coe _ (Real.log_pos one_lt_two).ne', mul_assoc, ← EReal.coe_mul]
  congr 2
  rw [mul_inv, one_div]

theorem rQ_apply (q : FVec Ideal S16x2048x3072 .f32) (T : Fin 32768) (j : Fin 1024) :
    rQ q (ValueIdx.ix2 T j) = q (ValueIdx.ix3 (tb T) (ts T) ⟨j.val, by omega⟩) * (((8 * Real.log 2)⁻¹ : ℝ) : EReal) := by
  rw [← scale_eq]
  unfold rQ
  pointwise
  rfl
theorem rK_apply (q : FVec Ideal S16x2048x3072 .f32) (T : Fin 32768) (j : Fin 1024) :
    rK q (ValueIdx.ix2 T j) = q (ValueIdx.ix3 (tb T) (ts T) ⟨1024 + j.val, by omega⟩) := by
  unfold rK
  pointwise
  rfl
theorem rV_apply (q : FVec Ideal S16x2048x3072 .f32) (T : Fin 32768) (j : Fin 1024) :
    rV q (ValueIdx.ix2 T j) = q (ValueIdx.ix3 (tb T) (ts T) ⟨2048 + j.val, by omega⟩) := by
  unfold rV
  pointwise
  rfl
theorem rWin_apply (w : FVec Ideal S2x1024x5632 .f32) (k : Fin 1024) (j : Fin 5632) : rWin w (ValueIdx.ix2 k j) = w (ValueIdx.ix3 0 k j) := by
  unfold rWin
  pointwise
  rfl
theorem rWout_apply (w : FVec Ideal S2x2816x1024 .f32) (k : Fin 2816) (j : Fin 1024) :
    rWout w (ValueIdx.ix2 k j) = w (ValueIdx.ix3 0 k j) * Ideal.ofBits .f32 0x3F000000#32 := by
  unfold rWout
  pointwise
  exact mul_comm _ _

section
variable (m : (ℓ : Loc nD τ sig) → Buf (Elt Ideal) ℓ) (c : Dev nD)

/-- The residual stream and the projections of the call's arguments. -/
def rH0 : FVec Ideal S16x2048x1024 .f32 :=
  rH (m ((c.tc : Thread nD τ).loc main_arg0)) (m ((c.tc : Thread nD τ).loc main_arg1)) (m ((c.tc : Thread nD τ).loc main_arg2)) (m ((c.tc : Thread nD τ).loc main_arg3))
def rP0 : FVec Ideal S16x2048x3072 .f32 := rQkv (rH0 m c) (m ((c.tc : Thread nD τ).loc main_arg4)) (m ((c.tc : Thread nD τ).loc main_arg5))

theorem resQ_eq : Value.res_main_v45 m c = rQ (rP0 m c) := rfl
theorem resK_eq : Value.res_main_v48 m c = rK (rP0 m c) := rfl
theorem resV_eq : Value.res_main_v51 m c = rV (rP0 m c) := rfl
end

end Cert.Trunk.Qkv

end
-- ==== Proof.Trunk.QkvResult.lean ====
/- The call `ffn_qkv`: its result arrays are the reference's, and its claims. -/
module

public import proofs.«01_k».proof.Proof.Trunk.Qkv
public import proofs.«01_k».proof.Proof.Trunk.QkvRef
public import proofs.«01_k».proof.Proof.Gen.Kernel3.Frame
public import proofs.«01_k».proof.Defs
public import Idealize.ShloMosaic.Lib.Claim
public import Idealize.ShloMosaic.Lib.StableHlo.RunRead

@[expose] public section

set_option maxRecDepth 16384

noncomputable section

namespace Cert.Trunk.Qkv

open Idealize.ShloMosaic Idealize.ShloMosaic.TcCoe Cert.Kernel3Ideal Cert.Kernel3Ideal.Gen

section
variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, t.val, 0] := (by decide +kernel : ∀ t : Fin grid0.N, win0_6.index t = ![0, t.val, 0])
theorem idx7 : ∀ t : Fin cfg0.N, win0_7.index t = ![0, min t.val 15, 0] := (by decide +kernel : ∀ t : Fin grid0.N, win0_7.index t = ![0, min t.val 15, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![min t.val 15, 0] := (by decide +kernel : ∀ t : Fin grid0.N, win0_13.index t = ![min t.val 15, 0])

/-- What a grid point's blocks read. -/
theorem read0 (X : S32768x1024.Idx → EReal) (t : Fin cfg0.N) (a : Fin 512) (j : Fin 1024) (T : Fin 32768) (hT : T.val = 512 * t.val + a.val) :
    ((cfg0.win 0).blk t).view.read (Elt Ideal) X (ValueIdx.ix2 a j) = X (ValueIdx.ix2 T j) := by
  blk_ext [idx0 t]
  show t.val * 512 + a.val = T.val
  omega
theorem read1 (X : S1x1024.Idx → EReal) (t : Fin cfg0.N) : ((cfg0.win 1).blk t).view.read (Elt Ideal) X = X := by
  funext ix
  rw [eta2 ix]
  blk_ext [idx1 t]
theorem read2 (X : S1024x5632.Idx → EReal) (t : Fin cfg0.N) : ((cfg0.win 2).blk t).view.read (Elt Ideal) X = X := by
  funext ix
  rw [eta2 ix]
  blk_ext [idx2 t]
theorem read3 (X : S2816x1024.Idx → EReal) (t : Fin cfg0.N) : ((cfg0.win 3).blk t).view.read (Elt Ideal) X = X := by
  funext ix
  rw [eta2 ix]
  blk_ext [idx3 t]
theorem read4 (X : S1x1024.Idx → EReal) (t : Fin cfg0.N) : ((cfg0.win 4).blk t).view.read (Elt Ideal) X = X := by
  funext ix
  rw [eta2 ix]
  blk_ext [idx4 t]
theorem read5 (X : S1024x3072.Idx → EReal) (t : Fin cfg0.N) : ((cfg0.win 5).blk t).view.read (Elt Ideal) X = X := by
  funext ix
  rw [eta2 ix]
  blk_ext [idx5 t]
theorem read6 (X : S2x1024x5632.Idx → EReal) (t : Fin cfg0.N) (a : Fin 16) (j : Fin 5632) (k : Fin 1024) (hk : k.val = 16 * t.val + a.val) :
    ((cfg0.win 6).blk t).view.read (Elt Ideal) X (ValueIdx.ix3 0 a j) = X (ValueIdx.ix3 0 k j) := by
  blk_ext [idx6 t]
  show t.val * 16 + a.val = k.val
  omega
theorem read7 (X : S2x2816x1024.Idx → EReal) (t : Fin cfg0.N) (a : Fin 176) (j : Fin 1024) (k : Fin 2816) (hk : k.val = 176 * min t.val 15 + a.val) :
    ((cfg0.win 7).blk t).view.read (Elt Ideal) X (ValueIdx.ix3 0 a j) = X (ValueIdx.ix3 0 k j) := by
  blk_ext [idx7 t]
  show min t.val 15 * 176 + a.val = k.val
  omega

/-- The arrays that the host prepares. -/
theorem V0 : V m c main_v0 = shapeCast S32768x1024 (m ((c.tc : Thread nD τ).loc main_arg0) : FVec Ideal S16x2048x1024 .f32) shapeCasts_S16x2048x1024_S32768x1024 := by
  entry_read
  rfl
theorem V1 : V m c main_v1 = shapeCast S1x1024 (m ((c.tc : Thread nD τ).loc main_arg1) : FVec Ideal S1024 .f32) shapeCasts_S1024_S1x1024 := by
  entry_read
  rfl
theorem V2 : V m c main_v2 = (m ((c.tc : Thread nD τ).loc main_arg2) : S1024x5632.Idx → EReal) := by
  entry_read
  rfl
theorem V3 : V m c main_v5 = halved (m ((c.tc : Thread nD τ).loc main_arg3)) := by
  entry_read
  rfl
theorem V4 : V m c main_v6 = shapeCast S1x1024 (m ((c.tc : Thread nD τ).loc main_arg4) : FVec Ideal S1024 .f32) shapeCasts_S1024_S1x1024 := by
  entry_read
  rfl
theorem V5 : V m c main_v7 = (m ((c.tc : Thread nD τ).loc main_arg5) : S1024x3072.Idx → EReal) := by
  entry_read
  rfl

theorem tok_apply (x : FVec Ideal S16x2048x1024 .f32) (T : Fin 32768) (j : Fin 1024) :
    shapeCast S32768x1024 x shapeCasts_S16x2048x1024_S32768x1024 (ValueIdx.ix2 T j) = rowAt x (tb T) (ts T) j := by
  pointwise
  rfl
theorem row_apply (g : FVec Ideal S1024 .f32) : rowOf (R := 1) (shapeCast S1x1024 g shapeCasts_S1024_S1x1024) 0 = vecR g := by
  funext j
  unfold rowOf
  pointwise
  rfl

/-- The residual stream and the projections that the call's arguments give. -/
def kH : FVec Ideal S16x2048x1024 .f32 :=
  rH (m ((c.tc : Thread nD τ).loc main_arg0)) (m ((c.tc : Thread nD τ).loc main_arg1)) (m ((c.tc : Thread nD τ).loc main_arg2)) (m ((c.tc : Thread nD τ).loc main_arg3))
def kP : FVec Ideal ⟨3, ![16, 2048, 3072]⟩ .f32 := rQkv (kH m c) (m ((c.tc : Thread nD τ).loc main_arg4)) (m ((c.tc : Thread nD τ).loc main_arg5))

/-- A row of a residual stream's block. -/
theorem h_row (t : Fin cfg0.N) (a : Fin 512) (T : Fin 32768) (hT : T.val = 512 * t.val + a.val) :
    rowOf (R := 512) ((dats m 0 c).after 8 t) a = rowAt (kH m c) (tb T) (ts T) := by
  rw [out_h]
  refine (hB_row _ _ _ _ (m ((c.tc : Thread nD τ).loc main_arg3)) (fun ix => ?_) a).trans ?_
  · exact congrFun ((read3 (V m c main_v5) t).trans (V3 m c)) ix
  · have r0 : rowOf (R := 512) (iblk m c 0 t) a = rowAt (m ((c.tc : Thread nD τ).loc main_arg0)) (tb T) (ts T) :=
      funext fun j => (read0 (V m c main_v0) t a j T hT).trans ((congrFun (V0 m c) _).trans (tok_apply _ T j))
    have r1 : rowOf (R := 1) (iblk m c 1 t) 0 = vecR (m ((c.tc : Thread nD τ).loc main_arg1)) :=
      (congrArg (fun q => rowOf (R := 1) q 0) ((read1 (V m c main_v1) t).trans (V1 m c))).trans (row_apply _)
    have r2 : iblk m c 2 t = m ((c.tc : Thread nD τ).loc main_arg2) := (read2 (V m c main_v2) t).trans (V2 m c)
    rw [r0, r1, r2]
    exact (rH_row _ _ _ _ _ _).symm

/-- A row's projections. -/
theorem p_row (t : Fin cfg0.N) (a : Fin 512) (T : Fin 32768) (hT : T.val = 512 * t.val + a.val) (j : Fin 3072) :
    dotR (normR 0x44800000#32 (rowOf (R := 512) ((dats m 0 c).after 8 t) a) (rowOf (R := 1) (iblk m c 4 t) 0)) (iblk m c 5 t) j = kP m c (ValueIdx.ix3 (tb T) (ts T) j) := by
  have r4 : rowOf (R := 1) (iblk m c 4 t) 0 = vecR (m ((c.tc : Thread nD τ).loc main_arg4)) :=
    (congrArg (fun q => rowOf (R := 1) q 0) ((read4 (V m c main_v6) t).trans (V4 m c))).trans (row_apply _)
  have r5 : iblk m c 5 t = m ((c.tc : Thread nD τ).loc main_arg5) := (read5 (V m c main_v7) t).trans (V5 m c)
  rw [h_row m c t a T hT, r4, r5]
  exact (rQkv_apply _ _ _ _ _ _).symm

theorem tok_ex (t : Fin cfg0.N) (a : Fin 512) : ∃ T : Fin 32768, T.val = 512 * t.val + a.val := by
  have ht : t.val < 64 := t.isLt
  exact ⟨⟨512 * t.val + a.val, by omega⟩, rfl⟩

/-- The call's result arrays. -/
theorem result_h : (dats m 0 c).arrAt 8 cfg0.N = rTok (kH m c) := by
  refine (dats m 0 c).arrAt_eq_of_covers 8 _ (by decide +kernel) fun t hf y => ?_
  blk_simp
  obtain ⟨a, j, rfl⟩ : ∃ (a : Fin 512) (j : Fin 1024), y = ValueIdx.ix2 a j := ⟨y 0, y 1, eta2 y⟩
  obtain ⟨T, hT⟩ := tok_ex t a
  have ey : (win0_8.blk t).view.emb (ValueIdx.ix2 a j) = ValueIdx.ix2 T j := by
    blk_ext [idx8 t]
    show t.val * 512 + a.val = T.val
    omega
  rw [ey, rTok_apply]
  exact congrFun (h_row m c t a T hT) j
theorem result_q : (dats m 0 c).arrAt 9 cfg0.N = rQ (kP m c) := by
  refine (dats m 0 c).arrAt_eq_of_covers 9 _ (by decide +kernel) fun t hf y => ?_
  blk_simp
  rw [out_q]
  obtain ⟨a, j, rfl⟩ : ∃ (a : Fin 512) (j : Fin 1024), y = ValueIdx.ix2 a j := ⟨y 0, y 1, eta2 y⟩
  obtain ⟨T, hT⟩ := tok_ex t a
  have ey : (win0_9.blk t).view.emb (ValueIdx.ix2 a j) = ValueIdx.ix2 T j := by
    blk_ext [idx9 t]
    show t.val * 512 + a.val = T.val
    omega
  rw [ey, rQ_apply]
  refine (pay18_apply _ _ _ a j).trans ?_
  rw [p_row m c t a T hT]
theorem result_k : (dats m 0 c).arrAt 10 cfg0.N = rK (kP m c) := by
  refine (dats m 0 c).arrAt_eq_of_covers 10 _ (by decide +kernel) fun t hf y => ?_
  blk_simp
  rw [out_k]
  obtain ⟨a, j, rfl⟩ : ∃ (a : Fin 512) (j : Fin 1024), y = ValueIdx.ix2 a j := ⟨y 0, y 1, eta2 y⟩
  obtain ⟨T, hT⟩ := tok_ex t a
  have ey : (win0_10.blk t).view.emb (ValueIdx.ix2 a j) = ValueIdx.ix2 T j := by
    blk_ext [idx10 t]
    show t.val * 512 + a.val = T.val
    omega
  rw [ey, rK_apply]
  refine (pay19_apply _ _ _ a j).trans ?_
  exact p_row m c t a T hT _
theorem result_v : (dats m 0 c).arrAt 11 cfg0.N = rV (kP m c) := by
  refine (dats m 0 c).arrAt_eq_of_covers 11 _ (by decide +kernel) fun t hf y => ?_
  blk_simp
  rw [out_v]
  obtain ⟨a, j, rfl⟩ : ∃ (a : Fin 512) (j : Fin 1024), y = ValueIdx.ix2 a j := ⟨y 0, y 1, eta2 y⟩
  obtain ⟨T, hT⟩ := tok_ex t a
  have ey : (win0_11.blk t).view.emb (ValueIdx.ix2 a j) = ValueIdx.ix2 T j := by
    blk_ext [idx11 t]
    show t.val * 512 + a.val = T.val
    omega
  rw [ey, rV_apply]
  refine (pay20_apply _ _ _ a j).trans ?_
  exact p_row m c t a T hT _
theorem result_win : (dats m 0 c).arrAt 12 cfg0.N = rWin (m ((c.tc : Thread nD τ).loc main_arg6)) := by
  refine (dats m 0 c).arrAt_eq_of_covers 12 _ (by decide +kernel) fun t hf y => ?_
  blk_simp
  rw [out_win]
  obtain ⟨a, j, rfl⟩ : ∃ (a : Fin 16) (j : Fin 5632), y = ValueIdx.ix2 a j := ⟨y 0, y 1, eta2 y⟩
  have ht : t.val < 64 := t.isLt
  obtain ⟨k, hk⟩ : ∃ k : Fin 1024, k.val = 16 * t.val + a.val := ⟨⟨16 * t.val + a.val, by omega⟩, rfl⟩
  have ey : (win0_12.blk t).view.emb (ValueIdx.ix2 a j) = ValueIdx.ix2 k j := by
    blk_ext [idx12 t]
    show t.val * 16 + a.val = k.val
    omega
  rw [ey, rWin_apply]
  refine (pay21_apply _ a j).trans ((read6 (V m c main_arg6) t a j k hk).trans ?_)
  rw [V_main_arg6]
theorem result_wout : (dats m 0 c).arrAt 13 cfg0.N = rWout (m ((c.tc : Thread nD τ).loc main_arg7)) := by
  refine (dats m 0 c).arrAt_eq_of_covers 13 _ (by decide +kernel) fun t hf y => ?_
  blk_simp
  rw [out_wout]
  obtain ⟨a, j, rfl⟩ : ∃ (a : Fin 176) (j : Fin 1024), y = ValueIdx.ix2 a j := ⟨y 0, y 1, eta2 y⟩
  obtain ⟨k, hk⟩ : ∃ k : Fin 2816, k.val = 176 * min t.val 15 + a.val := ⟨⟨176 * min t.val 15 + a.val, by omega⟩, rfl⟩
  have ey : (win0_13.blk t).view.emb (ValueIdx.ix2 a j) = ValueIdx.ix2 k j := by
    blk_ext [idx13 t]
    show min t.val 15 * 176 + a.val = k.val
    omega
  rw [ey, rWout_apply]
  refine (pay22_apply _ a j).trans (congrArg (· * _) ((read7 (V m c main_arg7) t a j k hk).trans ?_))
  rw [V_main_arg7]
end

/-- The call computes its reference. -/
theorem algebraic3 : Cert.algebraic_Kernel3Ideal_Reference3Ideal := by
  intro m ρ m' ρ' _ hagree
  refine ⟨fun c => (Kernel3Ideal.Gen.dats m 0 c).arrAt 8 Kernel3Ideal.cfg0.N, fun c => (Kernel3Ideal.Gen.dats m 0 c).arrAt 9 Kernel3Ideal.cfg0.N,
    fun c => (Kernel3Ideal.Gen.dats m 0 c).arrAt 10 Kernel3Ideal.cfg0.N, fun c => (Kernel3Ideal.Gen.dats m 0 c).arrAt 11 Kernel3Ideal.cfg0.N,
    fun c => (Kernel3Ideal.Gen.dats m 0 c).arrAt 12 Kernel3Ideal.cfg0.N, fun c => (Kernel3Ideal.Gen.dats m 0 c).arrAt 13 Kernel3Ideal.cfg0.N,
    Kernel3Ideal.Value.run_blocks (F := Ideal) m ρ, ?_⟩
  refine (θ_run Reference3Ideal.defs _ _).mono (fun _ h c => ?_) (Reference3Ideal.Value.run (F := Ideal) m' ρ')
  obtain ⟨g0, g1, g2, g3, g4, g5, g6, g7⟩ := hagree c
  obtain ⟨h0, h1, h2, h3, h4, h5, h6⟩ := h c
  have eH : rH0 m' c = kH m c := by
    unfold rH0 kH
    rw [g0, g1, g2, g3]
  have eP : rP0 m' c = kP m c := by
    unfold rP0 kP
    rw [eH, g4, g5]
  refine ⟨h0.trans ?_, h1.trans ?_, h2.trans ?_, h3.trans ?_, h4.trans ?_, h5.trans ?_, h6⟩
  · refine Eq.trans ?_ (result_h m c).symm
    rw [← eH]
    rfl
  · refine Eq.trans ?_ (result_q m c).symm
    rw [← eP]
    exact resQ_eq m' c
  · refine Eq.trans ?_ (result_k m c).symm
    rw [← eP]
    exact resK_eq m' c
  · refine Eq.trans ?_ (result_v m c).symm
    rw [← eP]
    exact resV_eq m' c
  · refine Eq.trans ?_ (result_win m c).symm
    rw [← g6]
    rfl
  · refine Eq.trans ?_ (result_wout m c).symm
    rw [← g7]
    rfl

theorem frame_r3 : Cert.quiescent_Reference3Ideal := fun m ρ _ =>
  (θ_run Reference3Ideal.defs _ _).mono (fun r h => ⟨fun c => (h c).2.2.2.2.2.2, sem_eq_zero_of_no_sems (by decide) r.2⟩) (Reference3Ideal.Value.run (F := Ideal) m ρ)

theorem frame_i3 : Cert.quiescent_Kernel3Ideal := fun m ρ _ => Kernel3Ideal.Gen.frame m ρ

theorem frame_k3 : Cert.quiescent_Kernel3 := fun m ρ _ => Kernel3.Gen.frame m ρ

theorem preserves3 : Cert.preserves_Kernel3_Kernel3Ideal :=
  IdealRules.named_const.statement _ _ _ _ _ rfl

end Cert.Trunk.Qkv

end
-- ==== Proof.Trunk.Rope.lean ====
/- The rotation of a row's 64 rotary lanes, as the reference writes it and as one sum over doubled tables. -/
module

public import proofs.«01_k».proof.Proof.Trunk.Ops

@[expose] public section

set_option maxRecDepth 16384

noncomputable section

namespace Cert.Trunk

open Idealize.ShloMosaic

/-- A row rotated by the angles of a position. -/
def ropeR (x : Fin 64 → EReal) (c s : Fin 32 → EReal) (r : Fin 64) : EReal :=
  if h : r.val < 32 then x r * c ⟨r.val, h⟩ - x ⟨32 + r.val, by omega⟩ * s ⟨r.val, h⟩
  else x r * c ⟨r.val - 32, by omega⟩ + x ⟨r.val - 32, by omega⟩ * s ⟨r.val - 32, by omega⟩

/-- The lane that a lane is rotated against. -/
def swp (r : Fin 64) : Fin 64 := ⟨(r.val + 32) % 64, by omega⟩

/-- The cosines twice. -/
def cos64 (c : Fin 32 → EReal) (r : Fin 64) : EReal := if h : r.val < 32 then c ⟨r.val, h⟩ else c ⟨r.val - 32, by omega⟩

/-- The sines, negated and plain. -/
def sin64 (s : Fin 32 → EReal) (r : Fin 64) : EReal := if h : r.val < 32 then -s ⟨r.val, h⟩ else s ⟨r.val - 32, by omega⟩

theorem rope_eq (x : Fin 64 → EReal) (c s : Fin 32 → EReal) (r : Fin 64) : x r * cos64 c r + x (swp r) * sin64 s r = ropeR x c s r := by
  unfold cos64 sin64 ropeR
  have hr := r.isLt
  by_cases h : r.val < 32
  · have e : swp r = ⟨32 + r.val, by omega⟩ := Fin.ext (by show (r.val + 32) % 64 = 32 + r.val; omega)
    simp only [dif_pos h]
    rw [e, mul_neg, sub_eq_add_neg]
  · have e : swp r = ⟨r.val - 32, by omega⟩ := Fin.ext (by show (r.val + 32) % 64 = r.val - 32; omega)
    simp only [dif_neg h]
    rw [e]

/-- The lane of a doubled row. -/
def lo64 (l : Fin 128) : Fin 64 := ⟨l.val % 64, by omega⟩

end Cert.Trunk

end
-- ==== Proof.Trunk.Kv.lean ====
/- The call `ffn_kv`: its result blocks as functions of their rows. -/
module

public import proofs.«01_k».proof.Proof.Trunk.Rope
public import proofs.«01_k».proof.Proof.Gen.Kernel4Ideal.Value

@[expose] public section

set_option maxRecDepth 16384

noncomputable section

namespace Cert.Trunk.Kv

open Idealize.ShloMosaic Idealize.ShloMosaic.TcCoe Cert.Kernel4Ideal Cert.Kernel4Ideal.Gen

/-- The residual stream with the attention's projection added. -/
theorem pay6_eq (x : Vec Ideal S512x1024 .f32) (h : Vec Ideal S512x1024 .bf16) (w : Vec Ideal S1024x1024 .bf16) :
    k0_pay6 x h w = fun ix => x ix + mm (R := 512) h w ix := by
  simp only [k0_pay6, shapeCast_self, matmul_mm dot_S512x1024_S1024x1024_S512x1024_1_0_0_1_n_n rfl]
  rfl

/-- That stream normalized. -/
theorem pay7_apply (x : Vec Ideal S512x1024 .f32) (h : Vec Ideal S512x1024 .bf16) (w : Vec Ideal S1024x1024 .bf16) (g : Vec Ideal S1x1024 .f32)
    (a : Fin 512) (j : Fin 1024) :
    k0_pay7 x h w g (ValueIdx.ix2 a j) = normR 0x44800000#32 (rowOf (k0_pay6 x h w) a) (rowOf g 0) j := by
  unfold k0_pay7
  generalize k0_pay6 x h w = v
  pointwise
  rfl

section
variable (hn : Vec Ideal S512x1024 .bf16) (g u : Vec Ideal S1024x256 .bf16)

theorem act_eq :
    (truncf (F := Ideal) .bf16 (mulf (mulf (mm (R := 512) hn g) (logistic (φ := .f32) (mm (R := 512) hn g))) (mm (R := 512) hn u)) bitsLt_bf16_f32 : FVec Ideal S512x256 .bf16)
      = actV hn g u := rfl
theorem pay10_eq : k0_pay10 hn (k0_pay8 hn g) (k0_pay9 u) (constant S512x256 .f32 0#32) = actV hn g u := by
  simp only [k0_pay8, k0_pay9, k0_pay10, shapeCast_self, matmul_mm dot_S512x1024_S1024x256_S512x256_1_0_0_1_n_n rfl]
  rfl
theorem pay11_eq : k0_pay11 hn g u = actV hn g u := by
  simp only [k0_pay11, shapeCast_self, matmul_mm dot_S512x1024_S1024x256_S512x256_1_0_0_1_n_n rfl]
  rfl
theorem pay12_eq : k0_pay12 hn g u = actV hn g u := pay11_eq hn g u
theorem pay13_eq : k0_pay13 hn g u = actV hn g u := pay11_eq hn g u
theorem pay15_eq : k0_pay15 hn (k0_pay14 hn g) u = actV hn g u := pay11_eq hn g u
theorem pay16_eq : k0_pay16 hn g u = actV hn g u := pay11_eq hn g u
theorem pay17_eq : k0_pay17 hn g u = actV hn g u := pay11_eq hn g u
theorem pay18_eq : k0_pay18 hn g u = actV hn g u := pay11_eq hn g u
end

theorem pay19_apply (hn : Vec Ideal S512x1024 .bf16) (win : Vec Ideal S1024x5632 .bf16) (wout : Vec Ideal S2816x1024 .bf16) (x : Vec Ideal S512x1024 .f32)
    (a : Fin 512) (j : Fin 1024) :
    k0_pay19 hn (actC hn win 0) (actC hn win 1) (actC hn win 2) (actC hn win 3) (actC hn win 4) (actC hn win 5) (actC hn win 6) (actC hn win 7)
      (ldV win 2048) (ldV win 4864) (ldV win 2304) (ldV win 5120) (ldV win 2560) (ldV win 5376) wout x (ValueIdx.ix2 a j)
    = x (ValueIdx.ix2 a j) + ffnR (rowOf hn a) win wout j := by
  simp only [k0_pay19, shapeCast_self, matmul_mm dot_S512x1024_S1024x256_S512x256_1_0_0_1_n_n rfl, matmul_mm dot_S512x2816_S2816x1024_S512x1024_1_0_0_1_n_n rfl, act_eq]
  refine congrArg (x (ValueIdx.ix2 a j) + ·) (mm_cat hn win wout _ ?_ _ a j)
  rw [range_map]
  simp only [shapeCast_self, matmul_mm dot_S512x1024_S1024x256_S512x256_1_0_0_1_n_n rfl, act_eq]
  rfl

/-- A block of the new residual stream. -/
def hB (x : Vec Ideal S512x1024 .f32) (h : Vec Ideal S512x1024 .bf16) (w : Vec Ideal S1024x1024 .bf16) (g : Vec Ideal S1x1024 .f32) (win : Vec Ideal S1024x5632 .bf16)
    (wout : Vec Ideal S2816x1024 .bf16) : FVec Ideal S512x1024 .f32 :=
  fun ix => k0_pay6 x h w ix + ffnR (rowOf (R := 512) (k0_pay7 x h w g) (ix 0)) win wout (ix 1)

section
variable (m : (ℓ : Loc nD τ sig) → Buf (Elt Ideal) ℓ) (c : Dev nD)

set_option maxHeartbeats 1000000 in
/-- What a grid point leaves in the residual stream's block. -/
theorem out_h (t : Fin cfg0.N) : (dats m 0 c).after 15 t = hB (iblk m c 0 t) (iblk m c 1 t) (iblk m c 2 t) (iblk m c 3 t) (iblk m c 4 t) (iblk m c 5 t) := by
  rw [after0_15]
  unfold outsAt0
  frame_out
  simp only [ld_ldV, pay10_eq, pay11_eq, pay12_eq, pay13_eq, pay15_eq, pay16_eq, pay17_eq, pay18_eq]
  funext ix
  obtain ⟨a, j, rfl⟩ : ∃ (a : Fin 512) (j : Fin 1024), ix = ValueIdx.ix2 a j := ⟨ix 0, ix 1, eta2 ix⟩
  exact pay19_apply (k0_pay7 (iblk m c 0 t) (iblk m c 1 t) (iblk m c 2 t) (iblk m c 3 t)) (iblk m c 4 t) (iblk m c 5 t) (k0_pay6 (iblk m c 0 t) (iblk m c 1 t) (iblk m c 2 t)) a j

set_option maxHeartbeats 1000000 in
/-- The keys' block, of the residual stream's. -/
theorem out_k (t : Fin cfg0.N) : (dats m 0 c).after 16 t = k0_pay2 (k0_pay21 ((dats m 0 c).after 15 t) (iblk m c 6 t) (iblk m c 7 t) (iblk m c 8 t)) (iblk m c 9 t) := by
  rw [after0_15, after0_16]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, k0_pay2, k0_pay21, k0_pay20]

set_option maxHeartbeats 1000000 in
/-- The rotary keys' block. -/
theorem out_r (t : Fin cfg0.N) : (dats m 0 c).after 17 t
      = k0_pay1 (k0_pay22 ((dats m 0 c).after 15 t) (iblk m c 6 t) (iblk m c 7 t) (iblk m c 11 t)) (k0_pay23 ((dats m 0 c).after 15 t) (iblk m c 6 t) (iblk m c 7 t) (iblk m c 12 t)) := by
  rw [after0_15, after0_17]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, k0_pay1, k0_pay22, k0_pay23, k0_pay20]

set_option maxHeartbeats 1000000 in
/-- The values' block. -/
theorem out_v (t : Fin cfg0.N) : (dats m 0 c).after 18 t = k0_pay3 (k0_pay21 ((dats m 0 c).after 15 t) (iblk m c 6 t) (iblk m c 7 t) (iblk m c 8 t)) (iblk m c 10 t) := by
  rw [after0_15, after0_18]
  unfold outsAt0
  frame_open
  simp (disch := decide) only [View.read_writes_junk_eq_canon, View.canon_cons_unit_lit', View.ld_unit_lit', View.readCov_unit_lit', View.readCov_cons_unit_lit',
    View.readAt_eq_ld, Memref.IsWhole.read_unread, shapeCast_self, k0_pay3, k0_pay21, k0_pay20]

/-- The block of the next layer's first weights. -/
theorem out_win (t : Fin cfg0.N) : (dats m 0 c).after 19 t = k0_pay4 (iblk m c 13 t) := by
  rw [after0_19]
  unfold outsAt0
  frame_out

/-- The block of the next layer's last weights. -/
theorem out_wout (t : Fin cfg0.N) : (dats m 0 c).after 20 t = k0_pay5 (iblk m c 14 t) := by
  rw [after0_20]
  unfold outsAt0
  frame_out
end

/-- A row of the residual stream's block. -/
theorem hB_row (x : Vec Ideal S512x1024 .f32) (h : Vec Ideal S512x1024 .bf16) (w : Vec Ideal S1024x1024 .bf16) (g : Vec Ideal S1x1024 .f32) (win : Vec Ideal S1024x5632 .bf16)
    (wout : Vec Ideal S2816x1024 .bf16) (w0 : (M2 2816 1024).Idx → EReal) (hw : ∀ ix, wout ix = w0 ix * Ideal.ofBits .f32 0x3F000000#32) (a : Fin 512) :
    rowOf (R := 512) (hB x h w g win wout) a
      = stepR (projR (rowOf (R := 512) x a) (rowOf (R := 512) h a) w)
          (normR 0x44800000#32 (projR (rowOf (R := 512) x a) (rowOf (R := 512) h a) w) (rowOf (R := 1) g 0)) win w0 := by
  have e6 : rowOf (R := 512) (k0_pay6 x h w) a = projR (rowOf (R := 512) x a) (rowOf (R := 512) h a) w := by
    rw [pay6_eq]
    rfl
  have e7 : rowOf (R := 512) (k0_pay7 x h w g) a = normR 0x44800000#32 (projR (rowOf (R := 512) x a) (rowOf (R := 512) h a) w) (rowOf (R := 1) g 0) := by
    rw [← e6]
    exact funext fun j => pay7_apply x h w g a j
  funext j
  refine Eq.trans ?_ (half_step _ _ win w0 wout hw j)
  rw [← e7, ← e6]
  rfl

/-- The compressed row with the rotary lanes. -/
def ckR (h : Fin 1024 → EReal) (g : Fin 1024 → EReal) (w : (M2 1024 512).Idx → EReal) (j : Fin 512) : EReal := dotR (normR 0x44800000#32 h g) w j

theorem pay20_apply (h : Vec Ideal S512x1024 .f32) (g : Vec Ideal S1x1024 .f32) (w : Vec Ideal S1024x512 .bf16) (a : Fin 512) (j : Fin 512) :
    k0_pay20 h g w (ValueIdx.ix2 a j) = ckR (rowOf (R := 512) h a) (rowOf (R := 1) g 0) w j := by
  simp only [k0_pay20, shapeCast_self, matmul_mm dot_S512x1024_S1024x512_S512x512_1_0_0_1_n_n rfl]
  refine dotR_congr (fun k => ?_) fun _ => rfl
  unfold rowOf
  pointwise
  rfl

/-- The compressed part of a row. -/
def lo256 (q : Fin 512 → EReal) (l : Fin 256) : EReal := q ⟨l.val, by omega⟩

theorem pay21_row (h : Vec Ideal S512x1024 .f32) (g : Vec Ideal S1x1024 .f32) (w : Vec Ideal S1024x512 .bf16) (gl : Vec Ideal S1x256 .f32) (a : Fin 512) :
    rowOf (R := 512) (k0_pay21 h g w gl) a = normR 0x43800000#32 (lo256 (ckR (rowOf (R := 512) h a) (rowOf (R := 1) g 0) w)) (rowOf (R := 1) gl 0) := by
  have e : ckR (rowOf (R := 512) h a) (rowOf (R := 1) g 0) w = rowOf (R := 512) (k0_pay20 h g w) a := funext fun j => (pay20_apply h g w a j).symm
  rw [e]
  funext l
  unfold k0_pay21
  generalize k0_pay20 h g w = q
  unfold rowOf
  pointwise
  rfl

theorem pay2_apply (cl : FVec Ideal S512x256 .bf16) (w : Vec Ideal S256x1024 .bf16) (a : Fin 512) (j : Fin 1024) :
    k0_pay2 cl w (ValueIdx.ix2 a j) = dotR (rowOf (R := 512) cl a) w j := by
  simp only [k0_pay2, shapeCast_self, matmul_mm dot_S512x256_S256x1024_S512x1024_1_0_0_1_n_n rfl]
  rfl
theorem pay3_apply (cl : FVec Ideal S512x256 .bf16) (w : Vec Ideal S256x1024 .bf16) (a : Fin 512) (j : Fin 1024) :
    k0_pay3 cl w (ValueIdx.ix2 a j) = dotR (rowOf (R := 512) cl a) w j := pay2_apply cl w a j

theorem pay1_apply (h : Vec Ideal S512x1024 .f32) (g : Vec Ideal S1x1024 .f32) (w : Vec Ideal S1024x512 .bf16) (u v : Vec Ideal S512x128 .f32) (a : Fin 512) (l : Fin 128) :
    k0_pay1 (k0_pay22 h g w u) (k0_pay23 h g w v) (ValueIdx.ix2 a l)
      = ckR (rowOf (R := 512) h a) (rowOf (R := 1) g 0) w ⟨256 + l.val, by omega⟩ * rowOf (R := 512) u a l
        + ckR (rowOf (R := 512) h a) (rowOf (R := 1) g 0) w ⟨384 + l.val, by omega⟩ * rowOf (R := 512) v a l := by
  rw [← pay20_apply, ← pay20_apply]
  unfold k0_pay1 k0_pay22 k0_pay23
  generalize k0_pay20 h g w = q
  pointwise
  rfl

theorem pay4_apply (w : Vec Ideal S1x16x5632 .f32) (a : Fin 16) (j : Fin 5632) : k0_pay4 w (ValueIdx.ix2 a j) = w (ValueIdx.ix3 0 a j) := by
  unfold k0_pay4
  pointwise
  rfl
theorem pay5_apply (w : Vec Ideal S1x176x1024 .f32) (a : Fin 176) (j : Fin 1024) :
    k0_pay5 w (ValueIdx.ix2 a j) = w (ValueIdx.ix3 0 a j) * Ideal.ofBits .f32 0x3F000000#32 := by
  unfold k0_pay5
  pointwise
  rfl

end Cert.Trunk.Kv

end
-- ==== Proof.Trunk.KvHost.lean ====
/- The arrays the host prepares for the call `ffn_kv`, read at an index. -/
module

public import proofs.«01_k».proof.Proof.Trunk.Rope
public import proofs.«01_k».proof.Proof.Gen.Kernel4Ideal.Value
public import Idealize.ShloMosaic.Lib.Claim
public import Idealize.ShloMosaic.Lib.StableHlo.RunRead
public import Idealize.ShloMosaic.Lib.Pipeline.ValueKit

@[expose] public section

set_option maxRecDepth 16384

noncomputable section

namespace Cert.Trunk.Kv

open Idealize.ShloMosaic Cert.Kernel4Ideal Cert.Kernel4Ideal.Gen

/-- The order of the lanes that are rotated against. -/
def hOrd : IVec S64x1 32 :=
  broadcastInDim S64x1 ![0] bcast_S64_S64x1_0
    (select (constantI S64 1 0#1) (addi (fun i => lit0 (S64.rowMajor i)) (broadcastInDim S64 ![] bcast_S_S64 (constantI S_ 32 64#32))) (fun i => lit0 (S64.rowMajor i)))

theorem rm64 (r : Fin 64) : (S64.rowMajor (ix1 r)).val = r.val := by
  revert r
  decide +kernel

theorem hOrd_apply (r : Fin 64) : hOrd (ValueIdx.ix2 r 0) = lit0 r := by
  unfold hOrd
  pointwise
  exact congrArg lit0 (Fin.ext (rm64 r))

theorem ordNat (r : Fin 64) : (lit0 r).toInt.toNat = (r.val + 32) % 64 := by
  revert r
  decide +kernel

/-- The rotary columns in that order. -/
def hSwap (x : FVec Ideal S1024x64 .f32) : FVec Ideal S1024x64 .f32 := Host.gather gather_S1024x64_S64x1_S1024x64_0_1_n_n_1_1_10241 x hOrd

theorem hSwap_apply (x : FVec Ideal S1024x64 .f32) (k : Fin 1024) (r : Fin 64) : hSwap x (ValueIdx.ix2 k r) = x (ValueIdx.ix2 k (swp r)) := by
  refine congrArg x (funext fun a => Fin.ext ?_)
  match a with
  | ⟨0, _⟩ => show 0 + 0 + k.val = k.val; omega
  | ⟨1, _⟩ =>
    show min (hOrd (ValueIdx.ix2 r 0)).toInt.toNat (64 - 1) + 0 + 0 = (r.val + 32) % 64
    rw [hOrd_apply, ordNat]
    omega

/-- The compression's weights with the rotary columns twice, and twice in the rotated order. -/
def hCat (a : FVec Ideal S1024x256 .f32) (b d : FVec Ideal S1024x64 .f32) : FVec Ideal S1024x512 .f32 :=
  concatenate S1024x512 1 [⟨S1024x256, a⟩, ⟨S1024x64, b⟩, ⟨S1024x64, b⟩, ⟨S1024x64, d⟩, ⟨S1024x64, d⟩] concatenates_S1024x256_S1024x64_S1024x64_S1024x64_S1024x64_S1024x512_d1

/-- The five pieces as one array. -/
def hFive (a : FVec Ideal S1024x256 .f32) (b b' d d' : FVec Ideal S1024x64 .f32) : FVec Ideal S1024x512 .f32 :=
  concatenate S1024x512 1 [⟨S1024x256, a⟩, ⟨S1024x64, b⟩, ⟨S1024x64, b'⟩, ⟨S1024x64, d⟩, ⟨S1024x64, d'⟩] concatenates_S1024x256_S1024x64_S1024x64_S1024x64_S1024x64_S1024x512_d1
theorem hCat_lo (a : FVec Ideal S1024x256 .f32) (b d : FVec Ideal S1024x64 .f32) (k : Fin 1024) (l : Fin 256) :
    hCat a b d (ValueIdx.ix2 k ⟨l.val, by omega⟩) = a (ValueIdx.ix2 k l) := by
  unfold hCat
  pointwise
  rfl

theorem hCat_mid (a : FVec Ideal S1024x256 .f32) (b d : FVec Ideal S1024x64 .f32) (k : Fin 1024) (l : Fin 128) :
    hCat a b d (ValueIdx.ix2 k ⟨256 + l.val, by omega⟩) = b (ValueIdx.ix2 k (lo64 l)) := by
  have hl := l.isLt
  unfold hCat
  pointwise
  by_cases h : l.val < 64
  · refine (dif_pos h).trans (congrArg (fun q => b (ValueIdx.ix2 k q)) (Fin.ext ?_))
    show l.val = l.val % 64
    omega
  · refine (dif_neg h).trans ((dif_pos (show l.val - 64 < 64 by omega)).trans (congrArg (fun q => b (ValueIdx.ix2 k q)) (Fin.ext ?_)))
    show l.val - 64 = l.val % 64
    omega

theorem hCat_hi (a : FVec Ideal S1024x256 .f32) (b d : FVec Ideal S1024x64 .f32) (k : Fin 1024) (l : Fin 128) :
    hCat a b d (ValueIdx.ix2 k ⟨384 + l.val, by omega⟩) = d (ValueIdx.ix2 k (lo64 l)) := by
  have hl := l.isLt
  unfold hCat
  pointwise
  refine (dif_neg (show ¬ 384 + l.val < 256 by omega)).trans ((dif_neg (show ¬ 384 + l.val - 256 < 64 by omega)).trans ((dif_neg (show ¬ 384 + l.val - 256 - 64 < 64 by omega)).trans ?_))
  by_cases h : l.val < 64
  · refine (dif_pos (show 384 + l.val - 256 - 64 - 64 < 64 by omega)).trans (congrArg (fun q => d (ValueIdx.ix2 k q)) (Fin.ext ?_))
    show 384 + l.val - 256 - 64 - 64 = l.val % 64
    omega
  · refine (dif_neg (show ¬ 384 + l.val - 256 - 64 - 64 < 64 by omega)).trans (congrArg (fun q => d (ValueIdx.ix2 k q)) (Fin.ext ?_))
    show 384 + l.val - 256 - 64 - 64 - 64 = l.val % 64
    omega

/-- The columns of the compression's weights that compress, and those that give the rotary keys. -/
def wLo (w : FVec Ideal S1024x320 .f32) : FVec Ideal S1024x256 .f32 := extractStridedSlice S1024x256 ![0, 0] w slices_S1024x320_S1024x256_0_0
def wHi (w : FVec Ideal S1024x320 .f32) : FVec Ideal S1024x64 .f32 := extractStridedSlice S1024x64 ![0, 256] w slices_S1024x320_S1024x64_0_256

theorem wLo_apply (w : FVec Ideal S1024x320 .f32) (k : Fin 1024) (l : Fin 256) : wLo w (ValueIdx.ix2 k l) = w (ValueIdx.ix2 k ⟨l.val, by omega⟩) := by
  unfold wLo
  pointwise
  rfl
theorem wHi_apply (w : FVec Ideal S1024x320 .f32) (k : Fin 1024) (l : Fin 64) : wHi w (ValueIdx.ix2 k l) = w (ValueIdx.ix2 k ⟨256 + l.val, by omega⟩) := by
  unfold wHi
  pointwise
  rfl

/-- The expansion's weights of the keys, and of the values. -/
def hKn (w : FVec Ideal S256x2048 .f32) : FVec Ideal S256x1024 .f32 :=
  shapeCast S256x1024 (extractStridedSlice S256x8x128 ![0, 0, 0] (shapeCast S256x8x256 w shapeCasts_S256x2048_S256x8x256) slices_S256x8x256_S256x8x128_0_0_0) shapeCasts_S256x8x128_S256x1024
def hVv (w : FVec Ideal S256x2048 .f32) : FVec Ideal S256x1024 .f32 :=
  shapeCast S256x1024 (extractStridedSlice S256x8x128 ![0, 0, 128] (shapeCast S256x8x256 w shapeCasts_S256x2048_S256x8x256) slices_S256x8x256_S256x8x128_0_0_128) shapeCasts_S256x8x128_S256x1024

theorem hKn_apply (w : FVec Ideal S256x2048 .f32) (k : Fin 256) (j : Fin 1024) :
    hKn w (ValueIdx.ix2 k j) = w (ValueIdx.ix2 k ⟨256 * (j.val / 128) + j.val % 128, by omega⟩) := by
  have e : hKn w (ValueIdx.ix2 k j) = w (ValueIdx.ix2 k ⟨j.val / 128 * 256 + j.val % 128, by omega⟩) := by
    unfold hKn
    pointwise
    rfl
  rw [e]
  exact congrArg (fun n => w (ValueIdx.ix2 k n)) (Fin.ext (by show j.val / 128 * 256 + j.val % 128 = 256 * (j.val / 128) + j.val % 128; omega))
theorem hVv_apply (w : FVec Ideal S256x2048 .f32) (k : Fin 256) (j : Fin 1024) :
    hVv w (ValueIdx.ix2 k j) = w (ValueIdx.ix2 k ⟨256 * (j.val / 128) + (128 + j.val % 128), by omega⟩) := by
  have e : hVv w (ValueIdx.ix2 k j) = w (ValueIdx.ix2 k ⟨j.val / 128 * 256 + (128 + j.val % 128), by omega⟩) := by
    unfold hVv
    pointwise
    rfl
  rw [e]
  exact congrArg (fun n => w (ValueIdx.ix2 k n)) (Fin.ext (by show j.val / 128 * 256 + (128 + j.val % 128) = 256 * (j.val / 128) + (128 + j.val % 128); omega))

/-- A table of two halves. -/
def hTwo (x y : FVec Ideal S2048x32 .f32) : FVec Ideal S2048x64 .f32 :=
  concatenate S2048x64 1 [⟨S2048x32, x⟩, ⟨S2048x32, y⟩] concatenates_S2048x32_S2048x32_S2048x64_d1

/-- That table twice. -/
def hTile (t : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 t shapeCasts_S2048x64_S1x2048x1x64)) shapeCasts_S1x2048x2x64_S2048x128

theorem hTile_apply (t : FVec Ideal S2048x64 .f32) (s : Fin 2048) (l : Fin 128) : hTile t (ValueIdx.ix2 s l) = t (ValueIdx.ix2 s (lo64 l)) := by
  unfold hTile
  pointwise
  rfl

theorem hCos_apply (t : FVec Ideal S2048x32 .f32) (s : Fin 2048) (r : Fin 64) : hTwo t t (ValueIdx.ix2 s r) = cos64 (rowOf (R := 2048) t s) r := by
  unfold hTwo
  pointwise
  rfl
theorem hSin_apply (t : FVec Ideal S2048x32 .f32) (s : Fin 2048) (r : Fin 64) :
    hTwo (Host.negf t) t (ValueIdx.ix2 s r) = sin64 (rowOf (R := 2048) t s) r := by
  unfold hTwo
  pointwise
  rfl

section
variable (m : (ℓ : Loc nD τ sig) → Buf (Elt Ideal) ℓ) (c : Dev nD)

/-- The arrays that the host prepares. -/
theorem V0 : V m c main_v24 = shapeCast S32768x1024 (m ((c.tc : Thread nD τ).loc main_arg0) : FVec Ideal S16x2048x1024 .f32) shapeCasts_S16x2048x1024_S32768x1024 := by
  entry_read
  rfl
theorem V1 : V m c main_v31 = shapeCast S32768x1024 (m ((c.tc : Thread nD τ).loc main_arg1) : FVec Ideal S16x2048x1024 .f32) shapeCasts_S16x2048x1024_S32768x1024 := by
  entry_read
  rfl
theorem V2 : V m c main_v32 = (m ((c.tc : Thread nD τ).loc main_arg2) : S1024x1024.Idx → EReal) := by
  entry_read
  rfl
theorem V3 : V m c main_v25 = shapeCast S1x1024 (m ((c.tc : Thread nD τ).loc main_arg3) : FVec Ideal S1024 .f32) shapeCasts_S1024_S1x1024 := by
  entry_read
  rfl
theorem V4 : V m c main_v26 = (m ((c.tc : Thread nD τ).loc main_arg4) : S1024x5632.Idx → EReal) := by
  entry_read
  rfl
theorem V5 : V m c main_v29 = halved (m ((c.tc : Thread nD τ).loc main_arg5)) := by
  entry_read
  rfl
theorem V6 : V m c main_v33 = shapeCast S1x1024 (m ((c.tc : Thread nD τ).loc main_arg6) : FVec Ideal S1024 .f32) shapeCasts_S1024_S1x1024 := by
  entry_read
  rfl
theorem V7 : V m c main_v16 = hCat (wLo (m ((c.tc : Thread nD τ).loc main_arg7))) (wHi (m ((c.tc : Thread nD τ).loc main_arg7))) (hSwap (wHi (m ((c.tc : Thread nD τ).loc main_arg7)))) := by
  unfold_abbrev_sides
  after_reads_simp
  show hFive (StableHlo.upto hostOps0 (fun b => m (c, b)) 20 (Proc.tc.devRef main_v4)) (StableHlo.upto hostOps0 (fun b => m (c, b)) 20 (Proc.tc.devRef main_v3)) (StableHlo.upto hostOps0 (fun b => m (c, b)) 20 (Proc.tc.devRef main_v3)) (StableHlo.upto hostOps0 (fun b => m (c, b)) 20 (Proc.tc.devRef main_v9)) (StableHlo.upto hostOps0 (fun b => m (c, b)) 20 (Proc.tc.devRef main_v14)) = _
  after_reads_simp
  rfl
theorem V8 : V m c main_v34 = shapeCast S1x256 (m ((c.tc : Thread nD τ).loc main_arg8) : FVec Ideal S256 .f32) shapeCasts_S256_S1x256 := by
  entry_read
  rfl
theorem V9 : V m c main_v20 = hKn (m ((c.tc : Thread nD τ).loc main_arg9)) := by
  entry_read
  rfl
theorem V10 : V m c main_v23 = hVv (m ((c.tc : Thread nD τ).loc main_arg9)) := by
  entry_read
  rfl
theorem V11 : V m c main_v37 = hTile (hTwo (m ((c.tc : Thread nD τ).loc main_arg10)) (m ((c.tc : Thread nD τ).loc main_arg10))) := by
  entry_read
  rfl
theorem V12 : V m c main_v40 = hTile (hTwo (Host.negf (m ((c.tc : Thread nD τ).loc main_arg11) : FVec Ideal S2048x32 .f32)) (m ((c.tc : Thread nD τ).loc main_arg11))) := by
  entry_read
  rfl
end

end Cert.Trunk.Kv

end
-- ==== Proof.Trunk.KvRef.lean ====
/- The reference of the call `ffn_kv`, read at an index. -/
module

public import proofs.«01_k».proof.Proof.Trunk.Ref
public import proofs.«01_k».proof.Proof.Trunk.Rope
public import proofs.«01_k».proof.Proof.Gen.Reference4Ideal.Run

@[expose] public section

set_option maxRecDepth 16384

noncomputable section

namespace Cert.Trunk.Kv

open Idealize.ShloMosaic Cert.Reference4Ideal Cert.Reference4Ideal.Gen

/-- The new residual stream. -/
def rH (x h : FVec Ideal S16x2048x1024 .f32) (wo : FVec Ideal S1024x1024 .f32) (g : FVec Ideal S1024 .f32) (win : FVec Ideal S1024x5632 .f32)
    (wout : FVec Ideal S2816x1024 .f32) : FVec Ideal S16x2048x1024 .f32 :=
  rStep (rProj x h wo) (rNorm (rProj x h wo) g) win wout

/-- The compressed keys and values with the rotary keys. -/
def rCkr (h : FVec Ideal S16x2048x1024 .f32) (g : FVec Ideal S1024 .f32) (w : FVec Ideal S1024x320 .f32) : FVec Ideal S16x2048x320 .f32 :=
  Host.dotGeneral dot_S16x2048x1024_S1024x320_S16x2048x320_2_0_01_1_n_n none (rNorm h g) w

/-- The compressed part. -/
def rC (q : FVec Ideal S16x2048x320 .f32) : FVec Ideal S16x2048x256 .f32 :=
  extractStridedSlice S16x2048x256 ![0, 0, 0] q slices_S16x2048x320_S16x2048x256_0_0_0

/-- That part normalized. -/
def rLat (x : FVec Ideal S16x2048x256 .f32) (g : FVec Ideal S256 .f32) : FVec Ideal S16x2048x256 .f32 :=
  mulf (mulf x (broadcastInDim S16x2048x256 ![0, 1, 2] bcast_S16x2048x1_S16x2048x256_0_1_2 (Host.rsqrt (addf (Host.divf (broadcastInDim S16x2048x1 ![0, 1] bcast_S16x2048_S16x2048x1_0_1
    (Host.reduceAdd (mulf x x) (constant S_ .f32 0x00000000#32) reducesTo_S16x2048x256_S16x2048_d2 h_S_)) (broadcastInDim S16x2048x1 ![] bcast_S_S16x2048x1 (constant S_ .f32 0x43800000#32)))
    (broadcastInDim S16x2048x1 ![] bcast_S_S16x2048x1 (constant S_ .f32 0x358637BD#32)))))) (broadcastInDim S16x2048x256 ![0, 1, 2] bcast_S1x1x256_S16x2048x256_0_1_2
    (broadcastInDim S1x1x256 ![2] bcast_S256_S1x1x256_2 g))

/-- The keys and the values, expanded. -/
def rUp (c : FVec Ideal S16x2048x256 .f32) (w : FVec Ideal S256x2048 .f32) : FVec Ideal S16x2048x2048 .f32 :=
  Host.dotGeneral dot_S16x2048x256_S256x2048_S16x2048x2048_2_0_01_1_n_n none c w

/-- Their heads' keys. -/
def rKn (u : FVec Ideal S16x2048x2048 .f32) : FVec Ideal S32768x1024 .bf16 :=
  truncf .bf16 (shapeCast _ (extractStridedSlice S16x2048x8x128 ![0, 0, 0, 0] (shapeCast _ u shapeCasts_S16x2048x2048_S16x2048x8x256) slices_S16x2048x8x256_S16x2048x8x128_0_0_0_0)
    shapeCasts_S16x2048x8x128_S32768x1024) bitsLt_bf16_f32

/-- Their heads' values. -/
def rVv (u : FVec Ideal S16x2048x2048 .f32) : FVec Ideal S32768x1024 .bf16 :=
  truncf .bf16 (shapeCast _ (extractStridedSlice S16x2048x8x128 ![0, 0, 0, 128] (shapeCast _ u shapeCasts_S16x2048x2048_S16x2048x8x256) slices_S16x2048x8x256_S16x2048x8x128_0_0_0_128)
    shapeCasts_S16x2048x8x128_S32768x1024) bitsLt_bf16_f32

/-- The two halves of the rotary keys. -/
def rX1 (q : FVec Ideal S16x2048x320 .f32) : FVec Ideal S16x2048x32 .f32 :=
  extractStridedSlice S16x2048x32 ![0, 0, 0] (extractStridedSlice S16x2048x64 ![0, 0, 256] q slices_S16x2048x320_S16x2048x64_0_0_256) slices_S16x2048x64_S16x2048x32_0_0_0
def rX2 (q : FVec Ideal S16x2048x320 .f32) : FVec Ideal S16x2048x32 .f32 :=
  extractStridedSlice S16x2048x32 ![0, 0, 32] (extractStridedSlice S16x2048x64 ![0, 0, 256] q slices_S16x2048x320_S16x2048x64_0_0_256) slices_S16x2048x64_S16x2048x32_0_0_32

/-- A table for every batch. -/
def rTab (t : FVec Ideal S2048x32 .f32) : FVec Ideal S16x2048x32 .f32 :=
  broadcastInDim S16x2048x32 ![0, 1, 2] bcast_S1x2048x32_S16x2048x32_0_1_2 (broadcastInDim S1x2048x32 ![1, 2] bcast_S2048x32_S1x2048x32_1_2 t)

/-- The rotary keys. -/
def rRope (q : FVec Ideal S16x2048x320 .f32) (c s : FVec Ideal S2048x32 .f32) : FVec Ideal S16x2048x64 .f32 :=
  concatenate S16x2048x64 2 [⟨S16x2048x32, subf (mulf (rX1 q) (rTab c)) (mulf (rX2 q) (rTab s))⟩, ⟨S16x2048x32, addf (mulf (rX2 q) (rTab c)) (mulf (rX1 q) (rTab s))⟩]
    concatenates_S16x2048x32_S16x2048x32_S16x2048x64_d2

/-- Those keys twice. -/
def rKr (k : FVec Ideal S16x2048x64 .f32) : FVec Ideal S32768x128 .bf16 :=
  truncf .bf16 (shapeCast _ (concatenate S16x2048x128 2 [⟨S16x2048x64, k⟩, ⟨S16x2048x64, k⟩] concatenates_S16x2048x64_S16x2048x64_S16x2048x128_d2)
    shapeCasts_S16x2048x128_S32768x128) bitsLt_bf16_f32

/-- The first weights of the next layer. -/
def rWin (w : FVec Ideal S2x1024x5632 .f32) : FVec Ideal S1024x5632 .bf16 :=
  truncf .bf16 (shapeCast _ (extractStridedSlice S1x1024x5632 ![1, 0, 0] w slices_S2x1024x5632_S1x1024x5632_1_0_0) shapeCasts_S1x1024x5632_S1024x5632) bitsLt_bf16_f32

/-- Half of its last weights. -/
def rWout (w : FVec Ideal S2x2816x1024 .f32) : FVec Ideal S2816x1024 .bf16 :=
  truncf .bf16 (mulf (broadcastInDim S2816x1024 ![] bcast_S_S2816x1024 (constant S_ .f32 0x3F000000#32)) (shapeCast _ (extractStridedSlice S1x2816x1024 ![1, 0, 0] w slices_S2x2816x1024_S1x2816x1024_1_0_0) shapeCasts_S1x2816x1024_S2816x1024)) bitsLt_bf16_f32

/-- The residual stream as an array of tokens. -/
def rTok (h : FVec Ideal S16x2048x1024 .f32) : FVec Ideal S32768x1024 .f32 := shapeCast _ h shapeCasts_S16x2048x1024_S32768x1024

theorem rTok_apply (h : FVec Ideal S16x2048x1024 .f32) (T : Fin 32768) (j : Fin 1024) : rTok h (ValueIdx.ix2 T j) = rowAt h (tb T) (ts T) j := by
  unfold rTok
  pointwise
  rfl

theorem rH_row (x h : FVec Ideal S16x2048x1024 .f32) (wo : FVec Ideal S1024x1024 .f32) (g : FVec Ideal S1024 .f32) (win : FVec Ideal S1024x5632 .f32)
    (wout : FVec Ideal S2816x1024 .f32) (b : Fin 16) (s : Fin 2048) :
    rowAt (rH x h wo g win wout) b s
      = stepR (projR (rowAt x b s) (rowAt h b s) wo) (normR 0x44800000#32 (projR (rowAt x b s) (rowAt h b s) wo) (vecR g)) win wout := by
  unfold rH
  rw [rStep_row, rNorm_row, rProj_row]

theorem rCkr_apply (h : FVec Ideal S16x2048x1024 .f32) (g : FVec Ideal S1024 .f32) (w : FVec Ideal S1024x320 .f32) (b : Fin 16) (s : Fin 2048) (j : Fin 320) :
    rCkr h g w (ValueIdx.ix3 b s j) = dotR (normR 0x44800000#32 (rowAt h b s) (vecR g)) w j := by
  rw [← rNorm_row]
  unfold rCkr
  generalize rNorm h g = v
  pointwise
  rfl

theorem rC_apply (q : FVec Ideal S16x2048x320 .f32) (b : Fin 16) (s : Fin 2048) (j : Fin 256) :
    rC q (ValueIdx.ix3 b s j) = q (ValueIdx.ix3 b s ⟨j.val, by omega⟩) := by
  unfold rC
  pointwise
  rfl

theorem rLat_row (x : FVec Ideal S16x2048x256 .f32) (g : FVec Ideal S256 .f32) (b : Fin 16) (s : Fin 2048) :
    rowAt (rLat x g) b s = normR 0x43800000#32 (rowAt x b s) (vecR g) := by
  funext j
  unfold rLat
  show _ = _
  unfold rowAt
  pointwise
  rfl

theorem rUp_apply (c : FVec Ideal S16x2048x256 .f32) (w : FVec Ideal S256x2048 .f32) (b : Fin 16) (s : Fin 2048) (j : Fin 2048) :
    rUp c w (ValueIdx.ix3 b s j) = dotR (rowAt c b s) w j := by
  unfold rUp
  pointwise
  rfl

theorem rKn_apply (u : FVec Ideal S16x2048x2048 .f32) (T : Fin 32768) (j : Fin 1024) :
    rKn u (ValueIdx.ix2 T j) = u (ValueIdx.ix3 (tb T) (ts T) ⟨256 * (j.val / 128) + j.val % 128, by omega⟩) := by
  have e : rKn u (ValueIdx.ix2 T j) = u (ValueIdx.ix3 (tb T) (ts T) ⟨j.val / 128 * 256 + j.val % 128, by omega⟩) := by
    unfold rKn
    pointwise
    rfl
  rw [e]
  exact congrArg (fun n => u (ValueIdx.ix3 (tb T) (ts T) n)) (Fin.ext (by show j.val / 128 * 256 + j.val % 128 = 256 * (j.val / 128) + j.val % 128; omega))
theorem rVv_apply (u : FVec Ideal S16x2048x2048 .f32) (T : Fin 32768) (j : Fin 1024) :
    rVv u (ValueIdx.ix2 T j) = u (ValueIdx.ix3 (tb T) (ts T) ⟨256 * (j.val / 128) + (128 + j.val % 128), by omega⟩) := by
  have e : rVv u (ValueIdx.ix2 T j) = u (ValueIdx.ix3 (tb T) (ts T) ⟨j.val / 128 * 256 + (128 + j.val % 128), by omega⟩) := by
    unfold rVv
    pointwise
    rfl
  rw [e]
  exact congrArg (fun n => u (ValueIdx.ix3 (tb T) (ts T) n)) (Fin.ext (by show j.val / 128 * 256 + (128 + j.val % 128) = 256 * (j.val / 128) + (128 + j.val % 128); omega))

theorem rX1_apply (q : FVec Ideal S16x2048x320 .f32) (b : Fin 16) (s : Fin 2048) (r : Fin 32) :
    rX1 q (ValueIdx.ix3 b s r) = q (ValueIdx.ix3 b s ⟨256 + r.val, by omega⟩) := by
  unfold rX1
  pointwise
  rfl
theorem rX2_apply (q : FVec Ideal S16x2048x320 .f32) (b : Fin 16) (s : Fin 2048) (r : Fin 32) :
    rX2 q (ValueIdx.ix3 b s r) = q (ValueIdx.ix3 b s ⟨256 + (32 + r.val), by omega⟩) := by
  unfold rX2
  pointwise
  rfl
theorem rTab_apply (t : FVec Ideal S2048x32 .f32) (b : Fin 16) (s : Fin 2048) (r : Fin 32) : rTab t (ValueIdx.ix3 b s r) = rowOf (R := 2048) t s r := by
  unfold rTab
  pointwise
  rfl

/-- The rotary lanes of a row before they are rotated. -/
def kR (q : FVec Ideal S16x2048x320 .f32) (b : Fin 16) (s : Fin 2048) (r : Fin 64) : EReal := q (ValueIdx.ix3 b s ⟨256 + r.val, by omega⟩)

theorem rRope_apply (q : FVec Ideal S16x2048x320 .f32) (c sn : FVec Ideal S2048x32 .f32) (b : Fin 16) (s : Fin 2048) (r : Fin 64) :
    rRope q c sn (ValueIdx.ix3 b s r) = ropeR (kR q b s) (rowOf (R := 2048) c s) (rowOf (R := 2048) sn s) r := by
  have e : rRope q c sn (ValueIdx.ix3 b s r)
      = if h : r.val < 32 then rX1 q (ValueIdx.ix3 b s ⟨r.val, h⟩) * rTab c (ValueIdx.ix3 b s ⟨r.val, h⟩) - rX2 q (ValueIdx.ix3 b s ⟨r.val, h⟩) * rTab sn (ValueIdx.ix3 b s ⟨r.val, h⟩)
        else rX2 q (ValueIdx.ix3 b s ⟨r.val - 32, by omega⟩) * rTab c (ValueIdx.ix3 b s ⟨r.val - 32, by omega⟩)
          + rX1 q (ValueIdx.ix3 b s ⟨r.val - 32, by omega⟩) * rTab sn (ValueIdx.ix3 b s ⟨r.val - 32, by omega⟩) := by
    unfold rRope
    generalize rX1 q = x1
    generalize rX2 q = x2
    generalize rTab c = t1
    generalize rTab sn = t2
    pointwise
    rfl
  rw [e]
  unfold ropeR
  by_cases h : r.val < 32
  · rw [dif_pos h, dif_pos h, rX1_apply, rX2_apply, rTab_apply, rTab_apply]
    rfl
  · rw [dif_neg h, dif_neg h, rX1_apply, rX2_apply, rTab_apply, rTab_apply]
    have hx : q (ValueIdx.ix3 b s ⟨256 + (32 + (r.val - 32)), by omega⟩) = kR q b s r :=
      congrArg (fun n => q (ValueIdx.ix3 b s n)) (Fin.ext (by show 256 + (32 + (r.val - 32)) = 256 + r.val; omega))
    rw [hx]
    rfl

theorem rKr_apply (k : FVec Ideal S16x2048x64 .f32) (T : Fin 32768) (l : Fin 128) :
    rKr k (ValueIdx.ix2 T l) = k (ValueIdx.ix3 (tb T) (ts T) (lo64 l)) := by
  have e : rKr k (ValueIdx.ix2 T l) = if h : l.val < 64 then k (ValueIdx.ix3 (tb T) (ts T) ⟨l.val, h⟩) else k (ValueIdx.ix3 (tb T) (ts T) ⟨l.val - 64, by omega⟩) := by
    unfold rKr
    pointwise
    rfl
  rw [e]
  unfold lo64
  split
  · congr 2; exact Fin.ext (by simp only []; omega)
  · congr 2; exact Fin.ext (by simp only []; omega)

theorem rWin_apply (w : FVec Ideal S2x1024x5632 .f32) (k : Fin 1024) (j : Fin 5632) : rWin w (ValueIdx.ix2 k j) = w (ValueIdx.ix3 1 k j) := by
  unfold rWin
  pointwise
  rfl
theorem rWout_apply (w : FVec Ideal S2x2816x1024 .f32) (k : Fin 2816) (j : Fin 1024) :
    rWout w (ValueIdx.ix2 k j) = w (ValueIdx.ix3 1 k j) * Ideal.ofBits .f32 0x3F000000#32 := by
  unfold rWout
  pointwise
  exact mul_comm _ _

section
variable (m : (ℓ : Loc nD τ sig) → Buf (Elt Ideal) ℓ) (c : Dev nD)

/-- The residual stream, the compressed row and the expanded one, of the call's arguments. -/
def rH0 : FVec Ideal S16x2048x1024 .f32 :=
  rH (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))
def rC0 : FVec Ideal S16x2048x320 .f32 := rCkr (rH0 m c) (m ((c.tc : Thread nD τ).loc main_arg6)) (m ((c.tc : Thread nD τ).loc main_arg7))
def rU0 : FVec Ideal S16x2048x2048 .f32 := rUp (rLat (rC (rC0 m c)) (m ((c.tc : Thread nD τ).loc main_arg8))) (m ((c.tc : Thread nD τ).loc main_arg9))
def rR0 : FVec Ideal S16x2048x64 .f32 := rRope (rC0 m c) (m ((c.tc : Thread nD τ).loc main_arg10)) (m ((c.tc : Thread nD τ).loc main_arg11))

theorem res_h : Value.res_main_v23 (StableHlo.launchContents m c) = rH0 m c := rfl
theorem res_c : Value.res_main_v37 (StableHlo.launchContents m c) = rC0 m c := rfl
theorem res_u : Value.res_main_v71 (StableHlo.launchContents m c) = shapeCast _ (rU0 m c) shapeCasts_S16x2048x2048_S16x2048x8x256 := rfl
theorem res_r : Value.res_main_v69 (StableHlo.launchContents m c) = rR0 m c := rfl
end

end Cert.Trunk.Kv

end
-- ==== Proof.Trunk.KvResult.lean ====
/- The call `ffn_kv`: its result arrays are the reference's, and its claims. -/
module

public import proofs.«01_k».proof.Proof.Trunk.Kv
public import proofs.«01_k».proof.Proof.Trunk.KvHost
public import proofs.«01_k».proof.Proof.Trunk.KvRef
public import proofs.«01_k».proof.Proof.Gen.Kernel4.Frame
public import proofs.«01_k».proof.Defs
public import Idealize.ShloMosaic.Lib.Claim
public import Idealize.ShloMosaic.Lib.StableHlo.RunRead

@[expose] public section

set_option maxRecDepth 16384

noncomputable section

namespace Cert.Trunk.Kv

open Idealize.ShloMosaic Idealize.ShloMosaic.TcCoe Cert.Kernel4Ideal Cert.Kernel4Ideal.Gen

section
variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![t.val % 4, 0] := (by decide +kernel : ∀ t : Fin grid0.N, win0_11.index t = ![t.val % 4, 0])
theorem idx12 : ∀ t : Fin cfg0.N, win0_12.index t = ![t.val % 4, 0] := (by decide +kernel : ∀ t : Fin grid0.N, win0_12.index t = ![t.val % 4, 0])
theorem idx13 : ∀ t : Fin cfg0.N, win0_13.index t = ![1, t.val, 0] := (by decide +kernel : ∀ t : Fin grid0.N, win0_13.index t = ![1, t.val, 0])
theorem idx14 : ∀ t : Fin cfg0.N, win0_14.index t = ![1, min t.val 15, 0] := (by decide +kernel : ∀ t : Fin grid0.N, win0_14.index t = ![1, min t.val 15, 0])
theorem idx15 : ∀ t : Fin cfg0.N, win0_15.index t = ![t.val, 0] := (by decide +kernel : ∀ t : Fin grid0.N, win0_15.index t = ![t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![t.val, 0] := (by decide +kernel : ∀ t : Fin grid0.N, win0_19.index t = ![t.val, 0])
theorem idx20 : ∀ t : Fin cfg0.N, win0_20.index t = ![min t.val 15, 0] := (by decide +kernel : ∀ t : Fin grid0.N, win0_20.index t = ![min t.val 15, 0])

/-- What a grid point's blocks read. -/
theorem read0 (X : S32768x1024.Idx → EReal) (t : Fin cfg0.N) (a : Fin 512) (j : Fin 1024) (T : Fin 32768) (hT : T.val = 512 * t.val + a.val) :
    ((cfg0.win 0).blk t).view.read (Elt Ideal) X (ValueIdx.ix2 a j) = X (ValueIdx.ix2 T j) := by
  blk_ext [idx0 t]
  show t.val * 512 + a.val = T.val
  omega
theorem read1 (X : S32768x1024.Idx → EReal) (t : Fin cfg0.N) (a : Fin 512) (j : Fin 1024) (T : Fin 32768) (hT : T.val = 512 * t.val + a.val) :
    ((cfg0.win 1).blk t).view.read (Elt Ideal) X (ValueIdx.ix2 a j) = X (ValueIdx.ix2 T j) := by
  blk_ext [idx1 t]
  show t.val * 512 + a.val = T.val
  omega
theorem read2 (X : S1024x1024.Idx → EReal) (t : Fin cfg0.N) : ((cfg0.win 2).blk t).view.read (Elt Ideal) X = X := by
  funext ix
  rw [eta2 ix]
  blk_ext [idx2 t]
theorem read3 (X : S1x1024.Idx → EReal) (t : Fin cfg0.N) : ((cfg0.win 3).blk t).view.read (Elt Ideal) X = X := by
  funext ix
  rw [eta2 ix]
  blk_ext [idx3 t]
theorem read4 (X : S1024x5632.Idx → EReal) (t : Fin cfg0.N) : ((cfg0.win 4).blk t).view.read (Elt Ideal) X = X := by
  funext ix
  rw [eta2 ix]
  blk_ext [idx4 t]
theorem read5 (X : S2816x1024.Idx → EReal) (t : Fin cfg0.N) : ((cfg0.win 5).blk t).view.read (Elt Ideal) X = X := by
  funext ix
  rw [eta2 ix]
  blk_ext [idx5 t]
theorem read6 (X : S1x1024.Idx → EReal) (t : Fin cfg0.N) : ((cfg0.win 6).blk t).view.read (Elt Ideal) X = X := by
  funext ix
  rw [eta2 ix]
  blk_ext [idx6 t]
theorem read7 (X : S1024x512.Idx → EReal) (t : Fin cfg0.N) : ((cfg0.win 7).blk t).view.read (Elt Ideal) X = X := by
  funext ix
  rw [eta2 ix]
  blk_ext [idx7 t]
theorem read8 (X : S1x256.Idx → EReal) (t : Fin cfg0.N) : ((cfg0.win 8).blk t).view.read (Elt Ideal) X = X := by
  funext ix
  rw [eta2 ix]
  blk_ext [idx8 t]
theorem read9 (X : S256x1024.Idx → EReal) (t : Fin cfg0.N) : ((cfg0.win 9).blk t).view.read (Elt Ideal) X = X := by
  funext ix
  rw [eta2 ix]
  blk_ext [idx9 t]
theorem read10 (X : S256x1024.Idx → EReal) (t : Fin cfg0.N) : ((cfg0.win 10).blk t).view.read (Elt Ideal) X = X := by
  funext ix
  rw [eta2 ix]
  blk_ext [idx10 t]
theorem read11 (X : S2048x128.Idx → EReal) (t : Fin cfg0.N) (a : Fin 512) (l : Fin 128) (s : Fin 2048) (hs : s.val = 512 * (t.val % 4) + a.val) :
    ((cfg0.win 11).blk t).view.read (Elt Ideal) X (ValueIdx.ix2 a l) = X (ValueIdx.ix2 s l) := by
  blk_ext [idx11 t]
  show t.val % 4 * 512 + a.val = s.val
  omega
theorem read12 (X : S2048x128.Idx → EReal) (t : Fin cfg0.N) (a : Fin 512) (l : Fin 128) (s : Fin 2048) (hs : s.val = 512 * (t.val % 4) + a.val) :
    ((cfg0.win 12).blk t).view.read (Elt Ideal) X (ValueIdx.ix2 a l) = X (ValueIdx.ix2 s l) := by
  blk_ext [idx12 t]
  show t.val % 4 * 512 + a.val = s.val
  omega
theorem read13 (X : S2x1024x5632.Idx → EReal) (t : Fin cfg0.N) (a : Fin 16) (j : Fin 5632) (k : Fin 1024) (hk : k.val = 16 * t.val + a.val) :
    ((cfg0.win 13).blk t).view.read (Elt Ideal) X (ValueIdx.ix3 0 a j) = X (ValueIdx.ix3 1 k j) := by
  blk_ext [idx13 t]
  show t.val * 16 + a.val = k.val
  omega
theorem read14 (X : S2x2816x1024.Idx → EReal) (t : Fin cfg0.N) (a : Fin 176) (j : Fin 1024) (k : Fin 2816) (hk : k.val = 176 * min t.val 15 + a.val) :
    ((cfg0.win 14).blk t).view.read (Elt Ideal) X (ValueIdx.ix3 0 a j) = X (ValueIdx.ix3 1 k j) := by
  blk_ext [idx14 t]
  show min t.val 15 * 176 + a.val = k.val
  omega

theorem tok_apply (x : FVec Ideal S16x2048x1024 .f32) (T : Fin 32768) (j : Fin 1024) :
    shapeCast S32768x1024 x shapeCasts_S16x2048x1024_S32768x1024 (ValueIdx.ix2 T j) = rowAt x (tb T) (ts T) j := by
  pointwise
  rfl
theorem row_apply (g : FVec Ideal S1024 .f32) : rowOf (R := 1) (shapeCast S1x1024 g shapeCasts_S1024_S1x1024) 0 = vecR g := by
  funext j
  unfold rowOf
  pointwise
  rfl
theorem row256_apply (g : FVec Ideal S256 .f32) : rowOf (R := 1) (shapeCast S1x256 g shapeCasts_S256_S1x256) 0 = vecR g := by
  funext j
  unfold rowOf
  pointwise
  rfl

/-- The residual stream that the call's arguments give, its compressed rows, and the latent ones expanded. -/
def kH : FVec Ideal S16x2048x1024 .f32 :=
  rH (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))
def kC : FVec Ideal ⟨3, ![16, 2048, 320]⟩ .f32 := rCkr (kH m c) (m ((c.tc : Thread nD τ).loc main_arg6)) (m ((c.tc : Thread nD τ).loc main_arg7))
def kL : FVec Ideal ⟨3, ![16, 2048, 256]⟩ .f32 := rLat (rC (kC m c)) (m ((c.tc : Thread nD τ).loc main_arg8))
def kU : FVec Ideal ⟨3, ![16, 2048, 2048]⟩ .f32 := rUp (kL m c) (m ((c.tc : Thread nD τ).loc main_arg9))
def kRo : FVec Ideal ⟨3, ![16, 2048, 64]⟩ .f32 := rRope (kC m c) (m ((c.tc : Thread nD τ).loc main_arg10)) (m ((c.tc : Thread nD τ).loc main_arg11))

/-- A row of a residual stream's block. -/
theorem h_row (t : Fin cfg0.N) (a : Fin 512) (T : Fin 32768) (hT : T.val = 512 * t.val + a.val) :
    rowOf (R := 512) ((dats m 0 c).after 15 t) a = rowAt (kH m c) (tb T) (ts T) := by
  rw [out_h]
  refine (hB_row _ _ _ _ _ _ (m ((c.tc : Thread nD τ).loc main_arg5)) (fun ix => ?_) a).trans ?_
  · exact congrFun ((read5 (V m c main_v29) t).trans (V5 m c)) ix
  · have r0 : rowOf (R := 512) (iblk m c 0 t) a = rowAt (m ((c.tc : Thread nD τ).loc main_arg0)) (tb T) (ts T) :=
      funext fun j => (read0 (V m c main_v24) t a j T hT).trans ((congrFun (V0 m c) _).trans (tok_apply _ T j))
    have r1 : rowOf (R := 512) (iblk m c 1 t) a = rowAt (m ((c.tc : Thread nD τ).loc main_arg1)) (tb T) (ts T) :=
      funext fun j => (read1 (V m c main_v31) t a j T hT).trans ((congrFun (V1 m c) _).trans (tok_apply _ T j))
    have r2 : iblk m c 2 t = m ((c.tc : Thread nD τ).loc main_arg2) := (read2 (V m c main_v32) t).trans (V2 m c)
    have r3 : rowOf (R := 1) (iblk m c 3 t) 0 = vecR (m ((c.tc : Thread nD τ).loc main_arg3)) :=
      (congrArg (fun q => rowOf (R := 1) q 0) ((read3 (V m c main_v25) t).trans (V3 m c))).trans (row_apply _)
    have r4 : iblk m c 4 t = m ((c.tc : Thread nD τ).loc main_arg4) := (read4 (V m c main_v26) t).trans (V4 m c)
    rw [r0, r1, r2, r3, r4]
    exact (rH_row _ _ _ _ _ _ _ _).symm

/-- The compressed row that a grid point finds. -/
def cB (t : Fin cfg0.N) (a : Fin 512) : Fin 512 → EReal := ckR (rowOf (R := 512) ((dats m 0 c).after 15 t) a) (rowOf (R := 1) (iblk m c 6 t) 0) (iblk m c 7 t)

theorem c_col (t : Fin cfg0.N) (a : Fin 512) (T : Fin 32768) (hT : T.val = 512 * t.val + a.val) (j : Fin 512) (n : Fin 320)
    (hw : ∀ k : Fin 1024, hCat (wLo (m ((c.tc : Thread nD τ).loc main_arg7))) (wHi (m ((c.tc : Thread nD τ).loc main_arg7))) (hSwap (wHi (m ((c.tc : Thread nD τ).loc main_arg7)))) (ValueIdx.ix2 k j)
      = (m ((c.tc : Thread nD τ).loc main_arg7) : FVec Ideal S1024x320 .f32) (ValueIdx.ix2 k n)) :
    cB m c t a j = kC m c (ValueIdx.ix3 (tb T) (ts T) n) := by
  have r6 : rowOf (R := 1) (iblk m c 6 t) 0 = vecR (m ((c.tc : Thread nD τ).loc main_arg6)) :=
    (congrArg (fun q => rowOf (R := 1) q 0) ((read6 (V m c main_v33) t).trans (V6 m c))).trans (row_apply _)
  have r7 : iblk m c 7 t = hCat (wLo (m ((c.tc : Thread nD τ).loc main_arg7))) (wHi (m ((c.tc : Thread nD τ).loc main_arg7))) (hSwap (wHi (m ((c.tc : Thread nD τ).loc main_arg7)))) :=
    (read7 (V m c main_v16) t).trans (V7 m c)
  unfold cB
  rw [h_row m c t a T hT, r6, r7]
  exact (dotR_congr (fun _ => rfl) hw).trans (rCkr_apply _ _ _ _ _ _).symm

theorem c_lo (t : Fin cfg0.N) (a : Fin 512) (T : Fin 32768) (hT : T.val = 512 * t.val + a.val) : lo256 (cB m c t a) = rowAt (rC (kC m c)) (tb T) (ts T) :=
  funext fun l => (c_col m c t a T hT ⟨l.val, by omega⟩ ⟨l.val, by omega⟩ fun k => (hCat_lo _ _ _ k l).trans (wLo_apply _ k l)).trans (rC_apply _ _ _ l).symm

theorem c_mid (t : Fin cfg0.N) (a : Fin 512) (T : Fin 32768) (hT : T.val = 512 * t.val + a.val) (l : Fin 128) :
    cB m c t a ⟨256 + l.val, by omega⟩ = kR (kC m c) (tb T) (ts T) (lo64 l) :=
  c_col m c t a T hT _ _ fun k => (hCat_mid _ _ _ k l).trans (wHi_apply _ k _)

theorem c_hi (t : Fin cfg0.N) (a : Fin 512) (T : Fin 32768) (hT : T.val = 512 * t.val + a.val) (l : Fin 128) :
    cB m c t a ⟨384 + l.val, by omega⟩ = kR (kC m c) (tb T) (ts T) (swp (lo64 l)) :=
  c_col m c t a T hT _ _ fun k => (hCat_hi _ _ _ k l).trans ((hSwap_apply _ k _).trans (wHi_apply _ k _))

/-- The latent row that a grid point finds. -/
theorem l_row (t : Fin cfg0.N) (a : Fin 512) (T : Fin 32768) (hT : T.val = 512 * t.val + a.val) :
    rowOf (R := 512) (k0_pay21 ((dats m 0 c).after 15 t) (iblk m c 6 t) (iblk m c 7 t) (iblk m c 8 t)) a = rowAt (kL m c) (tb T) (ts T) := by
  have r8 : rowOf (R := 1) (iblk m c 8 t) 0 = vecR (m ((c.tc : Thread nD τ).loc main_arg8)) :=
    (congrArg (fun q => rowOf (R := 1) q 0) ((read8 (V m c main_v34) t).trans (V8 m c))).trans (row256_apply _)
  refine (pay21_row _ _ _ _ a).trans ((congrArg₂ (normR 0x43800000#32) (c_lo m c t a T hT) r8).trans ?_)
  exact (rLat_row _ _ _ _).symm

theorem tok_ex (t : Fin cfg0.N) (a : Fin 512) : ∃ T : Fin 32768, T.val = 512 * t.val + a.val := by
  have ht : t.val < 64 := t.isLt
  exact ⟨⟨512 * t.val + a.val, by omega⟩, rfl⟩

/-- The call's result arrays. -/
theorem result_h : (dats m 0 c).arrAt 15 cfg0.N = rTok (kH m c) := by
  refine (dats m 0 c).arrAt_eq_of_covers 15 _ (by decide +kernel) fun t hf y => ?_
  blk_simp
  obtain ⟨a, j, rfl⟩ : ∃ (a : Fin 512) (j : Fin 1024), y = ValueIdx.ix2 a j := ⟨y 0, y 1, eta2 y⟩
  obtain ⟨T, hT⟩ := tok_ex t a
  have ey : (win0_15.blk t).view.emb (ValueIdx.ix2 a j) = ValueIdx.ix2 T j := by
    blk_ext [idx15 t]
    show t.val * 512 + a.val = T.val
    omega
  rw [ey, rTok_apply]
  exact congrFun (h_row m c t a T hT) j
theorem result_k : (dats m 0 c).arrAt 16 cfg0.N = rKn (kU m c) := by
  refine (dats m 0 c).arrAt_eq_of_covers 16 _ (by decide +kernel) fun t hf y => ?_
  blk_simp
  rw [out_k]
  obtain ⟨a, j, rfl⟩ : ∃ (a : Fin 512) (j : Fin 1024), y = ValueIdx.ix2 a j := ⟨y 0, y 1, eta2 y⟩
  obtain ⟨T, hT⟩ := tok_ex t a
  have ey : (win0_16.blk t).view.emb (ValueIdx.ix2 a j) = ValueIdx.ix2 T j := by
    blk_ext [idx16 t]
    show t.val * 512 + a.val = T.val
    omega
  have r9 : iblk m c 9 t = hKn (m ((c.tc : Thread nD τ).loc main_arg9)) := (read9 (V m c main_v20) t).trans (V9 m c)
  rw [ey, rKn_apply, r9]
  refine (pay2_apply _ _ a j).trans ((dotR_congr (fun k => congrFun (l_row m c t a T hT) k) fun k => hKn_apply _ k j).trans ?_)
  exact (rUp_apply _ _ _ _ _).symm
theorem result_r : (dats m 0 c).arrAt 17 cfg0.N = rKr (kRo m c) := by
  refine (dats m 0 c).arrAt_eq_of_covers 17 _ (by decide +kernel) fun t hf y => ?_
  blk_simp
  rw [out_r]
  obtain ⟨a, l, rfl⟩ : ∃ (a : Fin 512) (l : Fin 128), y = ValueIdx.ix2 a l := ⟨y 0, y 1, eta2 y⟩
  obtain ⟨T, hT⟩ := tok_ex t a
  have hs : (ts T).val = 512 * (t.val % 4) + a.val := by
    show T.val % 2048 = _
    omega
  have ey : (win0_17.blk t).view.emb (ValueIdx.ix2 a l) = ValueIdx.ix2 T l := by
    blk_ext [idx17 t]
    show t.val * 512 + a.val = T.val
    omega
  have r11 : rowOf (R := 512) (iblk m c 11 t) a l = cos64 (rowOf (R := 2048) (m ((c.tc : Thread nD τ).loc main_arg10)) (ts T)) (lo64 l) :=
    (read11 (V m c main_v37) t a l (ts T) hs).trans ((congrFun (V11 m c) _).trans ((hTile_apply _ _ _).trans (hCos_apply _ _ _)))
  have r12 : rowOf (R := 512) (iblk m c 12 t) a l = sin64 (rowOf (R := 2048) (m ((c.tc : Thread nD τ).loc main_arg11)) (ts T)) (lo64 l) :=
    (read12 (V m c main_v40) t a l (ts T) hs).trans ((congrFun (V12 m c) _).trans ((hTile_apply _ _ _).trans (hSin_apply _ _ _)))
  rw [ey, rKr_apply]
  refine (pay1_apply _ _ _ _ _ a l).trans ?_
  refine (congrArg₂ (· + ·) (congrArg₂ (· * ·) (c_mid m c t a T hT l) r11) (congrArg₂ (· * ·) (c_hi m c t a T hT l) r12)).trans ?_
  exact (rope_eq _ _ _ _).trans (rRope_apply _ _ _ _ _ _).symm
theorem result_v : (dats m 0 c).arrAt 18 cfg0.N = rVv (kU m c) := by
  refine (dats m 0 c).arrAt_eq_of_covers 18 _ (by decide +kernel) fun t hf y => ?_
  blk_simp
  rw [out_v]
  obtain ⟨a, j, rfl⟩ : ∃ (a : Fin 512) (j : Fin 1024), y = ValueIdx.ix2 a j := ⟨y 0, y 1, eta2 y⟩
  obtain ⟨T, hT⟩ := tok_ex t a
  have ey : (win0_18.blk t).view.emb (ValueIdx.ix2 a j) = ValueIdx.ix2 T j := by
    blk_ext [idx18 t]
    show t.val * 512 + a.val = T.val
    omega
  have r10 : iblk m c 10 t = hVv (m ((c.tc : Thread nD τ).loc main_arg9)) := (read10 (V m c main_v23) t).trans (V10 m c)
  rw [ey, rVv_apply, r10]
  refine (pay3_apply _ _ a j).trans ((dotR_congr (fun k => congrFun (l_row m c t a T hT) k) fun k => hVv_apply _ k j).trans ?_)
  exact (rUp_apply _ _ _ _ _).symm
theorem result_win : (dats m 0 c).arrAt 19 cfg0.N = rWin (m ((c.tc : Thread nD τ).loc main_arg12)) := by
  refine (dats m 0 c).arrAt_eq_of_covers 19 _ (by decide +kernel) fun t hf y => ?_
  blk_simp
  rw [out_win]
  obtain ⟨a, j, rfl⟩ : ∃ (a : Fin 16) (j : Fin 5632), y = ValueIdx.ix2 a j := ⟨y 0, y 1, eta2 y⟩
  have ht : t.val < 64 := t.isLt
  obtain ⟨k, hk⟩ : ∃ k : Fin 1024, k.val = 16 * t.val + a.val := ⟨⟨16 * t.val + a.val, by omega⟩, rfl⟩
  have ey : (win0_19.blk t).view.emb (ValueIdx.ix2 a j) = ValueIdx.ix2 k j := by
    blk_ext [idx19 t]
    show t.val * 16 + a.val = k.val
    omega
  rw [ey, rWin_apply]
  refine (pay4_apply _ a j).trans ((read13 (V m c main_arg12) t a j k hk).trans ?_)
  rw [V_main_arg12]
theorem result_wout : (dats m 0 c).arrAt 20 cfg0.N = rWout (m ((c.tc : Thread nD τ).loc main_arg13)) := by
  refine (dats m 0 c).arrAt_eq_of_covers 20 _ (by decide +kernel) fun t hf y => ?_
  blk_simp
  rw [out_wout]
  obtain ⟨a, j, rfl⟩ : ∃ (a : Fin 176) (j : Fin 1024), y = ValueIdx.ix2 a j := ⟨y 0, y 1, eta2 y⟩
  obtain ⟨k, hk⟩ : ∃ k : Fin 2816, k.val = 176 * min t.val 15 + a.val := ⟨⟨176 * min t.val 15 + a.val, by omega⟩, rfl⟩
  have ey : (win0_20.blk t).view.emb (ValueIdx.ix2 a j) = ValueIdx.ix2 k j := by
    blk_ext [idx20 t]
    show min t.val 15 * 176 + a.val = k.val
    omega
  rw [ey, rWout_apply]
  refine (pay5_apply _ a j).trans (congrArg (· * _) ((read14 (V m c main_arg13) t a j k hk).trans ?_))
  rw [V_main_arg13]
end

set_option maxHeartbeats 1600000 in
/-- The call computes its reference. -/
theorem algebraic4 : Cert.algebraic_Kernel4Ideal_Reference4Ideal := by
  intro m ρ m' ρ' _ hagree
  refine ⟨fun c => (Kernel4Ideal.Gen.dats m 0 c).arrAt 15 Kernel4Ideal.cfg0.N, fun c => (Kernel4Ideal.Gen.dats m 0 c).arrAt 16 Kernel4Ideal.cfg0.N,
    fun c => (Kernel4Ideal.Gen.dats m 0 c).arrAt 17 Kernel4Ideal.cfg0.N, fun c => (Kernel4Ideal.Gen.dats m 0 c).arrAt 18 Kernel4Ideal.cfg0.N,
    fun c => (Kernel4Ideal.Gen.dats m 0 c).arrAt 19 Kernel4Ideal.cfg0.N, fun c => (Kernel4Ideal.Gen.dats m 0 c).arrAt 20 Kernel4Ideal.cfg0.N,
    Kernel4Ideal.Value.run_blocks (F := Ideal) m ρ, ?_⟩
  refine (θ_run Reference4Ideal.defs _ _).mono (fun _ h c => ?_) (Reference4Ideal.Value.run (F := Ideal) m' ρ')
  obtain ⟨g0, g1, g2, g3, g4, g5, g6, g7, g8, g9, g10, g11, g12, g13⟩ := hagree c
  obtain ⟨h0, h1, h2, h3, h4, h5, h6⟩ := h c
  have eH : rH0 m' c = kH m c := by
    unfold rH0 kH
    rw [g0, g1, g2, g3, g4, g5]
  have eC : rC0 m' c = kC m c := by
    unfold rC0 kC
    rw [eH, g6, g7]
  have eU : rU0 m' c = kU m c := by
    unfold rU0 kU kL
    rw [eC, g8, g9]
  have eR : rR0 m' c = kRo m c := by
    unfold rR0 kRo
    rw [eC, g10, g11]
  refine ⟨h0.trans ?_, h1.trans ?_, h2.trans ?_, h3.trans ?_, h4.trans ?_, h5.trans ?_, h6⟩
  · refine Eq.trans ?_ (result_h m c).symm
    rw [← eH, res_h]
    rfl
  · refine Eq.trans ?_ (result_k m c).symm
    rw [← eU, res_u]
    rfl
  · refine Eq.trans ?_ (result_r m c).symm
    rw [← eR, res_r]
    rfl
  · refine Eq.trans ?_ (result_v m c).symm
    rw [← eU, res_u]
    rfl
  · refine Eq.trans ?_ (result_win m c).symm
    rw [← g12]
    rfl
  · refine Eq.trans ?_ (result_wout m c).symm
    rw [← g13]
    rfl

theorem frame_r4 : Cert.quiescent_Reference4Ideal := fun m ρ _ =>
  (θ_run Reference4Ideal.defs _ _).mono (fun r h => ⟨fun c => (h c).2.2.2.2.2.2, sem_eq_zero_of_no_sems (by decide) r.2⟩) (Reference4Ideal.Value.run (F := Ideal) m ρ)

theorem frame_i4 : Cert.quiescent_Kernel4Ideal := fun m ρ _ => Kernel4Ideal.Gen.frame m ρ

theorem frame_k4 : Cert.quiescent_Kernel4 := fun m ρ _ => Kernel4.Gen.frame m ρ

theorem preserves4 : Cert.preserves_Kernel4_Kernel4Ideal := trivial

end Cert.Trunk.Kv

end
-- ==== Proof.Trunk.Q.lean ====
/- The call `ffn_q`: its result blocks as functions of their rows. -/
module

public import proofs.«01_k».proof.Proof.Trunk.Rope
public import proofs.«01_k».proof.Proof.Gen.Kernel5Ideal.Value

@[expose] public section

set_option maxRecDepth 16384

noncomputable section

namespace Cert.Trunk.Q

open Idealize.ShloMosaic Idealize.ShloMosaic.TcCoe Cert.Kernel5Ideal Cert.Kernel5Ideal.Gen

/-- The residual stream normalized. -/
theorem pay1_apply (x : Vec Ideal S512x1024 .f32) (g : Vec Ideal S1x1024 .f32) (a : Fin 512) (j : Fin 1024) :
    k0_pay1 x g (ValueIdx.ix2 a j) = normR 0x44800000#32 (rowOf x a) (rowOf g 0) j := by
  unfold k0_pay1
  pointwise
  rfl

section
variable (hn : Vec Ideal S512x1024 .bf16) (g u : Vec Ideal S1024x256 .bf16)

theorem act_eq :
    (truncf (F := Ideal) .bf16 (mulf (mulf (mm (R := 512) hn g) (logistic (φ := .f32) (mm (R := 512) hn g))) (mm (R := 512) hn u)) bitsLt_bf16_f32 : FVec Ideal S512x256 .bf16)
      = actV hn g u := rfl
theorem pay2_eq : k0_pay2 hn g u = actV hn g u := by
  simp only [k0_pay2, shapeCast_self, matmul_mm dot_S512x1024_S1024x256_S512x256_1_0_0_1_n_n rfl]
  rfl
theorem pay5_eq : k0_pay5 hn (k0_pay3 hn g) (k0_pay4 u) = actV hn g u := pay2_eq hn g u
theorem pay6_eq : k0_pay6 hn g u = actV hn g u := pay2_eq hn g u
theorem pay7_eq : k0_pay7 hn g u = actV hn g u := pay2_eq hn g u
theorem pay8_eq : k0_pay8 hn g u = actV hn g u := pay2_eq hn g u
theorem pay10_eq : k0_pay10 hn (k0_pay9 hn g) u = actV hn g u := pay2_eq hn g u
theorem pay11_eq : k0_pay11 hn g u = actV hn g u := pay2_eq hn g u
theorem pay12_eq : k0_pay12 hn g u = actV hn g u := pay2_eq hn g u
theorem pay13_eq : k0_pay13 hn g u = actV hn g u := pay2_eq hn g u
end

theorem pay14_apply (hn : Vec Ideal S512x1024 .bf16) (win : Vec Ideal S1024x5632 .bf16) (wout : Vec Ideal S2816x1024 .bf16) (x : Vec Ideal S512x1024 .f32)
    (a : Fin 512) (j : Fin 1024) :
    k0_pay14 hn (actC hn win 0) (actC hn win 1) (actC hn win 2) (actC hn win 3) (actC hn win 4) (actC hn win 5) (actC hn win 6) (actC hn win 7) (actC hn win 8)
      (ldV win 2304) (ldV win 5120) (ldV win 2560) (ldV win 5376) wout x (ValueIdx.ix2 a j)
    = x (ValueIdx.ix2 a j) + ffnR (rowOf hn a) win wout j := by
  simp only [k0_pay14, shapeCast_self, matmul_mm dot_S512x1024_S1024x256_S512x256_1_0_0_1_n_n rfl, matmul_mm dot_S512x2816_S2816x1024_S512x1024_1_0_0_1_n_n rfl, act_eq]
  refine congrArg (x (ValueIdx.ix2 a j) + ·) (mm_cat hn win wout _ ?_ _ a j)
  rw [range_map]
  simp only [shapeCast_self, matmul_mm dot_S512x1024_S1024x256_S512x256_1_0_0_1_n_n rfl, act_eq]
  rfl

/-- A block of the new residual stream. -/
def hB (x : Vec Ideal S512x1024 .f32) (g : Vec Ideal S1x1024 .f32) (win : Vec Ideal S1024x5632 .bf16) (wout : Vec Ideal S2816x1024 .bf16) : FVec Ideal S512x1024 .f32 :=
  fun ix => x ix + ffnR (rowOf (R := 512) (k0_pay1 x g) (ix 0)) win wout (ix 1)

/-- A row of the residual stream's block. -/
theorem hB_row (x : Vec Ideal S512x1024 .f32) (g : Vec Ideal S1x1024 .f32) (win : Vec Ideal S1024x5632 .bf16) (wout : Vec Ideal S2816x1024 .bf16)
    (w0 : (M2 2816 1024).Idx → EReal) (hw : ∀ ix, wout ix = w0 ix * Ideal.ofBits .f32 0x3F000000#32) (a : Fin 512) :
    rowOf (R := 512) (hB x g win wout) a = stepR (rowOf (R := 512) x a) (normR 0x44800000#32 (rowOf (R := 512) x a) (rowOf (R := 1) g 0)) win w0 := by
  have e1 : rowOf (R := 512) (k0_pay1 x g) a = normR 0x44800000#32 (rowOf (R := 512) x a) (rowOf (R := 1) g 0) := funext fun j => pay1_apply x g a j
  funext j
  refine Eq.trans ?_ (half_step _ _ win w0 wout hw j)
  rw [← e1]
  rfl

/-- A row's latent query. -/
def cqR (h : Fin 1024 → EReal) (g : Fin 1024 → EReal) (w : (M2 1024 768).Idx → EReal) (gq : Fin 768 → EReal) : Fin 768 → EReal :=
  normR 0x44400000#32 (fun k => dotR (normR 0x44800000#32 h g) w k) gq

/-- The latent query expanded. -/
def dR (h : Fin 1024 → EReal) (g : Fin 1024 → EReal) (w : (M2 1024 768).Idx → EReal) (gq : Fin 768 → EReal) (wu : (M2 768 2048).Idx → EReal) (j : Fin 2048) : EReal :=
  dotR (cqR h g w gq) wu j

/-- The rotary lanes, rotated. -/
def rotR (d : Fin 2048 → EReal) (c s : Fin 512 → EReal) (l : Fin 512) : EReal := d ⟨1024 + l.val, by omega⟩ * c l + d ⟨1536 + l.val, by omega⟩ * s l

/-- A lane of the packed queries: the position-free lanes of a head, then its rotary lanes in its half of the lanes of the pair. -/
def qVal (d : Fin 2048 → EReal) (r : Fin 512 → EReal) (q : EReal) (j : Fin 2048) : EReal :=
  if j.val % 256 < 128 then d ⟨128 * (j.val / 256) + j.val % 128, by omega⟩ * q
  else (if j.val % 128 / 64 = j.val / 256 % 2 then r ⟨128 * (j.val / 512) + j.val % 128, by omega⟩ else Ideal.ofBits .f32 0x00000000#32) * q

/-- The strip's product, of a row. -/
theorem pay19_apply (H : FVec Ideal S512x1024 .f32) (g : Vec Ideal S1x1024 .f32) (w : Vec Ideal S1024x768 .bf16) (gq : Vec Ideal S1x768 .f32) (wu : Vec Ideal S768x2048 .bf16)
    (a' : Fin 256) (a : Fin 512) (ha : a.val = a'.val) (j : Fin 2048) :
    k0_pay19 (extractStridedSlice S256x1024 ![0, 0] H slices_S512x1024_o0_0_S256x1024) (k0_pay17 g)
      (shapeCast S256x1 (multiReduction (F := Ideal) .add [1] S256 (mulf (extractStridedSlice S256x1024 ![0, 0] H slices_S512x1024_o0_0_S256x1024) (extractStridedSlice S256x1024 ![0, 0] H slices_S512x1024_o0_0_S256x1024)) 0x00000000#32 reduces_S256x1024_S256 (.inl rfl) rfl) shapeCasts_S256_S256x1)
      (Scalar.ofBits .f32 0x44800000#32) w gq wu (ValueIdx.ix2 a' j)
      = dR (rowOf (R := 512) H a) (rowOf (R := 1) g 0) w (rowOf (R := 1) gq 0) wu j := by
  obtain rfl : a = ⟨a'.val, by clear ha; omega⟩ := Fin.ext ha
  simp only [k0_pay19, k0_pay17, shapeCast_self, matmul_mm dot_S256x1024_S1024x768_S256x768_1_0_0_1_n_n rfl, matmul_mm dot_S256x768_S768x2048_S256x2048_1_0_0_1_n_n rfl]
  refine dotR_congr (fun k => ?_) fun _ => rfl
  generalize hq : mm (R := 256) _ w = q
  have e : rowOf (R := 256) q a' = fun k => dotR (normR 0x44800000#32 (rowOf (R := 512) H ⟨a'.val, by omega⟩) (rowOf (R := 1) g 0)) w k := by
    subst hq
    funext k
    refine dotR_congr (fun i => ?_) fun _ => rfl
    unfold rowOf
    pointwise
    rfl
  unfold cqR
  rw [← e]
  unfold rowOf
  pointwise
  rfl

theorem pay49_apply (H : FVec Ideal S512x1024 .f32) (g : Vec Ideal S1x1024 .f32) (w : Vec Ideal S1024x768 .bf16) (gq : Vec Ideal S1x768 .f32) (wu : Vec Ideal S768x2048 .bf16)
    (a' : Fin 256) (a : Fin 512) (ha : a.val = 256 + a'.val) (j : Fin 2048) :
    k0_pay49 (k0_pay47 H g w gq) (k0_pay48 wu) (ValueIdx.ix2 a' j) = dR (rowOf (R := 512) H a) (rowOf (R := 1) g 0) w (rowOf (R := 1) gq 0) wu j := by
  obtain rfl : a = ⟨256 + a'.val, by clear ha; omega⟩ := Fin.ext ha
  simp only [k0_pay49, k0_pay47, k0_pay48, shapeCast_self, matmul_mm dot_S256x1024_S1024x768_S256x768_1_0_0_1_n_n rfl, matmul_mm dot_S256x768_S768x2048_S256x2048_1_0_0_1_n_n rfl]
  refine dotR_congr (fun k => ?_) fun _ => rfl
  generalize hq : mm (R := 256) _ w = q
  have e : rowOf (R := 256) q a' = fun k => dotR (normR 0x44800000#32 (rowOf (R := 512) H ⟨256 + a'.val, by omega⟩) (rowOf (R := 1) g 0)) w k := by
    subst hq
    funext k
    refine dotR_congr (fun i => ?_) fun _ => rfl
    unfold rowOf
    pointwise
    rfl
  unfold cqR
  rw [← e]
  unfold rowOf
  pointwise
  rfl

/-- The queries' factor. -/
def qS : EReal := (Named.named κ "qscale" 0x3DD53B95#32 : Ideal .f32)

/-- A store of position-free lanes. -/
def nopeT (D : FVec Ideal S256x2048 .f32) (off : ℕ) (h1 : S256x2048.Slices ![0, 0] S256x1024) (h2 : S256x1024.Slices ![0, off] S256x128) : FVec Ideal S256x128 .bf16 :=
  truncf (F := Ideal) .bf16 (mulf (extractStridedSlice S256x128 ![0, off] (extractStridedSlice S256x1024 ![0, 0] D h1) h2) (broadcast S256x128 (show Ideal .f32 from qS))) bitsLt_bf16_f32

theorem nopeT_apply (D : FVec Ideal S256x2048 .f32) (off : ℕ) (h1 : S256x2048.Slices ![0, 0] S256x1024) (h2 : S256x1024.Slices ![0, off] S256x128)
    (d : Fin 2048 → EReal) (r : Fin 512 → EReal) (a : Fin 256) (l : Fin 128) (j : Fin 2048) (hd : ∀ j', D (ValueIdx.ix2 a j') = d j') (hj : j.val = 2 * off + l.val)
    (ho : off % 128 = 0) (hb : off ≤ 896) :
    nopeT D off h1 h2 (ValueIdx.ix2 a l) = qVal d r qS j := by
  have e : nopeT D off h1 h2 (ValueIdx.ix2 a l) = D (ValueIdx.ix2 a ⟨off + l.val, by omega⟩) * qS := by
    refine congrArg (fun i => D i * qS) (funext fun b => Fin.ext ?_)
    match b with
    | ⟨0, _⟩ => show 0 + (0 + a.val) = a.val; omega
    | ⟨1, _⟩ => show 0 + (off + l.val) = off + l.val; omega
  rw [e, hd]
  unfold qVal
  rw [if_pos (by omega)]
  exact congrArg (fun i => d i * qS) (Fin.ext (by show off + l.val = 128 * (j.val / 256) + j.val % 128; omega))

/-- The mask of a pair's first head, and of its second. -/
theorem mask_lo (l : Fin 128) : k0_pay15 (ValueIdx.ix2 0 l) = if l.val / 64 = 0 then 1#1 else 0#1 := by
  revert l
  decide +kernel
theorem mask_hi (l : Fin 128) : xori k0_pay15 (constantI S1x128 1 1#1) (ValueIdx.ix2 0 l) = if l.val / 64 = 1 then 1#1 else 0#1 := by
  revert l
  decide +kernel

/-- A store of rotary lanes. -/
def ropeT (M : IVec S1x128 1) (R : FVec Ideal S256x512 .f32) (off : ℕ) (h2 : S256x512.Slices ![0, off] S256x128) : FVec Ideal S256x128 .bf16 :=
  truncf (F := Ideal) .bf16 (mulf (select (broadcastTo S256x128 (shapeCast S1x128 M shapeCasts_S1x128_S1x128) broadcasts_S1x128_S256x128) (extractStridedSlice S256x128 ![0, off] R h2)
    (broadcast S256x128 (Scalar.ofBits (F := Ideal) .f32 0x00000000#32))) (broadcast S256x128 (show Ideal .f32 from qS))) bitsLt_bf16_f32

theorem ropeT_apply (M : IVec S1x128 1) (R : FVec Ideal S256x512 .f32) (off : ℕ) (h2 : S256x512.Slices ![0, off] S256x128) (odd : ℕ)
    (d : Fin 2048 → EReal) (r : Fin 512 → EReal) (a : Fin 256) (l : Fin 128) (j : Fin 2048) (hM : ∀ l : Fin 128, M (ValueIdx.ix2 0 l) = if l.val / 64 = odd then 1#1 else 0#1)
    (hr : ∀ l, R (ValueIdx.ix2 a l) = r l) (hj : j.val = 4 * off + 256 * odd + 128 + l.val) (hodd : odd < 2) (ho : off % 128 = 0) (hb : off ≤ 384) :
    ropeT M R off h2 (ValueIdx.ix2 a l) = qVal d r qS j := by
  have e : ropeT M R off h2 (ValueIdx.ix2 a l)
      = (if M (ValueIdx.ix2 0 l) = 1#1 then R (ValueIdx.ix2 a ⟨off + l.val, by omega⟩) else Ideal.ofBits .f32 0x00000000#32) * qS := by
    have e1 : broadcastTo S256x128 M broadcasts_S1x128_S256x128 (ValueIdx.ix2 a l) = M (ValueIdx.ix2 0 l) := by
      pointwise
      rfl
    have e2 : extractStridedSlice S256x128 ![0, off] R h2 (ValueIdx.ix2 a l) = R (ValueIdx.ix2 a ⟨off + l.val, by omega⟩) := by
      refine congrArg R (funext fun b => Fin.ext ?_)
      match b with
      | ⟨0, _⟩ => show 0 + a.val = a.val; omega
      | ⟨1, _⟩ => show off + l.val = off + l.val; rfl
    unfold ropeT
    rw [shapeCast_self]
    show Scalar.select (broadcastTo S256x128 M broadcasts_S1x128_S256x128 (ValueIdx.ix2 a l)) (extractStridedSlice S256x128 ![0, off] R h2 (ValueIdx.ix2 a l)) (Ideal.ofBits .f32 0x00000000#32) * qS = _
    rw [e1, e2]
    rfl
  rw [e, hr, hM]
  unfold qVal
  rw [if_neg (show ¬ j.val % 256 < 128 by omega)]
  have hi : (⟨off + l.val, by omega⟩ : Fin 512) = ⟨128 * (j.val / 512) + j.val % 128, by omega⟩ := Fin.ext (by show off + l.val = 128 * (j.val / 512) + j.val % 128; omega)
  rw [hi]
  by_cases h : l.val / 64 = odd
  · rw [if_pos h, if_pos rfl, if_pos (show j.val % 128 / 64 = j.val / 256 % 2 by omega)]
  · rw [if_neg h, if_neg (by decide), if_neg (show ¬ j.val % 128 / 64 = j.val / 256 % 2 by omega)]

/-- The rotary lanes of a strip. -/
def rotT (D : FVec Ideal S256x2048 .f32) (u v : FVec Ideal S256x512 .f32) : FVec Ideal S256x512 .f32 :=
  addf (F := Ideal) (mulf (extractStridedSlice S256x512 ![0, 1024] D slices_S256x2048_o0_1024_S256x512) (shapeCast S256x512 u shapeCasts_S256x512_S256x512))
    (mulf (extractStridedSlice S256x512 ![0, 1536] D slices_S256x2048_o0_1536_S256x512) (shapeCast S256x512 v shapeCasts_S256x512_S256x512))

theorem rotT_apply (D : FVec Ideal S256x2048 .f32) (u v : FVec Ideal S256x512 .f32) (d : Fin 2048 → EReal) (cs sn : Fin 512 → EReal) (a : Fin 256)
    (hd : ∀ j', D (ValueIdx.ix2 a j') = d j') (hu : ∀ l, u (ValueIdx.ix2 a l) = cs l) (hv : ∀ l, v (ValueIdx.ix2 a l) = sn l) (l : Fin 512) :
    rotT D u v (ValueIdx.ix2 a l) = rotR d cs sn l := by
  unfold rotR rotT
  rw [← hd, ← hd, ← hu, ← hv, shapeCast_self, shapeCast_self]
  pointwise
  rfl

/-- A row of a strip of the tables. -/
theorem ld_row (C : FVec Ideal S512x512 .f32) (o : ℕ) (i1 : ∀ a, (![o, 0] : Fin 2 → ℕ) a + S256x512.size a ≤ S512x512.size a) (a' : Fin 256) (a : Fin 512)
    (ha : a.val = o + a'.val) (l : Fin 512) :
    View.ld (Val := Elt Ideal) (e' := .f32) C (Rect.unit (s := S512x512) ![o, 0] S256x512.size i1) (ValueIdx.ix2 a' l) = rowOf (R := 512) C a l :=
  congrArg C (funext fun b => Fin.ext (by
    match b with
    | ⟨0, _⟩ => show o + 1 * a'.val = a.val; omega
    | ⟨1, _⟩ => show 0 + 1 * l.val = l.val; omega))

/-- A block of columns of the first weights, as loaded. -/
def colW (W : Vec Ideal S1024x5632 .bf16) (lo : ℕ) (inb : ∀ a, (![0, lo] : Fin 2 → ℕ) a + (![1024, 256] : Fin 2 → ℕ) a ≤ S1024x5632.size a) : Vec Ideal S1024x256 .bf16 :=
  View.ld (Val := Elt Ideal) (e' := .bf16) W (Rect.unit (s := S1024x5632) ![0, lo] ![1024, 256] inb)
theorem colW_eq (W : Vec Ideal S1024x5632 .bf16) (lo : ℕ) (inb : ∀ a, (![0, lo] : Fin 2 → ℕ) a + (![1024, 256] : Fin 2 → ℕ) a ≤ S1024x5632.size a) : colW W lo inb = ldV W lo :=
  ld_ldV W inb

/-- The residual stream's block as the stores put it together. -/
def hRaw (x : Vec Ideal S512x1024 .f32) (g : Vec Ideal S1x1024 .f32) (W : Vec Ideal S1024x5632 .bf16) (X : Vec Ideal S2816x1024 .bf16) : FVec Ideal S512x1024 .f32 :=
  k0_pay14 (k0_pay1 x g) (k0_pay2 (k0_pay1 x g) (colW W 0 (by decide)) (colW W 2816 (by decide)))
    (k0_pay5 (k0_pay1 x g) (k0_pay3 (k0_pay1 x g) (colW W 256 (by decide))) (k0_pay4 (colW W 3072 (by decide))))
    (k0_pay6 (k0_pay1 x g) (colW W 512 (by decide)) (colW W 3328 (by decide)))
    (k0_pay7 (k0_pay1 x g) (colW W 768 (by decide)) (colW W 3584 (by decide)))
    (k0_pay8 (k0_pay1 x g) (colW W 1024 (by decide)) (colW W 3840 (by decide)))
    (k0_pay10 (k0_pay1 x g) (k0_pay9 (k0_pay1 x g) (colW W 1280 (by decide))) (colW W 4096 (by decide)))
    (k0_pay11 (k0_pay1 x g) (colW W 1536 (by decide)) (colW W 4352 (by decide)))
    (k0_pay12 (k0_pay1 x g) (colW W 1792 (by decide)) (colW W 4608 (by decide)))
    (k0_pay13 (k0_pay1 x g) (colW W 2048 (by decide)) (colW W 4864 (by decide)))
    (colW W 2304 (by decide)) (colW W 5120 (by decide)) (colW W 2560 (by decide)) (colW W 5376 (by decide)) X x

theorem hRaw_eq (x : Vec Ideal S512x1024 .f32) (g : Vec Ideal S1x1024 .f32) (W : Vec Ideal S1024x5632 .bf16) (X : Vec Ideal S2816x1024 .bf16) : hRaw x g W X = hB x g W X := by
  unfold hRaw
  simp only [colW_eq, pay2_eq, pay5_eq, pay6_eq, pay7_eq, pay8_eq, pay10_eq, pay11_eq, pay12_eq, pay13_eq]
  funext ix
  obtain ⟨a, j, rfl⟩ : ∃ (a : Fin 512) (j : Fin 1024), ix = ValueIdx.ix2 a j := ⟨ix 0, ix 1, eta2 ix⟩
  exact pay14_apply (k0_pay1 x g) W X x a j

/-- The first strip's product, from the residual stream's block. -/
def strip1 (H : FVec Ideal S512x1024 .f32) (g : Vec Ideal S1x1024 .f32) (w : Vec Ideal S1024x768 .bf16) (gq : Vec Ideal S1x768 .f32) (wu : Vec Ideal S768x2048 .bf16) :
    FVec Ideal S256x2048 .f32 :=
  k0_pay19 (extractStridedSlice S256x1024 ![0, 0] H slices_S512x1024_o0_0_S256x1024) (k0_pay17 g)
    (shapeCast S256x1 (multiReduction (F := Ideal) .add [1] S256 (mulf (extractStridedSlice S256x1024 ![0, 0] H slices_S512x1024_o0_0_S256x1024) (extractStridedSlice S256x1024 ![0, 0] H slices_S512x1024_o0_0_S256x1024)) 0x00000000#32 reduces_S256x1024_S256 (.inl rfl) rfl) shapeCasts_S256_S256x1)
    (Scalar.ofBits .f32 0x44800000#32) w gq wu

/-- The second strip's. -/
def strip2 (H : FVec Ideal S512x1024 .f32) (g : Vec Ideal S1x1024 .f32) (w : Vec Ideal S1024x768 .bf16) (gq : Vec Ideal S1x768 .f32) (wu : Vec Ideal S768x2048 .bf16) :
    FVec Ideal S256x2048 .f32 :=
  k0_pay49 (k0_pay47 H g w gq) (k0_pay48 wu)

/-- A strip of the tables, as loaded. -/
def tab (C : Vec Ideal S512x512 .f32) (o : ℕ) (i1 : ∀ a, (![o, 0] : Fin 2 → ℕ) a + S256x512.size a ≤ S512x512.size a) : FVec Ideal S256x512 .f32 :=
  View.ld (Val := Elt Ideal) (e' := .f32) C (Rect.unit (s := S512x512) ![o, 0] S256x512.size i1)

section
variable (D : FVec Ideal S256x2048 .f32) (d : Fin 2048 → EReal) (a : Fin 512) (j : Fin 2048) (o : ℕ)

/-- A piece of position-free lanes of a strip that starts at row `o`. -/
theorem nope_piece (hD : ∀ (a' : Fin 256) (_ : a.val = o + a'.val) (j' : Fin 2048), D (ValueIdx.ix2 a' j') = d j') (r : Fin 512 → EReal)
    (off : ℕ) (h1 : S256x2048.Slices ![0, 0] S256x1024) (h2 : S256x1024.Slices ![0, off] S256x128) (ho : off % 128 = 0) (hb : off ≤ 896)
    (x : S256x128.Idx) (e0 : a.val = o + (x 0).val) (e1 : j.val = 2 * off + (x 1).val) :
    nopeT D off h1 h2 x = qVal d r qS j := by
  obtain ⟨a', l, rfl⟩ : ∃ (a' : Fin 256) (l : Fin 128), x = ValueIdx.ix2 a' l := ⟨x 0, x 1, eta2 x⟩
  exact nopeT_apply D off h1 h2 d r a' l j (hD a' e0) e1 ho hb

/-- A piece of rotary lanes of a strip that starts at row `o`. -/
theorem rope_piece (hD : ∀ (a' : Fin 256) (_ : a.val = o + a'.val) (j' : Fin 2048), D (ValueIdx.ix2 a' j') = d j')
    (C S : Vec Ideal S512x512 .f32) (i1 : ∀ a, (![o, 0] : Fin 2 → ℕ) a + S256x512.size a ≤ S512x512.size a)
    (M : IVec S1x128 1) (odd : ℕ) (hM : ∀ l : Fin 128, M (ValueIdx.ix2 0 l) = if l.val / 64 = odd then 1#1 else 0#1)
    (off : ℕ) (h2 : S256x512.Slices ![0, off] S256x128) (hodd : odd < 2) (ho : off % 128 = 0) (hb : off ≤ 384)
    (x : S256x128.Idx) (e0 : a.val = o + (x 0).val) (e1 : j.val = 4 * off + 256 * odd + 128 + (x 1).val) :
    ropeT M (rotT D (tab C o i1) (tab S o i1)) off h2 x = qVal d (rotR d (rowOf (R := 512) C a) (rowOf (R := 512) S a)) qS j := by
  obtain ⟨a', l, rfl⟩ : ∃ (a' : Fin 256) (l : Fin 128), x = ValueIdx.ix2 a' l := ⟨x 0, x 1, eta2 x⟩
  exact ropeT_apply M _ off h2 odd d _ a' l j hM
    (fun l => rotT_apply D _ _ d _ _ a' (hD a' e0) (fun l => ld_row C o i1 a' a e0 l) (fun l => ld_row S o i1 a' a e0 l) l) e1 hodd ho hb
end

section
variable (m : (ℓ : Loc nD τ sig) → Buf (Elt Ideal) ℓ) (c : Dev nD)

set_option maxHeartbeats 1000000 in
/-- What a grid point leaves in the residual stream's block. -/
theorem out_h (t : Fin cfg0.N) : (dats m 0 c).after 12 t = hB (iblk m c 0 t) (iblk m c 1 t) (iblk m c 2 t) (iblk m c 3 t) := by
  rw [after0_12]
  unfold outsAt0
  frame_open
  simp (disch := decide) only [View.readAt_eq_ld]
  repeat rw [Memref.IsWhole.read_unread]
  repeat rw [View.ld_unit_lit']
  rw [View.readCov_unit_lit']
  rw [View.read_writes_junk_eq_canon, View.canon_cons_unit_lit']
  exact hRaw_eq (iblk m c 0 t) (iblk m c 1 t) (iblk m c 2 t) (iblk m c 3 t)
  all_goals decide

/-- The block of the next layer's first weights. -/
theorem out_win (t : Fin cfg0.N) : (dats m 0 c).after 14 t = k0_pay69 (iblk m c 10 t) := by
  rw [after0_14]
  unfold outsAt0
  frame_out

/-- The block of the next layer's last weights. -/
theorem out_wout (t : Fin cfg0.N) : (dats m 0 c).after 15 t = k0_pay70 (iblk m c 11 t) := by
  rw [after0_15]
  unfold outsAt0
  frame_out

set_option maxHeartbeats 16000000 in
/-- The queries' block. -/
theorem out_q (t : Fin cfg0.N) (a : Fin 512) (j : Fin 2048) : (dats m 0 c).after 13 t (ValueIdx.ix2 a j)
      = qVal (dR (rowOf (R := 512) ((dats m 0 c).after 12 t) a) (rowOf (R := 1) (iblk m c 4 t) 0) (iblk m c 5 t) (rowOf (R := 1) (iblk m c 6 t) 0) (iblk m c 7 t))
          (rotR (dR (rowOf (R := 512) ((dats m 0 c).after 12 t) a) (rowOf (R := 1) (iblk m c 4 t) 0) (iblk m c 5 t) (rowOf (R := 1) (iblk m c 6 t) 0) (iblk m c 7 t))
            (rowOf (R := 512) (iblk m c 8 t) a) (rowOf (R := 512) (iblk m c 9 t) a)) qS j := by
  rw [out_h, ← hRaw_eq, after0_13]
  unfold outsAt0
  frame_open
  simp (disch := decide) only [View.readAt_eq_ld]
  repeat rw [Memref.IsWhole.read_unread]
  repeat rw [View.ld_unit_lit']
  rw [View.readCov_unit_lit']
  rw [View.read_writes_junk_eq_canon]
  have hD1 := fun (a' : Fin 256) (e : a.val = 0 + a'.val) (j' : Fin 2048) => pay19_apply (hRaw (iblk m c 0 t) (iblk m c 1 t) (iblk m c 2 t) (iblk m c 3 t)) (iblk m c 4 t) (iblk m c 5 t) (iblk m c 6 t) (iblk m c 7 t) a' a (e.trans (Nat.zero_add _)) j'
  have hD2 := fun (a' : Fin 256) (e : a.val = 256 + a'.val) (j' : Fin 2048) => pay49_apply (hRaw (iblk m c 0 t) (iblk m c 1 t) (iblk m c 2 t) (iblk m c 3 t)) (iblk m c 4 t) (iblk m c 5 t) (iblk m c 6 t) (iblk m c 7 t) a' a e j'
  canon_tiles x h
  · exact rope_piece _ _ a j _ hD2 _ _ (by decide) (xori k0_pay15 (constantI S1x128 1 1#1)) 1 mask_hi 384 (by decide) (by decide) rfl (by decide) x h0 h1
  · exact nope_piece _ _ a j _ hD2 _ 896 (by decide) (by decide) rfl (by decide) x h0 h1
  · exact rope_piece _ _ a j _ hD2 _ _ (by decide) k0_pay15 0 mask_lo 384 (by decide) (by decide) rfl (by decide) x h0 h1
  · exact nope_piece _ _ a j _ hD2 _ 768 (by decide) (by decide) rfl (by decide) x h0 h1
  · exact rope_piece _ _ a j _ hD2 _ _ (by decide) (xori k0_pay15 (constantI S1x128 1 1#1)) 1 mask_hi 256 (by decide) (by decide) rfl (by decide) x h0 h1
  · exact nope_piece _ _ a j _ hD2 _ 640 (by decide) (by decide) rfl (by decide) x h0 h1
  · exact rope_piece _ _ a j _ hD2 _ _ (by decide) k0_pay15 0 mask_lo 256 (by decide) (by decide) rfl (by decide) x h0 h1
  · exact nope_piece _ _ a j _ hD2 _ 512 (by decide) (by decide) rfl (by decide) x h0 h1
  · exact rope_piece _ _ a j _ hD2 _ _ (by decide) (xori k0_pay15 (constantI S1x128 1 1#1)) 1 mask_hi 128 (by decide) (by decide) rfl (by decide) x h0 h1
  · exact nope_piece _ _ a j _ hD2 _ 384 (by decide) (by decide) rfl (by decide) x h0 h1
  · exact rope_piece _ _ a j _ hD2 _ _ (by decide) k0_pay15 0 mask_lo 128 (by decide) (by decide) rfl (by decide) x h0 h1
  · exact nope_piece _ _ a j _ hD2 _ 256 (by decide) (by decide) rfl (by decide) x h0 h1
  · exact rope_piece _ _ a j _ hD2 _ _ (by decide) (xori k0_pay15 (constantI S1x128 1 1#1)) 1 mask_hi 0 (by decide) (by decide) rfl (by decide) x h0 h1
  · exact nope_piece _ _ a j _ hD2 _ 128 (by decide) (by decide) rfl (by decide) x h0 h1
  · exact rope_piece _ _ a j _ hD2 _ _ (by decide) k0_pay15 0 mask_lo 0 (by decide) (by decide) rfl (by decide) x h0 h1
  · exact nope_piece _ _ a j _ hD2 _ 0 (by decide) (by decide) rfl (by decide) x h0 (h1.trans (Nat.zero_add _).symm)
  · exact rope_piece _ _ a j _ hD1 _ _ (by decide) (xori k0_pay15 (constantI S1x128 1 1#1)) 1 mask_hi 384 (by decide) (by decide) rfl (by decide) x (h0.trans (Nat.zero_add _).symm) h1
  · exact nope_piece _ _ a j _ hD1 _ 896 (by decide) (by decide) rfl (by decide) x (h0.trans (Nat.zero_add _).symm) h1
  · exact rope_piece _ _ a j _ hD1 _ _ (by decide) k0_pay15 0 mask_lo 384 (by decide) (by decide) rfl (by decide) x (h0.trans (Nat.zero_add _).symm) h1
  · exact nope_piece _ _ a j _ hD1 _ 768 (by decide) (by decide) rfl (by decide) x (h0.trans (Nat.zero_add _).symm) h1
  · exact rope_piece _ _ a j _ hD1 _ _ (by decide) (xori k0_pay15 (constantI S1x128 1 1#1)) 1 mask_hi 256 (by decide) (by decide) rfl (by decide) x (h0.trans (Nat.zero_add _).symm) h1
  · exact nope_piece _ _ a j _ hD1 _ 640 (by decide) (by decide) rfl (by decide) x (h0.trans (Nat.zero_add _).symm) h1
  · exact rope_piece _ _ a j _ hD1 _ _ (by decide) k0_pay15 0 mask_lo 256 (by decide) (by decide) rfl (by decide) x (h0.trans (Nat.zero_add _).symm) h1
  · exact nope_piece _ _ a j _ hD1 _ 512 (by decide) (by decide) rfl (by decide) x (h0.trans (Nat.zero_add _).symm) h1
  · exact rope_piece _ _ a j _ hD1 _ _ (by decide) (xori k0_pay15 (constantI S1x128 1 1#1)) 1 mask_hi 128 (by decide) (by decide) rfl (by decide) x (h0.trans (Nat.zero_add _).symm) h1
  · exact nope_piece _ _ a j _ hD1 _ 384 (by decide) (by decide) rfl (by decide) x (h0.trans (Nat.zero_add _).symm) h1
  · exact rope_piece _ _ a j _ hD1 _ _ (by decide) k0_pay15 0 mask_lo 128 (by decide) (by decide) rfl (by decide) x (h0.trans (Nat.zero_add _).symm) h1
  · exact nope_piece _ _ a j _ hD1 _ 256 (by decide) (by decide) rfl (by decide) x (h0.trans (Nat.zero_add _).symm) h1
  · exact rope_piece _ _ a j _ hD1 _ _ (by decide) (xori k0_pay15 (constantI S1x128 1 1#1)) 1 mask_hi 0 (by decide) (by decide) rfl (by decide) x (h0.trans (Nat.zero_add _).symm) h1
  · exact nope_piece _ _ a j _ hD1 _ 128 (by decide) (by decide) rfl (by decide) x (h0.trans (Nat.zero_add _).symm) h1
  · exact rope_piece _ _ a j _ hD1 _ _ (by decide) k0_pay15 0 mask_lo 0 (by decide) (by decide) rfl (by decide) x (h0.trans (Nat.zero_add _).symm) h1
  · exact nope_piece _ _ a j _ hD1 _ 0 (by decide) (by decide) rfl (by decide) x (h0.trans (Nat.zero_add _).symm) (h1.trans (Nat.zero_add _).symm)
  all_goals decide
end

theorem pay69_apply (w : Vec Ideal S1x16x5632 .f32) (a : Fin 16) (j : Fin 5632) : k0_pay69 w (ValueIdx.ix2 a j) = w (ValueIdx.ix3 0 a j) := by
  unfold k0_pay69
  pointwise
  rfl
theorem pay70_apply (w : Vec Ideal S1x176x1024 .f32) (a : Fin 176) (j : Fin 1024) :
    k0_pay70 w (ValueIdx.ix2 a j) = w (ValueIdx.ix3 0 a j) * Ideal.ofBits .f32 0x3F000000#32 := by
  unfold k0_pay70
  pointwise
  rfl

end Cert.Trunk.Q

end
-- ==== Proof.Trunk.QHost.lean ====
/- The arrays the host prepares for the call `ffn_q`, read at an index. -/
module

public import proofs.«01_k».proof.Proof.Trunk.Rope
public import proofs.«01_k».proof.Proof.Gen.Kernel5Ideal.Value
public import Idealize.ShloMosaic.Lib.Claim
public import Idealize.ShloMosaic.Lib.StableHlo.RunRead
public import Idealize.ShloMosaic.Lib.Pipeline.ValueKit

@[expose] public section

set_option maxRecDepth 16384

noncomputable section

namespace Cert.Trunk.Q

open Idealize.ShloMosaic Cert.Kernel5Ideal Cert.Kernel5Ideal.Gen

/-- The order of the lanes that are rotated against. -/
def hOrd : IVec S64x1 32 :=
  broadcastInDim S64x1 ![0] bcast_S64_S64x1_0
    (select (constantI S64 1 0#1) (addi (fun i => lit0 (S64.rowMajor i)) (broadcastInDim S64 ![] bcast_S_S64 (constantI S_ 32 64#32))) (fun i => lit0 (S64.rowMajor i)))

theorem rm64 (r : Fin 64) : (S64.rowMajor (ix1 r)).val = r.val := by
  revert r
  decide +kernel

theorem hOrd_apply (r : Fin 64) : hOrd (ValueIdx.ix2 r 0) = lit0 r := by
  unfold hOrd
  pointwise
  exact congrArg lit0 (Fin.ext (rm64 r))

theorem ordNat (r : Fin 64) : (lit0 r).toInt.toNat = (r.val + 32) % 64 := by
  revert r
  decide +kernel

/-- The expansion's columns by heads, their position-free part and their rotary part. -/
def hNo (w : FVec Ideal S768x1536 .f32) : FVec Ideal S768x8x128 .f32 :=
  extractStridedSlice S768x8x128 ![0, 0, 0] (shapeCast S768x8x192 w shapeCasts_S768x1536_S768x8x192) slices_S768x8x192_S768x8x128_0_0_0
def hRo (w : FVec Ideal S768x1536 .f32) : FVec Ideal S768x8x64 .f32 :=
  extractStridedSlice S768x8x64 ![0, 0, 128] (shapeCast S768x8x192 w shapeCasts_S768x1536_S768x8x192) slices_S768x8x192_S768x8x64_0_0_128

/-- The rotary columns in the rotated order. -/
def hSwap (x : FVec Ideal S768x8x64 .f32) : FVec Ideal S768x8x64 .f32 := Host.gather gather_S768x8x64_S64x1_S768x8x64_01_2_n_n_2_1_76881 x hOrd

theorem hSwap_apply (x : FVec Ideal S768x8x64 .f32) (k : Fin 768) (h : Fin 8) (r : Fin 64) : hSwap x (ValueIdx.ix3 k h r) = x (ValueIdx.ix3 k h (swp r)) := by
  refine congrArg x (funext fun a => Fin.ext ?_)
  match a with
  | ⟨0, _⟩ => show 0 + 0 + k.val = k.val; omega
  | ⟨1, _⟩ => show 0 + 0 + h.val = h.val; omega
  | ⟨2, _⟩ =>
    show min (hOrd (ValueIdx.ix2 r 0)).toInt.toNat (64 - 1) + 0 + 0 = (r.val + 32) % 64
    rw [hOrd_apply, ordNat]
    omega

theorem hNo_apply (w : FVec Ideal S768x1536 .f32) (k : Fin 768) (h : Fin 8) (l : Fin 128) :
    hNo w (ValueIdx.ix3 k h l) = w (ValueIdx.ix2 k ⟨h.val * 192 + l.val, by omega⟩) := by
  unfold hNo
  pointwise
  rfl
theorem hRo_apply (w : FVec Ideal S768x1536 .f32) (k : Fin 768) (h : Fin 8) (l : Fin 64) :
    hRo w (ValueIdx.ix3 k h l) = w (ValueIdx.ix2 k ⟨h.val * 192 + (128 + l.val), by omega⟩) := by
  unfold hRo
  pointwise
  rfl

/-- The expansion's weights: position-free columns, rotary columns, rotary columns in the rotated order. -/
def hThree (a : FVec Ideal S768x1024 .f32) (b d : FVec Ideal S768x512 .f32) : FVec Ideal S768x2048 .f32 :=
  concatenate S768x2048 1 [⟨S768x1024, a⟩, ⟨S768x512, b⟩, ⟨S768x512, d⟩] concatenates_S768x1024_S768x512_S768x512_S768x2048_d1
def hUq (w : FVec Ideal S768x1536 .f32) : FVec Ideal S768x2048 .f32 :=
  hThree (shapeCast S768x1024 (hNo w) shapeCasts_S768x8x128_S768x1024) (shapeCast S768x512 (hRo w) shapeCasts_S768x8x64_S768x512)
    (shapeCast S768x512 (hSwap (hRo w)) shapeCasts_S768x8x64_S768x512)

theorem hThree_lo (a : FVec Ideal S768x1024 .f32) (b d : FVec Ideal S768x512 .f32) (k : Fin 768) (l : Fin 1024) :
    hThree a b d (ValueIdx.ix2 k ⟨l.val, by omega⟩) = a (ValueIdx.ix2 k l) := by
  unfold hThree
  pointwise
  rfl
theorem hThree_mid (a : FVec Ideal S768x1024 .f32) (b d : FVec Ideal S768x512 .f32) (k : Fin 768) (l : Fin 512) :
    hThree a b d (ValueIdx.ix2 k ⟨1024 + l.val, by omega⟩) = b (ValueIdx.ix2 k l) := by
  unfold hThree
  pointwise
  rfl
theorem hThree_hi (a : FVec Ideal S768x1024 .f32) (b d : FVec Ideal S768x512 .f32) (k : Fin 768) (l : Fin 512) :
    hThree a b d (ValueIdx.ix2 k ⟨1536 + l.val, by omega⟩) = d (ValueIdx.ix2 k l) := by
  unfold hThree
  pointwise
  rw [dif_neg (by omega), dif_neg (by omega)]
  exact congrArg (fun i => d (ValueIdx.ix2 k i)) (Fin.ext (by show 1536 + l.val - 1024 - 512 = l.val; omega))

theorem flat64 (x : FVec Ideal S768x8x64 .f32) (k : Fin 768) (h : Fin 8) (r : Fin 64) :
    shapeCast S768x512 x shapeCasts_S768x8x64_S768x512 (ValueIdx.ix2 k ⟨64 * h.val + r.val, by omega⟩) = x (ValueIdx.ix3 k h r) := by
  have e : ∀ l : Fin 512, shapeCast S768x512 x shapeCasts_S768x8x64_S768x512 (ValueIdx.ix2 k l) = x (ValueIdx.ix3 k ⟨l.val / 64, by omega⟩ ⟨l.val % 64, by omega⟩) := by
    intro l
    pointwise
    rfl
  rw [e]
  congr 2
  · exact Fin.ext (by show (64 * h.val + r.val) / 64 = h.val; omega)
  · exact Fin.ext (by show (64 * h.val + r.val) % 64 = r.val; omega)
theorem flat128 (x : FVec Ideal S768x8x128 .f32) (k : Fin 768) (h : Fin 8) (r : Fin 128) :
    shapeCast S768x1024 x shapeCasts_S768x8x128_S768x1024 (ValueIdx.ix2 k ⟨128 * h.val + r.val, by omega⟩) = x (ValueIdx.ix3 k h r) := by
  have e : ∀ l : Fin 1024, shapeCast S768x1024 x shapeCasts_S768x8x128_S768x1024 (ValueIdx.ix2 k l) = x (ValueIdx.ix3 k ⟨l.val / 128, by omega⟩ ⟨l.val % 128, by omega⟩) := by
    intro l
    pointwise
    rfl
  rw [e]
  congr 2
  · exact Fin.ext (by show (128 * h.val + r.val) / 128 = h.val; omega)
  · exact Fin.ext (by show (128 * h.val + r.val) % 128 = r.val; omega)

/-- The columns of the prepared weights. -/
theorem hUq_no (w : FVec Ideal S768x1536 .f32) (k : Fin 768) (h : Fin 8) (l : Fin 128) :
    hUq w (ValueIdx.ix2 k ⟨128 * h.val + l.val, by omega⟩) = w (ValueIdx.ix2 k ⟨h.val * 192 + l.val, by omega⟩) :=
  (hThree_lo _ _ _ k ⟨128 * h.val + l.val, by omega⟩).trans ((flat128 _ k h l).trans (hNo_apply w k h l))
theorem hUq_ro (w : FVec Ideal S768x1536 .f32) (k : Fin 768) (h : Fin 8) (r : Fin 64) :
    hUq w (ValueIdx.ix2 k ⟨1024 + (64 * h.val + r.val), by omega⟩) = w (ValueIdx.ix2 k ⟨h.val * 192 + (128 + r.val), by omega⟩) :=
  (hThree_mid _ _ _ k ⟨64 * h.val + r.val, by omega⟩).trans ((flat64 _ k h r).trans (hRo_apply w k h r))
theorem hUq_sw (w : FVec Ideal S768x1536 .f32) (k : Fin 768) (h : Fin 8) (r : Fin 64) :
    hUq w (ValueIdx.ix2 k ⟨1536 + (64 * h.val + r.val), by omega⟩) = w (ValueIdx.ix2 k ⟨h.val * 192 + (128 + (swp r).val), by omega⟩) :=
  (hThree_hi _ _ _ k ⟨64 * h.val + r.val, by omega⟩).trans ((flat64 _ k h r).trans ((hSwap_apply _ k h r).trans (hRo_apply w k h (swp r))))

/-- A table of two halves. -/
def hTwo (x y : FVec Ideal S2048x32 .f32) : FVec Ideal S2048x64 .f32 :=
  concatenate S2048x64 1 [⟨S2048x32, x⟩, ⟨S2048x32, y⟩] concatenates_S2048x32_S2048x32_S2048x64_d1

/-- That table for every head. -/
def hTile (t : FVec Ideal S2048x64 .f32) : FVec Ideal S2048x512 .f32 :=
  shapeCast S2048x512 (broadcastInDim S1x2048x8x64 ![0, 1, 2, 3] bcast_S1x2048x1x64_S1x2048x8x64_0_1_2_3 (shapeCast S1x2048x1x64 t shapeCasts_S2048x64_S1x2048x1x64)) shapeCasts_S1x2048x8x64_S2048x512

theorem hTile_apply (t : FVec Ideal S2048x64 .f32) (s : Fin 2048) (l : Fin 512) : hTile t (ValueIdx.ix2 s l) = t (ValueIdx.ix2 s ⟨l.val % 64, by omega⟩) := by
  unfold hTile
  pointwise
  rfl

theorem hCos_apply (t : FVec Ideal S2048x32 .f32) (s : Fin 2048) (r : Fin 64) : hTwo t t (ValueIdx.ix2 s r) = cos64 (rowOf (R := 2048) t s) r := by
  unfold hTwo
  pointwise
  rfl
theorem hSin_apply (t : FVec Ideal S2048x32 .f32) (s : Fin 2048) (r : Fin 64) :
    hTwo (Host.negf t) t (ValueIdx.ix2 s r) = sin64 (rowOf (R := 2048) t s) r := by
  unfold hTwo
  pointwise
  rfl

section
variable (m : (ℓ : Loc nD τ sig) → Buf (Elt Ideal) ℓ) (c : Dev nD)

/-- The arrays that the host prepares. -/
theorem V0 : V m c main_v16 = shapeCast S32768x1024 (m ((c.tc : Thread nD τ).loc main_arg0) : FVec Ideal S16x2048x1024 .f32) shapeCasts_S16x2048x1024_S32768x1024 := by
  entry_read
  rfl
theorem V1 : V m c main_v17 = shapeCast S1x1024 (m ((c.tc : Thread nD τ).loc main_arg1) : FVec Ideal S1024 .f32) shapeCasts_S1024_S1x1024 := by
  entry_read
  rfl
theorem V2 : V m c main_v18 = (m ((c.tc : Thread nD τ).loc main_arg2) : S1024x5632.Idx → EReal) := by
  entry_read
  rfl
theorem V3 : V m c main_v21 = halved (m ((c.tc : Thread nD τ).loc main_arg3)) := by
  entry_read
  rfl
theorem V4 : V m c main_v22 = shapeCast S1x1024 (m ((c.tc : Thread nD τ).loc main_arg4) : FVec Ideal S1024 .f32) shapeCasts_S1024_S1x1024 := by
  entry_read
  rfl
theorem V5 : V m c main_v23 = (m ((c.tc : Thread nD τ).loc main_arg5) : S1024x768.Idx → EReal) := by
  entry_read
  rfl
theorem V6 : V m c main_v24 = shapeCast S1x768 (m ((c.tc : Thread nD τ).loc main_arg6) : FVec Ideal S768 .f32) shapeCasts_S768_S1x768 := by
  entry_read
  rfl
theorem V7 : V m c main_v15 = hUq (m ((c.tc : Thread nD τ).loc main_arg7)) := by
  unfold_abbrev_sides
  after_reads_simp
  show hThree (StableHlo.upto hostOps0 (fun b => m (c, b)) 17 (Proc.tc.devRef main_v6)) (StableHlo.upto hostOps0 (fun b => m (c, b)) 17 (Proc.tc.devRef main_v7))
    (StableHlo.upto hostOps0 (fun b => m (c, b)) 17 (Proc.tc.devRef main_v13)) = _
  after_reads_simp
  rfl
theorem V8 : V m c main_v27 = hTile (hTwo (m ((c.tc : Thread nD τ).loc main_arg8)) (m ((c.tc : Thread nD τ).loc main_arg8))) := by
  entry_read
  rfl
theorem V9 : V m c main_v30 = hTile (hTwo (Host.negf (m ((c.tc : Thread nD τ).loc main_arg9) : FVec Ideal S2048x32 .f32)) (m ((c.tc : Thread nD τ).loc main_arg9))) := by
  entry_read
  rfl
end

end Cert.Trunk.Q

end
-- ==== Proof.Trunk.QRef.lean ====
/- The reference of the call `ffn_q`, read at an index. -/
module

public import proofs.«01_k».proof.Proof.Trunk.Ref
public import proofs.«01_k».proof.Proof.Trunk.Rope
public import proofs.«01_k».proof.Proof.Mla.RefRead
public import proofs.«01_k».proof.Proof.Gen.Reference5Ideal.Run

@[expose] public section

set_option maxRecDepth 16384

noncomputable section

namespace Cert.Trunk.Q

open Idealize.ShloMosaic Cert.Reference5Ideal Cert.Reference5Ideal.Gen

/-- The new residual stream. -/
def rH (x : FVec Ideal S16x2048x1024 .f32) (g : FVec Ideal S1024 .f32) (win : FVec Ideal S1024x5632 .f32) (wout : FVec Ideal S2816x1024 .f32) : FVec Ideal S16x2048x1024 .f32 :=
  rStep x (rNorm x g) win wout

/-- The latent queries. -/
def rDq (h : FVec Ideal S16x2048x1024 .f32) (g : FVec Ideal S1024 .f32) (w : FVec Ideal S1024x768 .f32) : FVec Ideal S16x2048x768 .f32 :=
  Host.dotGeneral dot_S16x2048x1024_S1024x768_S16x2048x768_2_0_01_1_n_n none (rNorm h g) w

/-- Those normalized. -/
def rLat (x : FVec Ideal S16x2048x768 .f32) (g : FVec Ideal S768 .f32) : FVec Ideal S16x2048x768 .f32 :=
  mulf (mulf x (broadcastInDim S16x2048x768 ![0, 1, 2] bcast_S16x2048x1_S16x2048x768_0_1_2 (Host.rsqrt (addf (Host.divf (broadcastInDim S16x2048x1 ![0, 1] bcast_S16x2048_S16x2048x1_0_1
    (Host.reduceAdd (mulf x x) (constant S_ .f32 0x00000000#32) reducesTo_S16x2048x768_S16x2048_d2 h_S_)) (broadcastInDim S16x2048x1 ![] bcast_S_S16x2048x1 (constant S_ .f32 0x44400000#32)))
    (broadcastInDim S16x2048x1 ![] bcast_S_S16x2048x1 (constant S_ .f32 0x358637BD#32)))))) (broadcastInDim S16x2048x768 ![0, 1, 2] bcast_S1x1x768_S16x2048x768_0_1_2
    (broadcastInDim S1x1x768 ![2] bcast_S768_S1x1x768_2 g))

/-- The queries of the heads. -/
def rUq (c : FVec Ideal S16x2048x768 .f32) (w : FVec Ideal S768x1536 .f32) : FVec Ideal S16x2048x8x192 .f32 :=
  shapeCast _ (Host.dotGeneral dot_S16x2048x768_S768x1536_S16x2048x1536_2_0_01_1_n_n none c w) shapeCasts_S16x2048x1536_S16x2048x8x192

/-- The two halves of their rotary lanes. -/
def rX1 (u : FVec Ideal S16x2048x8x192 .f32) : FVec Ideal S16x2048x8x32 .f32 :=
  extractStridedSlice S16x2048x8x32 ![0, 0, 0, 0] (extractStridedSlice S16x2048x8x64 ![0, 0, 0, 128] u slices_S16x2048x8x192_S16x2048x8x64_0_0_0_128) slices_S16x2048x8x64_S16x2048x8x32_0_0_0_0
def rX2 (u : FVec Ideal S16x2048x8x192 .f32) : FVec Ideal S16x2048x8x32 .f32 :=
  extractStridedSlice S16x2048x8x32 ![0, 0, 0, 32] (extractStridedSlice S16x2048x8x64 ![0, 0, 0, 128] u slices_S16x2048x8x192_S16x2048x8x64_0_0_0_128) slices_S16x2048x8x64_S16x2048x8x32_0_0_0_32

/-- A table for every batch and head. -/
def rTab (t : FVec Ideal S2048x32 .f32) : FVec Ideal S16x2048x8x32 .f32 :=
  broadcastInDim S16x2048x8x32 ![0, 1, 2, 3] bcast_S1x2048x1x32_S16x2048x8x32_0_1_2_3 (broadcastInDim S1x2048x1x32 ![1, 2, 3] bcast_S2048x1x32_S1x2048x1x32_1_2_3
    (broadcastInDim S2048x1x32 ![0, 2] bcast_S2048x32_S2048x1x32_0_2 t))

/-- The rotary lanes, rotated. -/
def rRope (u : FVec Ideal S16x2048x8x192 .f32) (c s : FVec Ideal S2048x32 .f32) : FVec Ideal S16x2048x8x64 .f32 :=
  concatenate S16x2048x8x64 3 [⟨S16x2048x8x32, subf (mulf (rX1 u) (rTab c)) (mulf (rX2 u) (rTab s))⟩, ⟨S16x2048x8x32, addf (mulf (rX2 u) (rTab c)) (mulf (rX1 u) (rTab s))⟩]
    concatenates_S16x2048x8x32_S16x2048x8x32_S16x2048x8x64_d3

/-- The heads in pairs. -/
def rPair (k : FVec Ideal S16x2048x8x64 .f32) : FVec Ideal S16x2048x4x2x64 .f32 := shapeCast _ k shapeCasts_S16x2048x8x64_S16x2048x4x2x64
def rNone : FVec Ideal S16x2048x4x1x64 .f32 := broadcastInDim S16x2048x4x1x64 ![] bcast_S_S16x2048x4x1x64 (constant S_ .f32 0x00000000#32)

/-- A pair's first head in the first half of the lanes, its second head in the second half. -/
def rEven (p : FVec Ideal S16x2048x4x2x64 .f32) : FVec Ideal S16x2048x4x1x128 .f32 :=
  concatenate S16x2048x4x1x128 4 [⟨S16x2048x4x1x64, extractStridedSlice S16x2048x4x1x64 ![0, 0, 0, 0, 0] p slices_S16x2048x4x2x64_S16x2048x4x1x64_0_0_0_0_0⟩, ⟨S16x2048x4x1x64, rNone⟩]
    concatenates_S16x2048x4x1x64_S16x2048x4x1x64_S16x2048x4x1x128_d4
def rOdd (p : FVec Ideal S16x2048x4x2x64 .f32) : FVec Ideal S16x2048x4x1x128 .f32 :=
  concatenate S16x2048x4x1x128 4 [⟨S16x2048x4x1x64, rNone⟩, ⟨S16x2048x4x1x64, extractStridedSlice S16x2048x4x1x64 ![0, 0, 0, 1, 0] p slices_S16x2048x4x2x64_S16x2048x4x1x64_0_0_0_1_0⟩]
    concatenates_S16x2048x4x1x64_S16x2048x4x1x64_S16x2048x4x1x128_d4

/-- The heads' rotary lanes, packed. -/
def rPack (p : FVec Ideal S16x2048x4x2x64 .f32) : FVec Ideal S16x2048x8x128 .f32 :=
  shapeCast _ (concatenate S16x2048x4x2x128 3 [⟨S16x2048x4x1x128, rEven p⟩, ⟨S16x2048x4x1x128, rOdd p⟩] concatenates_S16x2048x4x1x128_S16x2048x4x1x128_S16x2048x4x2x128_d3)
    shapeCasts_S16x2048x4x2x128_S16x2048x8x128

/-- The queries as they are handed on. -/
def rQ (u : FVec Ideal S16x2048x8x192 .f32) (k : FVec Ideal S16x2048x8x128 .f32) : FVec Ideal S32768x2048 .bf16 :=
  truncf .bf16 (shapeCast _ (Host.divf (Host.divf
      (concatenate S16x2048x8x256 3 [⟨S16x2048x8x128, extractStridedSlice S16x2048x8x128 ![0, 0, 0, 0] u slices_S16x2048x8x192_S16x2048x8x128_0_0_0_0⟩, ⟨S16x2048x8x128, k⟩]
        concatenates_S16x2048x8x128_S16x2048x8x128_S16x2048x8x256_d3)
      (broadcastInDim S16x2048x8x256 ![] bcast_S_S16x2048x8x256 (Host.sqrt (constant S_ .f32 0x43400000#32))))
      (broadcastInDim S16x2048x8x256 ![] bcast_S_S16x2048x8x256 (Host.log (constant S_ .f32 0x40000000#32)))) shapeCasts_S16x2048x8x256_S32768x2048) bitsLt_bf16_f32

/-- The first weights of the next layer. -/
def rWin (w : FVec Ideal S2x1024x5632 .f32) : FVec Ideal S1024x5632 .bf16 :=
  truncf .bf16 (shapeCast _ (extractStridedSlice S1x1024x5632 ![1, 0, 0] w slices_S2x1024x5632_S1x1024x5632_1_0_0) shapeCasts_S1x1024x5632_S1024x5632) bitsLt_bf16_f32

/-- Half of its last weights. -/
def rWout (w : FVec Ideal S2x2816x1024 .f32) : FVec Ideal S2816x1024 .bf16 :=
  truncf .bf16 (mulf (broadcastInDim S2816x1024 ![] bcast_S_S2816x1024 (constant S_ .f32 0x3F000000#32)) (shapeCast _ (extractStridedSlice S1x2816x1024 ![1, 0, 0] w slices_S2x2816x1024_S1x2816x1024_1_0_0) shapeCasts_S1x2816x1024_S2816x1024)) bitsLt_bf16_f32

/-- The residual stream as an array of tokens. -/
def rTok (h : FVec Ideal S16x2048x1024 .f32) : FVec Ideal S32768x1024 .f32 := shapeCast _ h shapeCasts_S16x2048x1024_S32768x1024

theorem rTok_apply (h : FVec Ideal S16x2048x1024 .f32) (T : Fin 32768) (j : Fin 1024) : rTok h (ValueIdx.ix2 T j) = rowAt h (tb T) (ts T) j := by
  unfold rTok
  pointwise
  rfl

theorem rH_row (x : FVec Ideal S16x2048x1024 .f32) (g : FVec Ideal S1024 .f32) (win : FVec Ideal S1024x5632 .f32) (wout : FVec Ideal S2816x1024 .f32) (b : Fin 16) (s : Fin 2048) :
    rowAt (rH x g win wout) b s = stepR (rowAt x b s) (normR 0x44800000#32 (rowAt x b s) (vecR g)) win wout := by
  unfold rH
  rw [rStep_row, rNorm_row]

theorem rDq_row (h : FVec Ideal S16x2048x1024 .f32) (g : FVec Ideal S1024 .f32) (w : FVec Ideal S1024x768 .f32) (b : Fin 16) (s : Fin 2048) :
    rowAt (rDq h g w) b s = fun k => dotR (normR 0x44800000#32 (rowAt h b s) (vecR g)) w k := by
  funext j
  rw [← rNorm_row]
  unfold rDq
  generalize rNorm h g = v
  show _ = _
  unfold rowAt
  pointwise
  rfl

theorem rLat_row (x : FVec Ideal S16x2048x768 .f32) (g : FVec Ideal S768 .f32) (b : Fin 16) (s : Fin 2048) :
    rowAt (rLat x g) b s = normR 0x44400000#32 (rowAt x b s) (vecR g) := by
  funext j
  unfold rLat
  show _ = _
  unfold rowAt
  pointwise
  rfl

theorem rUq_apply (c : FVec Ideal S16x2048x768 .f32) (w : FVec Ideal S768x1536 .f32) (b : Fin 16) (s : Fin 2048) (h : Fin 8) (e : Fin 192) :
    rUq c w (ValueIdx.ix4 b s h e) = dotR (rowAt c b s) w ⟨h.val * 192 + e.val, by omega⟩ := by
  unfold rUq
  pointwise
  rfl

theorem rX1_apply (u : FVec Ideal S16x2048x8x192 .f32) (b : Fin 16) (s : Fin 2048) (h : Fin 8) (r : Fin 32) :
    rX1 u (ValueIdx.ix4 b s h r) = u (ValueIdx.ix4 b s h ⟨128 + r.val, by omega⟩) := by
  unfold rX1
  pointwise
  rfl
theorem rX2_apply (u : FVec Ideal S16x2048x8x192 .f32) (b : Fin 16) (s : Fin 2048) (h : Fin 8) (r : Fin 32) :
    rX2 u (ValueIdx.ix4 b s h r) = u (ValueIdx.ix4 b s h ⟨128 + (32 + r.val), by omega⟩) := by
  unfold rX2
  pointwise
  rfl
theorem rTab_apply (t : FVec Ideal S2048x32 .f32) (b : Fin 16) (s : Fin 2048) (h : Fin 8) (r : Fin 32) : rTab t (ValueIdx.ix4 b s h r) = rowOf (R := 2048) t s r := by
  unfold rTab
  pointwise
  rfl

/-- The rotary lanes of a head before they are rotated. -/
def qR (u : FVec Ideal S16x2048x8x192 .f32) (b : Fin 16) (s : Fin 2048) (h : Fin 8) (r : Fin 64) : EReal := u (ValueIdx.ix4 b s h ⟨128 + r.val, by omega⟩)

theorem rRope_apply (u : FVec Ideal S16x2048x8x192 .f32) (c sn : FVec Ideal S2048x32 .f32) (b : Fin 16) (s : Fin 2048) (h : Fin 8) (r : Fin 64) :
    rRope u c sn (ValueIdx.ix4 b s h r) = ropeR (qR u b s h) (rowOf (R := 2048) c s) (rowOf (R := 2048) sn s) r := by
  have e : rRope u c sn (ValueIdx.ix4 b s h r)
      = if hr : r.val < 32 then rX1 u (ValueIdx.ix4 b s h ⟨r.val, hr⟩) * rTab c (ValueIdx.ix4 b s h ⟨r.val, hr⟩) - rX2 u (ValueIdx.ix4 b s h ⟨r.val, hr⟩) * rTab sn (ValueIdx.ix4 b s h ⟨r.val, hr⟩)
        else rX2 u (ValueIdx.ix4 b s h ⟨r.val - 32, by omega⟩) * rTab c (ValueIdx.ix4 b s h ⟨r.val - 32, by omega⟩)
          + rX1 u (ValueIdx.ix4 b s h ⟨r.val - 32, by omega⟩) * rTab sn (ValueIdx.ix4 b s h ⟨r.val - 32, by omega⟩) := by
    unfold rRope
    generalize rX1 u = x1
    generalize rX2 u = x2
    generalize rTab c = t1
    generalize rTab sn = t2
    pointwise
    rfl
  rw [e]
  unfold ropeR
  by_cases hr : r.val < 32
  · rw [dif_pos hr, dif_pos hr, rX1_apply, rX2_apply, rTab_apply, rTab_apply]
    rfl
  · rw [dif_neg hr, dif_neg hr, rX1_apply, rX2_apply, rTab_apply, rTab_apply]
    have hx : u (ValueIdx.ix4 b s h ⟨128 + (32 + (r.val - 32)), by omega⟩) = qR u b s h r :=
      congrArg (fun n => u (ValueIdx.ix4 b s h n)) (Fin.ext (by show 128 + (32 + (r.val - 32)) = 128 + r.val; omega))
    rw [hx]
    rfl

theorem rPair_apply (k : FVec Ideal S16x2048x8x64 .f32) (b : Fin 16) (s : Fin 2048) (p : Fin 4) (o : Fin 2) (r : Fin 64) :
    rPair k (ValueIdx.ix5 b s p o r) = k (ValueIdx.ix4 b s ⟨p.val * 2 + o.val, by omega⟩ r) := by
  unfold rPair
  pointwise
  rfl

theorem rEven_apply (p : FVec Ideal S16x2048x4x2x64 .f32) (b : Fin 16) (s : Fin 2048) (h : Fin 4) (l : Fin 128) :
    rEven p (ValueIdx.ix5 b s h 0 l) = if hl : l.val < 64 then p (ValueIdx.ix5 b s h 0 ⟨l.val, hl⟩) else Ideal.ofBits .f32 0x00000000#32 := by
  unfold rEven rNone
  pointwise
  rfl
theorem rOdd_apply (p : FVec Ideal S16x2048x4x2x64 .f32) (b : Fin 16) (s : Fin 2048) (h : Fin 4) (l : Fin 128) :
    rOdd p (ValueIdx.ix5 b s h 0 l) = if hl : l.val < 64 then Ideal.ofBits .f32 0x00000000#32 else p (ValueIdx.ix5 b s h 1 ⟨l.val - 64, by omega⟩) := by
  unfold rOdd rNone
  pointwise
  rfl

theorem rPack_apply (k : FVec Ideal S16x2048x8x64 .f32) (b : Fin 16) (s : Fin 2048) (h : Fin 8) (l : Fin 128) :
    rPack (rPair k) (ValueIdx.ix4 b s h l) = if l.val / 64 = h.val % 2 then k (ValueIdx.ix4 b s h ⟨l.val % 64, by omega⟩) else Ideal.ofBits .f32 0x00000000#32 := by
  have e : rPack (rPair k) (ValueIdx.ix4 b s h l)
      = if ho : h.val % 2 < 1 then rEven (rPair k) (ValueIdx.ix5 b s ⟨h.val / 2, by omega⟩ ⟨h.val % 2, ho⟩ l)
        else rOdd (rPair k) (ValueIdx.ix5 b s ⟨h.val / 2, by omega⟩ ⟨h.val % 2 - 1, by omega⟩ l) := by
    unfold rPack
    generalize rEven (rPair k) = x
    generalize rOdd (rPair k) = y
    pointwise
    rfl
  have hl := l.isLt
  rw [e]
  by_cases ho : h.val % 2 < 1
  · rw [dif_pos ho]
    refine (congrArg (fun o => rEven (rPair k) (ValueIdx.ix5 b s ⟨h.val / 2, by omega⟩ o l)) (Subsingleton.elim _ (0 : Fin 1))).trans ?_
    rw [rEven_apply]
    by_cases h64 : l.val < 64
    · rw [dif_pos h64, if_pos (by omega), rPair_apply]
      congr 2
      · exact Fin.ext (by show h.val / 2 * 2 + 0 = h.val; omega)
      · exact Fin.ext (by show l.val = l.val % 64; omega)
    · rw [dif_neg h64, if_neg (by omega)]
  · rw [dif_neg ho]
    refine (congrArg (fun o => rOdd (rPair k) (ValueIdx.ix5 b s ⟨h.val / 2, by omega⟩ o l)) (Subsingleton.elim _ (0 : Fin 1))).trans ?_
    rw [rOdd_apply]
    by_cases h64 : l.val < 64
    · rw [dif_pos h64, if_neg (by omega)]
    · rw [dif_neg h64, if_pos (by omega), rPair_apply]
      congr 2
      · exact Fin.ext (by show h.val / 2 * 2 + 1 = h.val; omega)
      · exact Fin.ext (by show l.val - 64 = l.val % 64; omega)

/-- The queries' factor: over the square root of their width and over log 2. -/
theorem scale_eq (x : EReal) : Ideal.div (Ideal.div x (Ideal.sqrt (Ideal.ofBits .f32 0x43400000#32))) (Ideal.log (Ideal.ofBits .f32 0x40000000#32))
    = x * (((√192 * Real.log 2)⁻¹ : ℝ) : EReal) := by
  have e2 : Ideal.ofBits .f32 0x40000000#32 = ((2 : ℝ) : EReal) := by
    simp only [Ideal.ofBits, Ideal.ieee]
    simp
    rw [← EReal.coe_mul]
    norm_num
  have el : Ideal.log ((2 : ℝ) : EReal) = ((Real.log 2 : ℝ) : EReal) := by
    exact if_neg (by norm_num)
  rw [Cert.Mla.sqrtWidth, e2, el, Cert.Mla.div_coe _ (Real.log_pos one_lt_two).ne', Cert.Mla.div_coe _ (by positivity), mul_assoc, ← EReal.coe_mul]
  congr 2
  rw [mul_inv]

theorem rQ_apply (u : FVec Ideal S16x2048x8x192 .f32) (k : FVec Ideal S16x2048x8x64 .f32) (T : Fin 32768) (j : Fin 2048) :
    rQ u (rPack (rPair k)) (ValueIdx.ix2 T j)
      = (if j.val % 256 < 128 then u (ValueIdx.ix4 (tb T) (ts T) ⟨j.val / 256, by omega⟩ ⟨j.val % 128, by omega⟩)
          else if j.val % 128 / 64 = j.val / 256 % 2 then k (ValueIdx.ix4 (tb T) (ts T) ⟨j.val / 256, by omega⟩ ⟨j.val % 64, by omega⟩) else Ideal.ofBits .f32 0x00000000#32)
        * (((√192 * Real.log 2)⁻¹ : ℝ) : EReal) := by
  have e : rQ u (rPack (rPair k)) (ValueIdx.ix2 T j)
      = (if hj : j.val % 256 < 128 then u (ValueIdx.ix4 (tb T) (ts T) ⟨j.val / 256, by omega⟩ ⟨j.val % 256, by omega⟩)
          else rPack (rPair k) (ValueIdx.ix4 (tb T) (ts T) ⟨j.val / 256, by omega⟩ ⟨j.val % 256 - 128, by omega⟩)) * (((√192 * Real.log 2)⁻¹ : ℝ) : EReal) := by
    rw [← scale_eq]
    unfold rQ
    generalize rPack (rPair k) = z
    pointwise
    rfl
  rw [e]
  refine congrArg (· * _) ?_
  by_cases hj : j.val % 256 < 128
  · rw [dif_pos hj, if_pos hj]
    exact congrArg (fun n => u (ValueIdx.ix4 (tb T) (ts T) ⟨j.val / 256, by omega⟩ n)) (Fin.ext (by show j.val % 256 = j.val % 128; omega))
  · rw [dif_neg hj, if_neg hj, rPack_apply]
    have hc : (j.val % 256 - 128) / 64 = j.val % 128 / 64 := by omega
    have hi : (⟨(j.val % 256 - 128) % 64, by omega⟩ : Fin 64) = ⟨j.val % 64, by omega⟩ := Fin.ext (by show (j.val % 256 - 128) % 64 = j.val % 64; omega)
    show (if (j.val % 256 - 128) / 64 = j.val / 256 % 2 then k (ValueIdx.ix4 (tb T) (ts T) ⟨j.val / 256, _⟩ ⟨(j.val % 256 - 128) % 64, _⟩) else _) = _
    rw [hc, hi]

theorem rWin_apply (w : FVec Ideal S2x1024x5632 .f32) (k : Fin 1024) (j : Fin 5632) : rWin w (ValueIdx.ix2 k j) = w (ValueIdx.ix3 1 k j) := by
  unfold rWin
  pointwise
  rfl
theorem rWout_apply (w : FVec Ideal S2x2816x1024 .f32) (k : Fin 2816) (j : Fin 1024) :
    rWout w (ValueIdx.ix2 k j) = w (ValueIdx.ix3 1 k j) * Ideal.ofBits .f32 0x3F000000#32 := by
  unfold rWout
  pointwise
  exact mul_comm _ _

section
variable (m : (ℓ : Loc nD τ sig) → Buf (Elt Ideal) ℓ) (c : Dev nD)

/-- The residual stream, the latent queries, the queries and their rotary lanes, of the call's arguments. -/
def rH0 : FVec Ideal S16x2048x1024 .f32 :=
  rH (m ((c.tc : Thread nD τ).loc main_arg0)) (m ((c.tc : Thread nD τ).loc main_arg1)) (m ((c.tc : Thread nD τ).loc main_arg2)) (m ((c.tc : Thread nD τ).loc main_arg3))
def rC0 : FVec Ideal S16x2048x768 .f32 := rDq (rH0 m c) (m ((c.tc : Thread nD τ).loc main_arg4)) (m ((c.tc : Thread nD τ).loc main_arg5))
def rU0 : FVec Ideal S16x2048x8x192 .f32 := rUq (rLat (rC0 m c) (m ((c.tc : Thread nD τ).loc main_arg6))) (m ((c.tc : Thread nD τ).loc main_arg7))
def rR0 : FVec Ideal S16x2048x8x64 .f32 := rRope (rU0 m c) (m ((c.tc : Thread nD τ).loc main_arg8)) (m ((c.tc : Thread nD τ).loc main_arg9))

theorem res_h : Value.res_main_v21 (StableHlo.launchContents m c) = rH0 m c := rfl
theorem res_c : Value.res_main_v35 (StableHlo.launchContents m c) = rC0 m c := rfl
theorem res_u : Value.res_main_v50 (StableHlo.launchContents m c) = rU0 m c := rfl
theorem res_r : Value.res_main_v71 (StableHlo.launchContents m c) = rPair (rR0 m c) := rfl
end

end Cert.Trunk.Q

end
-- ==== Proof.Trunk.QResult.lean ====
/- The call `ffn_q`: its result arrays are the reference's, and its claims. -/
module

public import proofs.«01_k».proof.Proof.Trunk.Q
public import proofs.«01_k».proof.Proof.Trunk.QHost
public import proofs.«01_k».proof.Proof.Trunk.QRef
public import proofs.«01_k».proof.Proof.Gen.Kernel5.Frame
public import proofs.«01_k».proof.Defs
public import Idealize.ShloMosaic.Lib.Claim
public import Idealize.ShloMosaic.Lib.StableHlo.RunRead

@[expose] public section

set_option maxRecDepth 16384

noncomputable section

namespace Cert.Trunk.Q

open Idealize.ShloMosaic Idealize.ShloMosaic.TcCoe Cert.Kernel5Ideal Cert.Kernel5Ideal.Gen

section
variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val % 4, 0] := (by decide +kernel : ∀ t : Fin grid0.N, win0_8.index t = ![t.val % 4, 0])
theorem idx9 : ∀ t : Fin cfg0.N, win0_9.index t = ![t.val % 4, 0] := (by decide +kernel : ∀ t : Fin grid0.N, win0_9.index t = ![t.val % 4, 0])
theorem idx10 : ∀ t : Fin cfg0.N, win0_10.index t = ![1, t.val, 0] := (by decide +kernel : ∀ t : Fin grid0.N, win0_10.index t = ![1, t.val, 0])
theorem idx11 : ∀ t : Fin cfg0.N, win0_11.index t = ![1, min t.val 15, 0] := (by decide +kernel : ∀ t : Fin grid0.N, win0_11.index t = ![1, min t.val 15, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![min t.val 15, 0] := (by decide +kernel : ∀ t : Fin grid0.N, win0_15.index t = ![min t.val 15, 0])

/-- What a grid point's blocks read. -/
theorem read0 (X : S32768x1024.Idx → EReal) (t : Fin cfg0.N) (a : Fin 512) (j : Fin 1024) (T : Fin 32768) (hT : T.val = 512 * t.val + a.val) :
    ((cfg0.win 0).blk t).view.read (Elt Ideal) X (ValueIdx.ix2 a j) = X (ValueIdx.ix2 T j) := by
  blk_ext [idx0 t]
  show t.val * 512 + a.val = T.val
  omega
theorem read1 (X : S1x1024.Idx → EReal) (t : Fin cfg0.N) : ((cfg0.win 1).blk t).view.read (Elt Ideal) X = X := by
  funext ix
  rw [eta2 ix]
  blk_ext [idx1 t]
theorem read2 (X : S1024x5632.Idx → EReal) (t : Fin cfg0.N) : ((cfg0.win 2).blk t).view.read (Elt Ideal) X = X := by
  funext ix
  rw [eta2 ix]
  blk_ext [idx2 t]
theorem read3 (X : S2816x1024.Idx → EReal) (t : Fin cfg0.N) : ((cfg0.win 3).blk t).view.read (Elt Ideal) X = X := by
  funext ix
  rw [eta2 ix]
  blk_ext [idx3 t]
theorem read4 (X : S1x1024.Idx → EReal) (t : Fin cfg0.N) : ((cfg0.win 4).blk t).view.read (Elt Ideal) X = X := by
  funext ix
  rw [eta2 ix]
  blk_ext [idx4 t]
theorem read5 (X : S1024x768.Idx → EReal) (t : Fin cfg0.N) : ((cfg0.win 5).blk t).view.read (Elt Ideal) X = X := by
  funext ix
  rw [eta2 ix]
  blk_ext [idx5 t]
theorem read6 (X : S1x768.Idx → EReal) (t : Fin cfg0.N) : ((cfg0.win 6).blk t).view.read (Elt Ideal) X = X := by
  funext ix
  rw [eta2 ix]
  blk_ext [idx6 t]
theorem read7 (X : S768x2048.Idx → EReal) (t : Fin cfg0.N) : ((cfg0.win 7).blk t).view.read (Elt Ideal) X = X := by
  funext ix
  rw [eta2 ix]
  blk_ext [idx7 t]
theorem read8 (X : S2048x512.Idx → EReal) (t : Fin cfg0.N) (a : Fin 512) (l : Fin 512) (s : Fin 2048) (hs : s.val = 512 * (t.val % 4) + a.val) :
    ((cfg0.win 8).blk t).view.read (Elt Ideal) X (ValueIdx.ix2 a l) = X (ValueIdx.ix2 s l) := by
  blk_ext [idx8 t]
  show t.val % 4 * 512 + a.val = s.val
  omega
theorem read9 (X : S2048x512.Idx → EReal) (t : Fin cfg0.N) (a : Fin 512) (l : Fin 512) (s : Fin 2048) (hs : s.val = 512 * (t.val % 4) + a.val) :
    ((cfg0.win 9).blk t).view.read (Elt Ideal) X (ValueIdx.ix2 a l) = X (ValueIdx.ix2 s l) := by
  blk_ext [idx9 t]
  show t.val % 4 * 512 + a.val = s.val
  omega
theorem read10 (X : S2x1024x5632.Idx → EReal) (t : Fin cfg0.N) (a : Fin 16) (j : Fin 5632) (k : Fin 1024) (hk : k.val = 16 * t.val + a.val) :
    ((cfg0.win 10).blk t).view.read (Elt Ideal) X (ValueIdx.ix3 0 a j) = X (ValueIdx.ix3 1 k j) := by
  blk_ext [idx10 t]
  show t.val * 16 + a.val = k.val
  omega
theorem read11 (X : S2x2816x1024.Idx → EReal) (t : Fin cfg0.N) (a : Fin 176) (j : Fin 1024) (k : Fin 2816) (hk : k.val = 176 * min t.val 15 + a.val) :
    ((cfg0.win 11).blk t).view.read (Elt Ideal) X (ValueIdx.ix3 0 a j) = X (ValueIdx.ix3 1 k j) := by
  blk_ext [idx11 t]
  show min t.val 15 * 176 + a.val = k.val
  omega

theorem tok_apply (x : FVec Ideal S16x2048x1024 .f32) (T : Fin 32768) (j : Fin 1024) :
    shapeCast S32768x1024 x shapeCasts_S16x2048x1024_S32768x1024 (ValueIdx.ix2 T j) = rowAt x (tb T) (ts T) j := by
  pointwise
  rfl
theorem row_apply (g : FVec Ideal S1024 .f32) : rowOf (R := 1) (shapeCast S1x1024 g shapeCasts_S1024_S1x1024) 0 = vecR g := by
  funext j
  unfold rowOf
  pointwise
  rfl
theorem row768_apply (g : FVec Ideal S768 .f32) : rowOf (R := 1) (shapeCast S1x768 g shapeCasts_S768_S1x768) 0 = vecR g := by
  funext j
  unfold rowOf
  pointwise
  rfl

/-- The residual stream that the call's arguments give, its latent queries, the queries of the heads and their rotated lanes. -/
def kH : FVec Ideal S16x2048x1024 .f32 :=
  rH (m ((c.tc : Thread nD τ).loc main_arg0)) (m ((c.tc : Thread nD τ).loc main_arg1)) (m ((c.tc : Thread nD τ).loc main_arg2)) (m ((c.tc : Thread nD τ).loc main_arg3))
def kC : FVec Ideal ⟨3, ![16, 2048, 768]⟩ .f32 := rDq (kH m c) (m ((c.tc : Thread nD τ).loc main_arg4)) (m ((c.tc : Thread nD τ).loc main_arg5))
def kU : FVec Ideal ⟨4, ![16, 2048, 8, 192]⟩ .f32 := rUq (rLat (kC m c) (m ((c.tc : Thread nD τ).loc main_arg6))) (m ((c.tc : Thread nD τ).loc main_arg7))
def kRo : FVec Ideal ⟨4, ![16, 2048, 8, 64]⟩ .f32 := rRope (kU m c) (m ((c.tc : Thread nD τ).loc main_arg8)) (m ((c.tc : Thread nD τ).loc main_arg9))

/-- A row of a residual stream's block. -/
theorem h_row (t : Fin cfg0.N) (a : Fin 512) (T : Fin 32768) (hT : T.val = 512 * t.val + a.val) :
    rowOf (R := 512) ((dats m 0 c).after 12 t) a = rowAt (kH m c) (tb T) (ts T) := by
  rw [out_h]
  refine (hB_row _ _ _ _ (m ((c.tc : Thread nD τ).loc main_arg3)) (fun ix => ?_) a).trans ?_
  · exact congrFun ((read3 (V m c main_v21) t).trans (V3 m c)) ix
  · have r0 : rowOf (R := 512) (iblk m c 0 t) a = rowAt (m ((c.tc : Thread nD τ).loc main_arg0)) (tb T) (ts T) :=
      funext fun j => (read0 (V m c main_v16) t a j T hT).trans ((congrFun (V0 m c) _).trans (tok_apply _ T j))
    have r1 : rowOf (R := 1) (iblk m c 1 t) 0 = vecR (m ((c.tc : Thread nD τ).loc main_arg1)) :=
      (congrArg (fun q => rowOf (R := 1) q 0) ((read1 (V m c main_v17) t).trans (V1 m c))).trans (row_apply _)
    have r2 : iblk m c 2 t = m ((c.tc : Thread nD τ).loc main_arg2) := (read2 (V m c main_v18) t).trans (V2 m c)
    rw [r0, r1, r2]
    exact (rH_row _ _ _ _ _ _).symm

/-- The expanded row that a grid point finds. -/
def dB (t : Fin cfg0.N) (a : Fin 512) : Fin 2048 → EReal :=
  dR (rowOf (R := 512) ((dats m 0 c).after 12 t) a) (rowOf (R := 1) (iblk m c 4 t) 0) (iblk m c 5 t) (rowOf (R := 1) (iblk m c 6 t) 0) (iblk m c 7 t)

theorem d_col (t : Fin cfg0.N) (a : Fin 512) (T : Fin 32768) (hT : T.val = 512 * t.val + a.val) (j : Fin 2048) (h : Fin 8) (e : Fin 192)
    (hw : ∀ k : Fin 768, hUq (m ((c.tc : Thread nD τ).loc main_arg7)) (ValueIdx.ix2 k j)
      = (m ((c.tc : Thread nD τ).loc main_arg7) : FVec Ideal S768x1536 .f32) (ValueIdx.ix2 k ⟨h.val * 192 + e.val, by omega⟩)) :
    dB m c t a j = kU m c (ValueIdx.ix4 (tb T) (ts T) h e) := by
  have r4 : rowOf (R := 1) (iblk m c 4 t) 0 = vecR (m ((c.tc : Thread nD τ).loc main_arg4)) :=
    (congrArg (fun q => rowOf (R := 1) q 0) ((read4 (V m c main_v22) t).trans (V4 m c))).trans (row_apply _)
  have r5 : iblk m c 5 t = m ((c.tc : Thread nD τ).loc main_arg5) := (read5 (V m c main_v23) t).trans (V5 m c)
  have r6 : rowOf (R := 1) (iblk m c 6 t) 0 = vecR (m ((c.tc : Thread nD τ).loc main_arg6)) :=
    (congrArg (fun q => rowOf (R := 1) q 0) ((read6 (V m c main_v24) t).trans (V6 m c))).trans (row768_apply _)
  have r7 : iblk m c 7 t = hUq (m ((c.tc : Thread nD τ).loc main_arg7)) := (read7 (V m c main_v15) t).trans (V7 m c)
  have el : cqR (rowAt (kH m c) (tb T) (ts T)) (vecR (m ((c.tc : Thread nD τ).loc main_arg4))) (m ((c.tc : Thread nD τ).loc main_arg5)) (vecR (m ((c.tc : Thread nD τ).loc main_arg6)))
      = rowAt (rLat (kC m c) (m ((c.tc : Thread nD τ).loc main_arg6))) (tb T) (ts T) := by
    rw [rLat_row]
    unfold kC
    rw [rDq_row]
    rfl
  unfold dB dR
  rw [h_row m c t a T hT, r4, r5, r6, r7, el]
  exact (dotR_congr (fun _ => rfl) hw).trans (rUq_apply _ _ _ _ h e).symm

theorem d_no (t : Fin cfg0.N) (a : Fin 512) (T : Fin 32768) (hT : T.val = 512 * t.val + a.val) (h : Fin 8) (l : Fin 128) :
    dB m c t a ⟨128 * h.val + l.val, by omega⟩ = kU m c (ValueIdx.ix4 (tb T) (ts T) h ⟨l.val, by omega⟩) :=
  d_col m c t a T hT _ h ⟨l.val, by omega⟩ fun k => hUq_no _ k h l

theorem d_ro (t : Fin cfg0.N) (a : Fin 512) (T : Fin 32768) (hT : T.val = 512 * t.val + a.val) (h : Fin 8) (r : Fin 64) :
    dB m c t a ⟨1024 + (64 * h.val + r.val), by omega⟩ = qR (kU m c) (tb T) (ts T) h r :=
  d_col m c t a T hT _ h ⟨128 + r.val, by omega⟩ fun k => hUq_ro _ k h r

theorem d_sw (t : Fin cfg0.N) (a : Fin 512) (T : Fin 32768) (hT : T.val = 512 * t.val + a.val) (h : Fin 8) (r : Fin 64) :
    dB m c t a ⟨1536 + (64 * h.val + r.val), by omega⟩ = qR (kU m c) (tb T) (ts T) h (swp r) :=
  d_col m c t a T hT _ h ⟨128 + (swp r).val, by have := (swp r).isLt; omega⟩ fun k => hUq_sw _ k h r

/-- The rotated lanes that a grid point finds. -/
theorem rot_eq (t : Fin cfg0.N) (a : Fin 512) (T : Fin 32768) (hT : T.val = 512 * t.val + a.val) (h : Fin 8) (r : Fin 64) :
    rotR (dB m c t a) (rowOf (R := 512) (iblk m c 8 t) a) (rowOf (R := 512) (iblk m c 9 t) a) ⟨64 * h.val + r.val, by omega⟩
      = kRo m c (ValueIdx.ix4 (tb T) (ts T) h r) := by
  have hs : (ts T).val = 512 * (t.val % 4) + a.val := by
    show T.val % 2048 = _
    omega
  have hm : (⟨(64 * h.val + r.val) % 64, by omega⟩ : Fin 64) = r := Fin.ext (by show (64 * h.val + r.val) % 64 = r.val; omega)
  have r8 : rowOf (R := 512) (iblk m c 8 t) a ⟨64 * h.val + r.val, by omega⟩ = cos64 (rowOf (R := 2048) (m ((c.tc : Thread nD τ).loc main_arg8)) (ts T)) r :=
    (read8 (V m c main_v27) t a _ (ts T) hs).trans ((congrFun (V8 m c) _).trans ((hTile_apply _ _ _).trans ((hCos_apply _ _ _).trans (congrArg _ hm))))
  have r9 : rowOf (R := 512) (iblk m c 9 t) a ⟨64 * h.val + r.val, by omega⟩ = sin64 (rowOf (R := 2048) (m ((c.tc : Thread nD τ).loc main_arg9)) (ts T)) r :=
    (read9 (V m c main_v30) t a _ (ts T) hs).trans ((congrFun (V9 m c) _).trans ((hTile_apply _ _ _).trans ((hSin_apply _ _ _).trans (congrArg _ hm))))
  refine (congrArg₂ (· + ·) (congrArg₂ (· * ·) (d_ro m c t a T hT h r) r8) (congrArg₂ (· * ·) (d_sw m c t a T hT h r) r9)).trans ?_
  exact (rope_eq _ _ _ _).trans (rRope_apply _ _ _ _ _ _ _).symm

theorem qS_eq : qS = (((√192 * Real.log 2)⁻¹ : ℝ) : EReal) := by
  unfold qS
  rw [IdealRules.named_const.ideal_named_scalar κ "qscale" (φ := .f32) 0x3DD53B95#32 _ rfl]

theorem tok_ex (t : Fin cfg0.N) (a : Fin 512) : ∃ T : Fin 32768, T.val = 512 * t.val + a.val := by
  have ht : t.val < 64 := t.isLt
  exact ⟨⟨512 * t.val + a.val, by omega⟩, rfl⟩

/-- The queries' block, with the call's own factor. -/
theorem q_val (t : Fin cfg0.N) (a : Fin 512) (j : Fin 2048) : (dats m 0 c).after 13 t (ValueIdx.ix2 a j)
    = qVal (dB m c t a) (rotR (dB m c t a) (rowOf (R := 512) (iblk m c 8 t) a) (rowOf (R := 512) (iblk m c 9 t) a)) (((√192 * Real.log 2)⁻¹ : ℝ) : EReal) j := by
  rw [← qS_eq]
  exact out_q m c t a j

/-- The call's result arrays. -/
theorem result_h : (dats m 0 c).arrAt 12 cfg0.N = rTok (kH m c) := by
  refine (dats m 0 c).arrAt_eq_of_covers 12 _ (by decide +kernel) fun t hf y => ?_
  blk_simp
  obtain ⟨a, j, rfl⟩ : ∃ (a : Fin 512) (j : Fin 1024), y = ValueIdx.ix2 a j := ⟨y 0, y 1, eta2 y⟩
  obtain ⟨T, hT⟩ := tok_ex t a
  have ey : (win0_12.blk t).view.emb (ValueIdx.ix2 a j) = ValueIdx.ix2 T j := by
    blk_ext [idx12 t]
    show t.val * 512 + a.val = T.val
    omega
  rw [ey, rTok_apply]
  exact congrFun (h_row m c t a T hT) j
theorem result_q : (dats m 0 c).arrAt 13 cfg0.N = rQ (kU m c) (rPack (rPair (kRo m c))) := by
  refine (dats m 0 c).arrAt_eq_of_covers 13 _ (by decide +kernel) fun t hf y => ?_
  blk_simp
  obtain ⟨a, j, rfl⟩ : ∃ (a : Fin 512) (j : Fin 2048), y = ValueIdx.ix2 a j := ⟨y 0, y 1, eta2 y⟩
  obtain ⟨T, hT⟩ := tok_ex t a
  have ey : (win0_13.blk t).view.emb (ValueIdx.ix2 a j) = ValueIdx.ix2 T j := by
    blk_ext [idx13 t]
    show t.val * 512 + a.val = T.val
    omega
  rw [ey, rQ_apply]
  refine (q_val m c t a j).trans ?_
  generalize (((√192 * Real.log 2)⁻¹ : ℝ) : EReal) = q
  have hj := j.isLt
  unfold qVal
  by_cases h1 : j.val % 256 < 128
  · rw [if_pos h1, if_pos h1]
    exact congrArg (· * _) (d_no m c t a T hT ⟨j.val / 256, by omega⟩ ⟨j.val % 128, by omega⟩)
  · rw [if_neg h1, if_neg h1]
    refine congrArg (· * _) ?_
    by_cases h2 : j.val % 128 / 64 = j.val / 256 % 2
    · rw [if_pos h2, if_pos h2, ← rot_eq m c t a T hT ⟨j.val / 256, by omega⟩ ⟨j.val % 64, by omega⟩]
      refine congrArg _ (Fin.ext ?_)
      show 128 * (j.val / 512) + j.val % 128 = 64 * (j.val / 256) + j.val % 64
      omega
    · rw [if_neg h2, if_neg h2]
theorem result_win : (dats m 0 c).arrAt 14 cfg0.N = rWin (m ((c.tc : Thread nD τ).loc main_arg10)) := by
  refine (dats m 0 c).arrAt_eq_of_covers 14 _ (by decide +kernel) fun t hf y => ?_
  blk_simp
  rw [out_win]
  obtain ⟨a, j, rfl⟩ : ∃ (a : Fin 16) (j : Fin 5632), y = ValueIdx.ix2 a j := ⟨y 0, y 1, eta2 y⟩
  have ht : t.val < 64 := t.isLt
  obtain ⟨k, hk⟩ : ∃ k : Fin 1024, k.val = 16 * t.val + a.val := ⟨⟨16 * t.val + a.val, by omega⟩, rfl⟩
  have ey : (win0_14.blk t).view.emb (ValueIdx.ix2 a j) = ValueIdx.ix2 k j := by
    blk_ext [idx14 t]
    show t.val * 16 + a.val = k.val
    omega
  rw [ey, rWin_apply]
  refine (pay69_apply _ a j).trans ((read10 (V m c main_arg10) t a j k hk).trans ?_)
  rw [V_main_arg10]
theorem result_wout : (dats m 0 c).arrAt 15 cfg0.N = rWout (m ((c.tc : Thread nD τ).loc main_arg11)) := by
  refine (dats m 0 c).arrAt_eq_of_covers 15 _ (by decide +kernel) fun t hf y => ?_
  blk_simp
  rw [out_wout]
  obtain ⟨a, j, rfl⟩ : ∃ (a : Fin 176) (j : Fin 1024), y = ValueIdx.ix2 a j := ⟨y 0, y 1, eta2 y⟩
  obtain ⟨k, hk⟩ : ∃ k : Fin 2816, k.val = 176 * min t.val 15 + a.val := ⟨⟨176 * min t.val 15 + a.val, by omega⟩, rfl⟩
  have ey : (win0_15.blk t).view.emb (ValueIdx.ix2 a j) = ValueIdx.ix2 k j := by
    blk_ext [idx15 t]
    show min t.val 15 * 176 + a.val = k.val
    omega
  rw [ey, rWout_apply]
  refine (pay70_apply _ a j).trans (congrArg (· * _) ((read11 (V m c main_arg11) t a j k hk).trans ?_))
  rw [V_main_arg11]
end

set_option maxHeartbeats 1600000 in
/-- The call computes its reference. -/
theorem algebraic5 : Cert.algebraic_Kernel5Ideal_Reference5Ideal := by
  intro m ρ m' ρ' _ hagree
  refine ⟨fun c => (Kernel5Ideal.Gen.dats m 0 c).arrAt 12 Kernel5Ideal.cfg0.N, fun c => (Kernel5Ideal.Gen.dats m 0 c).arrAt 13 Kernel5Ideal.cfg0.N,
    fun c => (Kernel5Ideal.Gen.dats m 0 c).arrAt 14 Kernel5Ideal.cfg0.N, fun c => (Kernel5Ideal.Gen.dats m 0 c).arrAt 15 Kernel5Ideal.cfg0.N,
    Kernel5Ideal.Value.run_blocks (F := Ideal) m ρ, ?_⟩
  refine (θ_run Reference5Ideal.defs _ _).mono (fun _ h c => ?_) (Reference5Ideal.Value.run (F := Ideal) m' ρ')
  obtain ⟨g0, g1, g2, g3, g4, g5, g6, g7, g8, g9, g10, g11⟩ := hagree c
  obtain ⟨h0, h1, h2, h3, h4⟩ := h c
  have eH : rH0 m' c = kH m c := by
    unfold rH0 kH
    rw [g0, g1, g2, g3]
  have eU : rU0 m' c = kU m c := by
    unfold rU0 kU rC0 kC
    rw [eH, g4, g5, g6, g7]
  have eR : rR0 m' c = kRo m c := by
    unfold rR0 kRo
    rw [eU, g8, g9]
  refine ⟨h0.trans ?_, h1.trans ?_, h2.trans ?_, h3.trans ?_, h4⟩
  · refine Eq.trans ?_ (result_h m c).symm
    rw [← eH, res_h]
    rfl
  · refine Eq.trans ?_ (result_q m c).symm
    rw [← eU, ← eR, res_u, res_r]
    rfl
  · refine Eq.trans ?_ (result_win m c).symm
    rw [← g10]
    rfl
  · refine Eq.trans ?_ (result_wout m c).symm
    rw [← g11]
    rfl

theorem frame_r5 : Cert.quiescent_Reference5Ideal := fun m ρ _ =>
  (θ_run Reference5Ideal.defs _ _).mono (fun r h => ⟨fun c => (h c).2.2.2.2, sem_eq_zero_of_no_sems (by decide) r.2⟩) (Reference5Ideal.Value.run (F := Ideal) m ρ)

theorem frame_i5 : Cert.quiescent_Kernel5Ideal := fun m ρ _ => Kernel5Ideal.Gen.frame m ρ

theorem frame_k5 : Cert.quiescent_Kernel5 := fun m ρ _ => Kernel5.Gen.frame m ρ

theorem preserves5 : Cert.preserves_Kernel5_Kernel5Ideal := IdealRules.named_const.statement _ _ _ _ _ rfl

end Cert.Trunk.Q

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Mla.Claims
public import proofs.«01_k».proof.Proof.Trunk.FinalResult
public import proofs.«01_k».proof.Proof.Trunk.QkvResult
public import proofs.«01_k».proof.Proof.Trunk.KvResult
public import proofs.«01_k».proof.Proof.Trunk.QResult
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_scores.Gen.facts,
    Cert.Mla.frame_k, Cert.Mla.frame_i, fun m ρ _ => Cert.Mla.frame_i m ρ trivial, Cert.Mla.frame_r, Cert.Mla.frame_rp,
    Cert.Trunk.frame_k2, Cert.Trunk.frame_i2, Cert.Trunk.frame_r2,
    Cert.Trunk.Qkv.frame_k3, Cert.Trunk.Qkv.frame_i3, Cert.Trunk.Qkv.frame_r3,
    Cert.Trunk.Kv.frame_k4, Cert.Trunk.Kv.frame_i4, Cert.Trunk.Kv.frame_r4,
    Cert.Trunk.Q.frame_k5, Cert.Trunk.Q.frame_i5, Cert.Trunk.Q.frame_r5,
    Cert.Mla.preserves, Cert.Mla.algebraic, Cert.Trunk.preserves2, Cert.Trunk.algebraic2, Cert.Trunk.Qkv.preserves3, Cert.Trunk.Qkv.algebraic3,
    Cert.Trunk.Kv.preserves4, Cert.Trunk.Kv.algebraic4,
    Cert.Trunk.Q.preserves5, Cert.Trunk.Q.algebraic5⟩

end Cert.Proof

end
